-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "three_gelu_a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)) (v6 : (c : Dev Cert.Kernel4Ideal.nD) → Buf (Elt Ideal) ((c.tc : Thread Cert.Kernel4Ideal.nD Cert.Kernel4Ideal.τ).loc Cert.Kernel4Ideal.main_v6)) (v7 : (c : Dev Cert.Kernel4Ideal.nD) → Buf (Elt Ideal) ((c.tc : Thread Cert.Kernel4Ideal.nD Cert.Kernel4Ideal.τ).loc Cert.Kernel4Ideal.main_v7)) (v8 : (c : Dev Cert.Kernel4Ideal.nD) → Buf (Elt Ideal) ((c.tc : Thread Cert.Kernel4Ideal.nD Cert.Kernel4Ideal.τ).loc Cert.Kernel4Ideal.main_v8)) (v9 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_v7) = v7 c
          ∧ r.2.mem ((c.tc : Thread Cert.Kernel4Ideal.nD Cert.Kernel4Ideal.τ).loc Cert.Kernel4Ideal.main_v8) = v8 c
          ∧ r.2.mem ((c.tc : Thread Cert.Kernel4Ideal.nD Cert.Kernel4Ideal.τ).loc Cert.Kernel4Ideal.main_v9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v22) = v5 c
          ∧ r.2.mem ((c.tc : Thread Cert.Reference4Ideal.nD Cert.Reference4Ideal.τ).loc Cert.Reference4Ideal.main_v26) = v6 c
          ∧ r.2.mem ((c.tc : Thread Cert.Reference4Ideal.nD Cert.Reference4Ideal.τ).loc Cert.Reference4Ideal.main_v30) = v7 c
          ∧ r.2.mem ((c.tc : Thread Cert.Reference4Ideal.nD Cert.Reference4Ideal.τ).loc Cert.Reference4Ideal.main_v34) = v8 c
          ∧ r.2.mem ((c.tc : Thread Cert.Reference4Ideal.nD Cert.Reference4Ideal.τ).loc Cert.Reference4Ideal.main_v38) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v42) = v0 c
          ∧ r.2.mem ((c.tc : Thread Cert.Reference14Ideal.nD Cert.Reference14Ideal.τ).loc Cert.Reference14Ideal.main_v43) = v1 c
          ∧ r.2.mem ((c.tc : Thread Cert.Reference14Ideal.nD Cert.Reference14Ideal.τ).loc Cert.Reference14Ideal.main_v44) = v2 c
          ∧ r.2.mem ((c.tc : Thread Cert.Reference14Ideal.nD Cert.Reference14Ideal.τ).loc Cert.Reference14Ideal.main_v40) = v3 c
          ∧ r.2.mem ((c.tc : Thread Cert.Reference14Ideal.nD Cert.Reference14Ideal.τ).loc Cert.Reference14Ideal.main_v35) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x2048 : Shape := ⟨2, ![8192, 2048]⟩
abbrev S8192x1024 : Shape := ⟨2, ![8192, 1024]⟩
abbrev S8x128 : Shape := ⟨2, ![8, 128]⟩
abbrev S8x128x128 : Shape := ⟨3, ![8, 128, 128]⟩
abbrev S8x128x1 : Shape := ⟨3, ![8, 128, 1]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S8x128 : S_.BroadcastsInDim S8x128 (![] : Fin 0 → Fin S8x128.rank)
  bcast_S_S8x128x128 : S_.BroadcastsInDim S8x128x128 (![] : Fin 0 → Fin S8x128x128.rank)
  bcast_S_S8x128x1 : S_.BroadcastsInDim S8x128x1 (![] : Fin 0 → Fin S8x128x1.rank)

variable [Facts]

def fn_part1 {F : FTy → Type} [FloatOps F] (main_v3 : IVec S8192x2048 1) (main_v7 : IVec S8192x1024 1) (main_v10 : IVec S8x128 1) (main_v13 : IVec S8x128 1) (main_v16 : IVec S8x128x128 1) (main_v17 : FVec F S8x128x1 .f32) (main_cst_4 : FVec F S_ .f32) : IVec S8192x2048 1 × IVec S8192x1024 1 × IVec S8x128 1 × IVec S8x128 1 × IVec S8x128x128 1 × IVec S8x128x1 1 :=
  let main_v18 : FVec F S8x128x1 .f32 := broadcastInDim S8x128x1 ![] bcast_S_S8x128x1 main_cst_4
  let main_v19 : IVec S8x128x1 1 := cmpf .olt main_v17 main_v18
  (main_v3, main_v7, main_v10, main_v13, main_v16, main_v19)

def fn {F : FTy → Type} [FloatOps F] (main_arg0 : FVec F S8192x2048 .bf16) (main_arg1 : FVec F S8192x1024 .bf16) (main_arg2 : FVec F S8x128 .f32) (main_arg3 : FVec F S8x128 .f32) (main_arg4 : FVec F S8x128x128 .f32) (main_arg5 : FVec F S8x128x1 .f32) : IVec S8192x2048 1 × IVec S8192x1024 1 × IVec S8x128 1 × IVec S8x128 1 × IVec S8x128x128 1 × IVec S8x128x1 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8x128 .f32 := Host.absf main_arg2
  let main_cst_1 : FVec F S_ .f32 := constant S_ .f32 0x7F800000#32
  let main_v9 : FVec F S8x128 .f32 := broadcastInDim S8x128 ![] bcast_S_S8x128 main_cst_1
  let main_v10 : IVec S8x128 1 := cmpf .olt main_v8 main_v9
  let main_v11 : FVec F S8x128 .f32 := Host.absf main_arg3
  let main_cst_2 : FVec F S_ .f32 := constant S_ .f32 0x7F800000#32
  let main_v12 : FVec F S8x128 .f32 := broadcastInDim S8x128 ![] bcast_S_S8x128 main_cst_2
  let main_v13 : IVec S8x128 1 := cmpf .olt main_v11 main_v12
  let main_v14 : FVec F S8x128x128 .f32 := Host.absf main_arg4
  let main_cst_3 : FVec F S_ .f32 := constant S_ .f32 0x7F800000#32
  let main_v15 : FVec F S8x128x128 .f32 := broadcastInDim S8x128x128 ![] bcast_S_S8x128x128 main_cst_3
  let main_v16 : IVec S8x128x128 1 := cmpf .olt main_v14 main_v15
  let main_v17 : FVec F S8x128x1 .f32 := Host.absf main_arg5
  let main_cst_4 : FVec F S_ .f32 := constant S_ .f32 0x7F800000#32
  fn_part1 (F := F) main_v3 main_v7 main_v10 main_v13 main_v16 main_v17 main_cst_4
-- ==== Kernel.lean ====
abbrev S8192x2048 : Shape := ⟨2, ![8192, 2048]⟩
abbrev S8192x1024 : Shape := ⟨2, ![8192, 1024]⟩
abbrev S8x128 : Shape := ⟨2, ![8, 128]⟩
abbrev S8x128x128 : Shape := ⟨3, ![8, 128, 128]⟩
abbrev S8x128x1 : Shape := ⟨3, ![8, 128, 1]⟩
abbrev S1024x2048 : Shape := ⟨2, ![1024, 2048]⟩
abbrev S1024x1024 : Shape := ⟨2, ![1024, 1024]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩
abbrev S1x128x1 : Shape := ⟨3, ![1, 128, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x128, .f32⟩
  | .hbm, ⟨3, _⟩ => ⟨S8x128, .f32⟩
  | .hbm, ⟨4, _⟩ => ⟨S8x128x128, .f32⟩
  | .hbm, ⟨5, _⟩ => ⟨S8x128x1, .f32⟩
  | .hbm, ⟨6, _⟩ => ⟨S8192x2048, .bf16⟩
  | .hbm, ⟨7, _⟩ => ⟨S8x128, .f32⟩
  | .hbm, ⟨8, _⟩ => ⟨S8x128, .f32⟩
  | .hbm, ⟨9, _⟩ => ⟨S8x128x128, .f32⟩
  | .hbm, ⟨10, _⟩ => ⟨S8x128x1, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S8x128, .f32⟩
  | .local _ .vmem, ⟨6, _⟩ => ⟨S8x128x128, .f32⟩
  | .local _ .vmem, ⟨7, _⟩ => ⟨S8x128x1, .f32⟩
  | .local _ .vmem, ⟨8, _⟩ => ⟨S1024x2048, .bf16⟩
  | .local _ .vmem, ⟨9, _⟩ => ⟨S1024x2048, .bf16⟩
  | .local _ .vmem, ⟨10, _⟩ => ⟨S8x128, .f32⟩
  | .local _ .vmem, ⟨11, _⟩ => ⟨S8x128, .f32⟩
  | .local _ .vmem, ⟨12, _⟩ => ⟨S8x128x128, .f32⟩
  | .local _ .vmem, ⟨13, _⟩ => ⟨S8x128x1, .f32⟩
  | .local _ .vmem, ⟨14, _⟩ => ⟨S8x128x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_60 : BitVec 32 := 0#32
  let c8_i32 : BitVec 32 := 8#32
  let v118 : BitVec 32 := Scalar.addi c0_i32_60 c8_i32
  let c1_i32_61 : BitVec 32 := 1#32
  ⟨c0_i32_60, v118, c1_i32_61⟩
def k0_mult1 (k0_t1 : Fin k0_t1_loop.trips) : BitVec 32 :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  v119
def k0_off1 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v121 : Index := Scalar.indexCast v120
  let c0_63 : Index := 0#32
  ![v121.toNat, 0]
def k0_off2 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v152 : Index := Scalar.indexCast v120
  let c1024 : Index := 1024#32
  ![v152.toNat, 1024]
def k0_off3 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v213 : Index := Scalar.indexCast v120
  let c0_100 : Index := 0#32
  ![v213.toNat, 0]
def k0_off4 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v280 : Index := Scalar.indexCast v120
  let c128 : Index := 128#32
  ![v280.toNat, 128]
def k0_off5 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v311 : Index := Scalar.indexCast v120
  let c1152 : Index := 1152#32
  ![v311.toNat, 1152]
def k0_off6 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v372 : Index := Scalar.indexCast v120
  let c128_172 : Index := 128#32
  ![v372.toNat, 128]
def k0_off7 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v439 : Index := Scalar.indexCast v120
  let c256 : Index := 256#32
  ![v439.toNat, 256]
def k0_off8 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v470 : Index := Scalar.indexCast v120
  let c1280 : Index := 1280#32
  ![v470.toNat, 1280]
def k0_off9 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v531 : Index := Scalar.indexCast v120
  let c256_244 : Index := 256#32
  ![v531.toNat, 256]
def k0_off10 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v598 : Index := Scalar.indexCast v120
  let c384 : Index := 384#32
  ![v598.toNat, 384]
def k0_off11 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v629 : Index := Scalar.indexCast v120
  let c1408 : Index := 1408#32
  ![v629.toNat, 1408]
def k0_off12 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v690 : Index := Scalar.indexCast v120
  let c384_316 : Index := 384#32
  ![v690.toNat, 384]
def k0_off13 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v757 : Index := Scalar.indexCast v120
  let c512 : Index := 512#32
  ![v757.toNat, 512]
def k0_off14 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v788 : Index := Scalar.indexCast v120
  let c1536 : Index := 1536#32
  ![v788.toNat, 1536]
def k0_off15 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v849 : Index := Scalar.indexCast v120
  let c512_388 : Index := 512#32
  ![v849.toNat, 512]
def k0_off16 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v916 : Index := Scalar.indexCast v120
  let c640 : Index := 640#32
  ![v916.toNat, 640]
def k0_off17 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v947 : Index := Scalar.indexCast v120
  let c1664 : Index := 1664#32
  ![v947.toNat, 1664]
def k0_off18 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1008 : Index := Scalar.indexCast v120
  let c640_460 : Index := 640#32
  ![v1008.toNat, 640]
def k0_off19 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1075 : Index := Scalar.indexCast v120
  let c768 : Index := 768#32
  ![v1075.toNat, 768]
def k0_off20 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1106 : Index := Scalar.indexCast v120
  let c1792 : Index := 1792#32
  ![v1106.toNat, 1792]
def k0_off21 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1167 : Index := Scalar.indexCast v120
  let c768_532 : Index := 768#32
  ![v1167.toNat, 768]
def k0_off22 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1234 : Index := Scalar.indexCast v120
  let c896 : Index := 896#32
  ![v1234.toNat, 896]
def k0_off23 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1265 : Index := Scalar.indexCast v120
  let c1920 : Index := 1920#32
  ![v1265.toNat, 1920]
def k0_off24 (k0_t1 : Fin k0_t1_loop.trips) : Fin 2 → Nat :=
  let c0_i32_60 : BitVec 32 := 0#32
  let c1_i32_61 : BitVec 32 := 1#32
  let arg13 : BitVec 32 := Scf.iv c0_i32_60 c1_i32_61 k0_t1
  let c128_i32 : BitVec 32 := 128#32
  let v119 : BitVec 32 := Scalar.muli arg13 c128_i32
  let v120 : BitVec 32 := v119
  let v1326 : Index := Scalar.indexCast v120
  let c896_604 : Index := 896#32
  ![v1326.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_a" => some ((8943 / 200000 : ℝ) : EReal)
  | "three_gelu_a" => some ((26829 / 200000 : ℝ) : EReal)
  | _ => none
-- ==== ReferenceIdeal.lean ====
abbrev S8192x2048 : Shape := ⟨2, ![8192, 2048]⟩
abbrev S8192x1024 : Shape := ⟨2, ![8192, 1024]⟩
abbrev S8x128 : Shape := ⟨2, ![8, 128]⟩
abbrev S8x128x128 : Shape := ⟨3, ![8, 128, 128]⟩
abbrev S8x128x1 : Shape := ⟨3, ![8, 128, 1]⟩
abbrev S1x8192x2048 : Shape := ⟨3, ![1, 8192, 2048]⟩
abbrev S_ : Shape := ⟨0, ![]⟩
abbrev S1x8192x1024 : Shape := ⟨3, ![1, 8192, 1024]⟩
abbrev S1x64x128x8x128 : Shape := ⟨5, ![1, 64, 128, 8, 128]⟩
abbrev S1x64x128x8 : Shape := ⟨4, ![1, 64, 128, 8]⟩
abbrev S1x64x128x8x1 : Shape := ⟨5, ![1, 64, 128, 8, 1]⟩
abbrev S1x1x1x8x128 : Shape := ⟨5, ![1, 1, 1, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x8x128 : Shape := ⟨3, ![1, 8, 128]⟩
abbrev S64x128x8 : Shape := ⟨3, ![64, 128, 8]⟩

abbrev nBuf : Space → Nat
  | .hbm => 201
  | .vmem => 0
  | .smem => 0
  | _ => 0

abbrev hbmTy0_0 (i : Nat) : BufTy := match i % 128 with
  | 0 => ⟨S8192x2048, .bf16⟩
  | 1 => ⟨S8192x1024, .bf16⟩
  | 2 => ⟨S8x128, .f32⟩
  | 3 => ⟨S8x128, .f32⟩
  | 4 => ⟨S8x128x128, .f32⟩
  | 5 => ⟨S8x128x1, .f32⟩
  | 6 => ⟨S8x128, .f32⟩
  | 7 => ⟨S8192x2048, .f32⟩
  | 8 => ⟨S1x8192x2048, .f32⟩
  | 9 => ⟨S_, .f32⟩
  | 10 => ⟨S_, .f32⟩
  | 11 => ⟨S_, .f32⟩
  | 12 => ⟨S1x8192x2048, .f32⟩
  | 13 => ⟨S1x8192x2048, .f32⟩
  | 14 => ⟨S1x8192x2048, .f32⟩
  | 15 => ⟨S_, .f32⟩
  | 16 => ⟨S1x8192x2048, .f32⟩
  | 17 => ⟨S1x8192x2048, .f32⟩
  | 18 => ⟨S1x8192x2048, .f32⟩
  | 19 => ⟨S1x8192x2048, .f32⟩
  | 20 => ⟨S1x8192x2048, .f32⟩
  | 21 => ⟨S_, .f32⟩
  | 22 => ⟨S1x8192x2048, .f32⟩
  | 23 => ⟨S1x8192x2048, .f32⟩
  | 24 => ⟨S1x8192x2048, .f32⟩
  | 25 => ⟨S_, .f32⟩
  | 26 => ⟨S1x8192x2048, .f32⟩
  | 27 => ⟨S1x8192x2048, .f32⟩
  | 28 => ⟨S_, .f32⟩
  | 29 => ⟨S1x8192x2048, .f32⟩
  | 30 => ⟨S1x8192x2048, .f32⟩
  | 31 => ⟨S1x8192x2048, .f32⟩
  | 32 => ⟨S_, .f32⟩
  | 33 => ⟨S1x8192x2048, .f32⟩
  | 34 => ⟨S1x8192x2048, .f32⟩
  | 35 => ⟨S_, .f32⟩
  | 36 => ⟨S1x8192x2048, .f32⟩
  | 37 => ⟨S1x8192x2048, .f32⟩
  | 38 => ⟨S1x8192x2048, .f32⟩
  | 39 => ⟨S1x8192x1024, .f32⟩
  | 40 => ⟨S1x8192x1024, .f32⟩
  | 41 => ⟨S1x64x128x8x128, .f32⟩
  | 42 => ⟨S_, .f32⟩
  | 43 => ⟨S1x64x128x8, .f32⟩
  | 44 => ⟨S1x64x128x8x1, .f32⟩
  | 45 => ⟨S_, .f32⟩
  | 46 => ⟨S1x64x128x8x1, .f32⟩
  | 47 => ⟨S1x64x128x8x1, .f32⟩
  | 48 => ⟨S1x64x128x8x128, .f32⟩
  | 49 => ⟨S1x64x128x8x128, .f32⟩
  | 50 => ⟨S1x64x128x8x128, .f32⟩
  | 51 => ⟨S_, .f32⟩
  | 52 => ⟨S1x64x128x8x128, .f32⟩
  | 53 => ⟨S1x64x128x8x128, .f32⟩
  | 54 => ⟨S_, .f32⟩
  | 55 => ⟨S1x64x128x8, .f32⟩
  | 56 => ⟨S1x64x128x8x1, .f32⟩
  | 57 => ⟨S_, .f32⟩
  | 58 => ⟨S1x64x128x8x1, .f32⟩
  | 59 => ⟨S1x64x128x8x1, .f32⟩
  | 60 => ⟨S1x64x128x8x128, .f32⟩
  | 61 => ⟨S1x64x128x8x128, .f32⟩
  | 62 => ⟨S_, .f32⟩
  | 63 => ⟨S1x64x128x8x1, .f32⟩
  | 64 => ⟨S1x64x128x8x1, .f32⟩
  | 65 => ⟨S1x64x128x8x1, .f32⟩
  | 66 => ⟨S1x64x128x8x1, .f32⟩
  | 67 => ⟨S_, .f32⟩
  | 68 => ⟨S1x64x128x8x1, .f32⟩
  | 69 => ⟨S1x64x128x8x1, .f32⟩
  | 70 => ⟨S1x64x128x8x128, .f32⟩
  | 71 => ⟨S1x64x128x8x128, .f32⟩
  | 72 => ⟨S1x1x1x8x128, .f32⟩
  | 73 => ⟨S1x64x128x8x128, .f32⟩
  | 74 => ⟨S1x64x128x8x128, .f32⟩
  | 75 => ⟨S1x1x1x8x128, .f32⟩
  | 76 => ⟨S1x64x128x8x128, .f32⟩
  | 77 => ⟨S1x64x128x8x128, .f32⟩
  | 78 => ⟨S128, .i32⟩
  | 79 => ⟨S_, .i32⟩
  | 80 => ⟨S_, .i32⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S128, .i32⟩
  | 88 => ⟨S128, .i32⟩
  | 89 => ⟨S_, .i32⟩
  | 90 => ⟨S128, .i32⟩
  | 91 => ⟨S128, .i1⟩
  | 92 => ⟨S128, .i1⟩
  | 93 => ⟨S_, .i32⟩
  | 94 => ⟨S128, .i32⟩
  | 95 => ⟨S128, .i32⟩
  | 96 => ⟨S128, .i32⟩
  | 97 => ⟨S1x128, .i32⟩
  | 98 => ⟨S128x1, .i32⟩
  | 99 => ⟨S128x128, .i32⟩
  | 100 => ⟨S128x128, .i32⟩
  | 101 => ⟨S128x128, .i1⟩
  | 102 => ⟨S1x128x128, .i1⟩
  | 103 => ⟨S_, .i32⟩
  | 104 => ⟨S_, .f32⟩
  | 105 => ⟨S8x128x128, .i1⟩
  | 106 => ⟨S8x128x128, .f32⟩
  | 107 => ⟨S8x128x128, .f32⟩
  | 108 => ⟨S_, .f32⟩
  | 109 => ⟨S8x128x128, .f32⟩
  | 110 => ⟨S8x1x64x128x128, .f32⟩
  | 111 => ⟨S1x64x128x8x128, .f32⟩
  | 112 => ⟨S128x8, .f32⟩
  | 113 => ⟨S1x1x128x8x1, .f32⟩
  | 114 => ⟨S1x64x128x8x128, .f32⟩
  | 115 => ⟨S1x64x128x8x128, .f32⟩
  | 116 => ⟨S1x8192x1024, .f32⟩
  | 117 => ⟨S1x8192x1024, .f32⟩
  | 118 => ⟨S8192x1024, .f32⟩
  | 119 => ⟨S1x8192x1024, .f32⟩
  | 120 => ⟨S1x8192x1024, .f32⟩
  | 121 => ⟨S1x8192x1024, .f32⟩
  | 122 => ⟨S1x64x128x8x128, .f32⟩
  | 123 => ⟨S_, .f32⟩
  | 124 => ⟨S1x128x8, .f32⟩
  | 125 => ⟨S1x1x128x8x1, .f32⟩
  | 126 => ⟨S_, .f32⟩
  | 127 => ⟨S128x8, .f32⟩
  | _ => ⟨S8192x2048, .bf16⟩

abbrev hbmTy0_1 (i : Nat) : BufTy := match i % 128 with
  | 0 => ⟨S8x128, .f32⟩
  | 1 => ⟨S8x1x64x128x128, .f32⟩
  | 2 => ⟨S8x128x128, .f32⟩
  | 3 => ⟨S8x1x64x128x128, .f32⟩
  | 4 => ⟨S1x64x128x8x128, .f32⟩
  | 5 => ⟨S_, .f32⟩
  | 6 => ⟨S8x128x128, .f32⟩
  | 7 => ⟨S8x128x128, .f32⟩
  | 8 => ⟨S_, .f32⟩
  | 9 => ⟨S1x8x128, .f32⟩
  | 10 => ⟨S1x1x1x8x128, .f32⟩
  | 11 => ⟨S_, .f32⟩
  | 12 => ⟨S8x128, .f32⟩
  | 13 => ⟨S1x64x128x8x128, .f32⟩
  | 14 => ⟨S_, .f32⟩
  | 15 => ⟨S1x8x128, .f32⟩
  | 16 => ⟨S1x1x1x8x128, .f32⟩
  | 17 => ⟨S1x64x128x8x128, .f32⟩
  | 18 => ⟨S1x64x128x8x128, .f32⟩
  | 19 => ⟨S_, .f32⟩
  | 20 => ⟨S8x128, .f32⟩
  | 21 => ⟨S1x64x128x8x128, .f32⟩
  | 22 => ⟨S_, .f32⟩
  | 23 => ⟨S1x64x128x8, .f32⟩
  | 24 => ⟨S1x64x128x8x1, .f32⟩
  | 25 => ⟨S1x64x128x8x128, .f32⟩
  | 26 => ⟨S1x64x128x8x128, .f32⟩
  | 27 => ⟨S1x64x128x8x1, .f32⟩
  | 28 => ⟨S1x64x128x8x128, .f32⟩
  | 29 => ⟨S_, .f32⟩
  | 30 => ⟨S1x64x128x8, .f32⟩
  | 31 => ⟨S1x64x128x8x1, .f32⟩
  | 32 => ⟨S_, .f32⟩
  | 33 => ⟨S1x64x128x8x1, .f32⟩
  | 34 => ⟨S1x64x128x8x1, .f32⟩
  | 35 => ⟨S_, .f32⟩
  | 36 => ⟨S64x128x8, .f32⟩
  | 37 => ⟨S1x64x128x8, .f32⟩
  | 38 => ⟨S1x64x128x8x128, .f32⟩
  | 39 => ⟨S1x64x128x8x128, .f32⟩
  | 40 => ⟨S1x64x128x8x128, .f32⟩
  | 41 => ⟨S_, .f32⟩
  | 42 => ⟨S1x64x128x8, .f32⟩
  | 43 => ⟨S1x64x128x8x1, .f32⟩
  | 44 => ⟨S1x64x128x8x128, .f32⟩
  | 45 => ⟨S1x64x128x8x1, .f32⟩
  | 46 => ⟨S_, .f32⟩
  | 47 => ⟨S1x64x128x8x1, .f32⟩
  | 48 => ⟨S1x64x128x8x1, .f32⟩
  | 49 => ⟨S_, .f32⟩
  | 50 => ⟨S64x128x8, .f32⟩
  | 51 => ⟨S1x64x128x8, .f32⟩
  | 52 => ⟨S1x64x128x8x128, .f32⟩
  | 53 => ⟨S1x64x128x8x128, .f32⟩
  | 54 => ⟨S1x8192x1024, .f32⟩
  | 55 => ⟨S1x8192x2048, .f32⟩
  | 56 => ⟨S1x8192x2048, .f32⟩
  | 57 => ⟨S1x8192x2048, .f32⟩
  | 58 => ⟨S_, .f32⟩
  | 59 => ⟨S1x8192x2048, .f32⟩
  | 60 => ⟨S1x8192x2048, .f32⟩
  | 61 => ⟨S1x8192x2048, .f32⟩
  | 62 => ⟨S_, .f32⟩
  | 63 => ⟨S1x8192x2048, .f32⟩
  | 64 => ⟨S1x8192x2048, .f32⟩
  | 65 => ⟨S1x8192x2048, .f32⟩
  | 66 => ⟨S1x8192x2048, .f32⟩
  | 67 => ⟨S1x8192x2048, .f32⟩
  | 68 => ⟨S1x8192x2048, .f32⟩
  | 69 => ⟨S1x8192x2048, .f32⟩
  | 70 => ⟨S8192x2048, .f32⟩
  | 71 => ⟨S8192x2048, .bf16⟩
  | 72 => ⟨S8x128x1, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_c : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_c_0 : Ref sig .tc := ⟨.hbm, 93, rfl⟩
abbrev main_call0_v12 : Ref sig .tc := ⟨.hbm, 94, rfl⟩
abbrev main_call0_v13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_call1_v0 : Ref sig .tc := ⟨.hbm, 104, rfl⟩
abbrev main_v65_1 : Ref sig .tc := ⟨.hbm, 105, rfl⟩
abbrev main_call1_v2 : Ref sig .tc := ⟨.hbm, 106, rfl⟩
abbrev main_v65_0 : Ref sig .tc := ⟨.hbm, 107, rfl⟩
abbrev main_call1_cst : Ref sig .tc := ⟨.hbm, 108, rfl⟩
abbrev main_v65_2 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_15 : Ref sig .tc := ⟨.hbm, 123, rfl⟩
abbrev main_v79 : Ref sig .tc := ⟨.hbm, 124, rfl⟩
abbrev main_v80 : Ref sig .tc := ⟨.hbm, 125, rfl⟩
abbrev main_cst_16 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call2_cst : Ref sig .tc := ⟨.hbm, 133, rfl⟩
abbrev main_call2_v0 : Ref sig .tc := ⟨.hbm, 134, rfl⟩
abbrev main_v87 : Ref sig .tc := ⟨.hbm, 135, rfl⟩
abbrev main_cst_17 : Ref sig .tc := ⟨.hbm, 136, rfl⟩
abbrev main_v88 : Ref sig .tc := ⟨.hbm, 137, rfl⟩
abbrev main_v89 : Ref sig .tc := ⟨.hbm, 138, rfl⟩
abbrev main_cst_18 : Ref sig .tc := ⟨.hbm, 139, rfl⟩
abbrev main_v90 : Ref sig .tc := ⟨.hbm, 140, rfl⟩
abbrev main_v91 : Ref sig .tc := ⟨.hbm, 141, rfl⟩
abbrev main_cst_19 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_20 : Ref sig .tc := ⟨.hbm, 147, rfl⟩
abbrev main_v96 : Ref sig .tc := ⟨.hbm, 148, rfl⟩
abbrev main_v97 : Ref sig .tc := ⟨.hbm, 149, rfl⟩
abbrev main_cst_21 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_22 : Ref sig .tc := ⟨.hbm, 157, rfl⟩
abbrev main_v104 : Ref sig .tc := ⟨.hbm, 158, rfl⟩
abbrev main_v105 : Ref sig .tc := ⟨.hbm, 159, rfl⟩
abbrev main_cst_23 : Ref sig .tc := ⟨.hbm, 160, rfl⟩
abbrev main_v106 : Ref sig .tc := ⟨.hbm, 161, rfl⟩
abbrev main_v107 : Ref sig .tc := ⟨.hbm, 162, rfl⟩
abbrev main_cst_24 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_cst_25 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_26 : Ref sig .tc := ⟨.hbm, 174, rfl⟩
abbrev main_v117 : Ref sig .tc := ⟨.hbm, 175, rfl⟩
abbrev main_v118 : Ref sig .tc := ⟨.hbm, 176, rfl⟩
abbrev main_cst_27 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_28 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_29 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S8192x2816, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S8192x2048 : Shape := ⟨2, ![8192, 2048]⟩
abbrev S2048x1024 : Shape := ⟨2, ![2048, 1024]⟩
abbrev S1408x1024 : Shape := ⟨2, ![1408, 1024]⟩
abbrev S1024x1408 : Shape := ⟨2, ![1024, 1408]⟩

abbrev nBuf : Space → Nat
  | .hbm => 16
  | .vmem => 22
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .bf16⟩
  | .hbm, ⟨9, _⟩ => ⟨S8192x2048, .bf16⟩
  | .hbm, ⟨10, _⟩ => ⟨S2048x1024, .bf16⟩
  | .hbm, ⟨11, _⟩ => ⟨S8192x1024, .bf16⟩
  | .hbm, ⟨12, _⟩ => ⟨S8192x2816, .bf16⟩
  | .hbm, ⟨13, _⟩ => ⟨S8192x1024, .bf16⟩
  | .hbm, ⟨14, _⟩ => ⟨S8192x1024, .bf16⟩
  | .hbm, ⟨15, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S8192x2048 : Shape := ⟨2, ![8192, 2048]⟩
abbrev S2048x1024 : Shape := ⟨2, ![2048, 1024]⟩
abbrev S1024x2816 : Shape := ⟨2, ![1024, 2816]⟩
abbrev S1024x2048 : Shape := ⟨2, ![1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .bf16⟩
  | .hbm, ⟨9, _⟩ => ⟨S8192x2048, .bf16⟩
  | .hbm, ⟨10, _⟩ => ⟨S2048x1024, .bf16⟩
  | .hbm, ⟨11, _⟩ => ⟨S8192x1024, .bf16⟩
  | .hbm, ⟨12, _⟩ => ⟨S8192x2816, .f32⟩
  | .hbm, ⟨13, _⟩ => ⟨S2816x1024, .f32⟩
  | .hbm, ⟨14, _⟩ => ⟨S8192x1024, .f32⟩
  | .hbm, ⟨15, _⟩ => ⟨S1024x2816, .f32⟩
  | .hbm, ⟨16, _⟩ => ⟨S2816x1024, .f32⟩
  | .hbm, ⟨17, _⟩ => ⟨S8192x2816, .f32⟩
  | .hbm, ⟨18, _⟩ => ⟨S8192x2816, .bf16⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S1024x1024, .f32⟩
  | .hbm, ⟨23, _⟩ => ⟨S1024x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S1024x1024, .f32⟩
  | .hbm, ⟨32, _⟩ => ⟨S8192x1024, .f32⟩
  | .hbm, ⟨33, _⟩ => ⟨S8192x1024, .bf16⟩
  | .hbm, ⟨34, _⟩ => ⟨S8192x2048, .f32⟩
  | .hbm, ⟨35, _⟩ => ⟨S2048x1024, .f32⟩
  | .hbm, ⟨36, _⟩ => ⟨S8192x1024, .f32⟩
  | .hbm, ⟨37, _⟩ => ⟨S8192x1024, .f32⟩
  | .hbm, ⟨38, _⟩ => ⟨S1024x2048, .f32⟩
  | .hbm, ⟨39, _⟩ => ⟨S2048x1024, .f32⟩
  | .hbm, ⟨40, _⟩ => ⟨S8192x2048, .f32⟩
  | .hbm, ⟨41, _⟩ => ⟨S8192x2048, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel4.lean ====
abbrev S8192x1024 : Shape := ⟨2, ![8192, 1024]⟩
abbrev S1024x2048 : Shape := ⟨2, ![1024, 2048]⟩
abbrev S1024x3072 : Shape := ⟨2, ![1024, 3072]⟩
abbrev S1024x32 : Shape := ⟨2, ![1024, 32]⟩
abbrev S8192x2048 : Shape := ⟨2, ![8192, 2048]⟩
abbrev S2048x1024 : Shape := ⟨2, ![2048, 1024]⟩
abbrev S1024x1024 : Shape := ⟨2, ![1024, 1024]⟩
abbrev S1024x2816 : Shape := ⟨2, ![1024, 2816]⟩
abbrev S8192x3072 : Shape := ⟨2, ![8192, 3072]⟩
abbrev S8192x32 : Shape := ⟨2, ![8192, 32]⟩
abbrev S8192x2816 : Shape := ⟨2, ![8192, 2816]⟩
abbrev S1024x1408 : Shape := ⟨2, ![1024, 1408]⟩

abbrev nBuf : Space → Nat
  | .hbm => 26
  | .vmem => 58
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x3072, .bf16⟩
  | .hbm, ⟨5, _⟩ => ⟨S1024x32, .bf16⟩
  | .hbm, ⟨6, _⟩ => ⟨S8192x2048, .bf16⟩
  | .hbm, ⟨7, _⟩ => ⟨S2048x1024, .bf16⟩
  | .hbm, ⟨8, _⟩ => ⟨S8192x1024, .bf16⟩
  | .hbm, ⟨9, _⟩ => ⟨S1024x1024, .bf16⟩
  | .hbm, ⟨10, _⟩ => ⟨S8192x1024, .bf16⟩
  | .hbm, ⟨11, _⟩ => ⟨S1024x1024, .bf16⟩
  | .hbm, ⟨12, _⟩ => ⟨S8192x1024, .f32⟩
  | .hbm, ⟨13, _⟩ => ⟨S8192x1024, .bf16⟩
  | .hbm, ⟨14, _⟩ => ⟨S1024x2816, .bf16⟩
  | .hbm, ⟨15, _⟩ => ⟨S1024x2816, .bf16⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S8192x3072, .bf16⟩
  | .hbm, ⟨20, _⟩ => ⟨S8192x32, .f32⟩
  | .hbm, ⟨21, _⟩ => ⟨S8192x1024, .bf16⟩
  | .hbm, ⟨22, _⟩ => ⟨S8192x1024, .bf16⟩
  | .hbm, ⟨23, _⟩ => ⟨S8192x1024, .f32⟩
  | .hbm, ⟨24, _⟩ => ⟨S8192x2816, .bf16⟩
  | .hbm, ⟨25, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x32, .bf16⟩
  | .local _ .vmem, ⟨27, _⟩ => ⟨S1024x32, .f32⟩
  | .local _ .vmem, ⟨28, _⟩ => ⟨S1024x32, .f32⟩
  | .local _ .vmem, ⟨29, _⟩ => ⟨S1024x2048, .bf16⟩
  | .local _ .vmem, ⟨30, _⟩ => ⟨S1024x2048, .bf16⟩
  | .local _ .vmem, ⟨31, _⟩ => ⟨S2048x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | .local _ .vmem, ⟨46, _⟩ => ⟨S1024x1024, .bf16⟩
  | .local _ .vmem, ⟨47, _⟩ => ⟨S1024x1024, .bf16⟩
  | .local _ .vmem, ⟨48, _⟩ => ⟨S1024x1408, .bf16⟩
  | .local _ .vmem, ⟨49, _⟩ => ⟨S1024x1408, .bf16⟩
  | .local _ .vmem, ⟨50, _⟩ => ⟨S1024x1408, .bf16⟩
  | .local _ .vmem, ⟨51, _⟩ => ⟨S1024x1408, .bf16⟩
  | .local _ .vmem, ⟨52, _⟩ => ⟨S1024x1024, .bf16⟩
  | .local _ .vmem, ⟨53, _⟩ => ⟨S1024x1024, .bf16⟩
  | .local _ .vmem, ⟨54, _⟩ => ⟨S1024x1408, .bf16⟩
  | .local _ .vmem, ⟨55, _⟩ => ⟨S1024x1408, .bf16⟩
  | .local _ .vmem, ⟨56, _⟩ => ⟨S1024x1408, .bf16⟩
  | .local _ .vmem, ⟨57, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc9_stg2_0 : Ref sig .tc := ⟨.vmem, 56, rfl⟩
abbrev cc9_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc7_sem3_0 : DmaSem sig := 44
abbrev cc7_sem3_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem2_1 : DmaSem sig := 57

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 3, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![8, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1408 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x1408 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1408 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference4Ideal.lean ====
abbrev S8192x1024 : Shape := ⟨2, ![8192, 1024]⟩
abbrev S1024x2048 : Shape := ⟨2, ![1024, 2048]⟩
abbrev S1024x3072 : Shape := ⟨2, ![1024, 3072]⟩
abbrev S1024x32 : Shape := ⟨2, ![1024, 32]⟩
abbrev S8192x2048 : Shape := ⟨2, ![8192, 2048]⟩
abbrev S2048x1024 : Shape := ⟨2, ![2048, 1024]⟩
abbrev S1024x1024 : Shape := ⟨2, ![1024, 1024]⟩
abbrev S1024x2816 : Shape := ⟨2, ![1024, 2816]⟩
abbrev S8192x3072 : Shape := ⟨2, ![8192, 3072]⟩
abbrev S8192x32 : Shape := ⟨2, ![8192, 32]⟩
abbrev S8192x2816 : Shape := ⟨2, ![8192, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S1024x3072, .bf16⟩
  | .hbm, ⟨5, _⟩ => ⟨S1024x32, .bf16⟩
  | .hbm, ⟨6, _⟩ => ⟨S8192x2048, .bf16⟩
  | .hbm, ⟨7, _⟩ => ⟨S2048x1024, .bf16⟩
  | .hbm, ⟨8, _⟩ => ⟨S8192x1024, .bf16⟩
  | .hbm, ⟨9, _⟩ => ⟨S1024x1024, .bf16⟩
  | .hbm, ⟨10, _⟩ => ⟨S8192x1024, .bf16⟩
  | .hbm, ⟨11, _⟩ => ⟨S1024x1024, .bf16⟩
  | .hbm, ⟨12, _⟩ => ⟨S8192x1024, .f32⟩
  | .hbm, ⟨13, _⟩ => ⟨S8192x1024, .bf16⟩
  | .hbm, ⟨14, _⟩ => ⟨S1024x2816, .bf16⟩
  | .hbm, ⟨15, _⟩ => ⟨S1024x2816, .bf16⟩
  | .hbm, ⟨16, _⟩ => ⟨S8192x1024, .f32⟩
  | .hbm, ⟨17, _⟩ => ⟨S1024x2048, .f32⟩
  | .hbm, ⟨18, _⟩ => ⟨S8192x2048, .f32⟩
  | .hbm, ⟨19, _⟩ => ⟨S8192x2048, .bf16⟩
  | .hbm, ⟨20, _⟩ => ⟨S8192x1024, .f32⟩
  | .hbm, ⟨21, _⟩ => ⟨S1024x2048, .f32⟩
  | .hbm, ⟨22, _⟩ => ⟨S8192x2048, .f32⟩
  | .hbm, ⟨23, _⟩ => ⟨S8192x2048, .bf16⟩
  | .hbm, ⟨24, _⟩ => ⟨S8192x1024, .f32⟩
  | .hbm, ⟨25, _⟩ => ⟨S1024x2048, .f32⟩
  | .hbm, ⟨26, _⟩ => ⟨S8192x2048, .f32⟩
  | .hbm, ⟨27, _⟩ => ⟨S8192x2048, .bf16⟩
  | .hbm, ⟨28, _⟩ => ⟨S8192x1024, .f32⟩
  | .hbm, ⟨29, _⟩ => ⟨S1024x3072, .f32⟩
  | .hbm, ⟨30, _⟩ => ⟨S8192x3072, .f32⟩
  | .hbm, ⟨31, _⟩ => ⟨S8192x3072, .bf16⟩
  | .hbm, ⟨32, _⟩ => ⟨S8192x1024, .f32⟩
  | .hbm, ⟨33, _⟩ => ⟨S1024x32, .f32⟩
  | .hbm, ⟨34, _⟩ => ⟨S8192x32, .f32⟩
  | .hbm, ⟨35, _⟩ => ⟨S8192x2048, .f32⟩
  | .hbm, ⟨36, _⟩ => ⟨S2048x1024, .f32⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x2816, .f32⟩
  | .hbm, ⟨49, _⟩ => ⟨S8192x2816, .f32⟩
  | .hbm, ⟨50, _⟩ => ⟨S8192x2816, .bf16⟩
  | .hbm, ⟨51, _⟩ => ⟨S8192x1024, .f32⟩
  | .hbm, ⟨52, _⟩ => ⟨S1024x2816, .f32⟩
  | .hbm, ⟨53, _⟩ => ⟨S8192x2816, .f32⟩
  | .hbm, ⟨54, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel5.lean ====
abbrev S8192x1024 : Shape := ⟨2, ![8192, 1024]⟩
abbrev S1024x2816 : Shape := ⟨2, ![1024, 2816]⟩
abbrev S8192x2816 : Shape := ⟨2, ![8192, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | .hbm, ⟨10, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S8192x1024, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S8192x2048, .f32⟩
  | .hbm, ⟨10, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x2816 : Shape := ⟨2, ![8192, 2816]⟩
abbrev S512x2816 : Shape := ⟨2, ![512, 2816]⟩
abbrev S16x2816 : Shape := ⟨2, ![16, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c4_i32 : BitVec 32 := 4#32
  let v1 : BitVec 32 := Scalar.muli arg6 c4_i32
  let c0_i32_1 : BitVec 32 := 0#32
  let v2 : BitVec 32 := Scalar.addi v1 c0_i32_1
  let c16_i32 : BitVec 32 := 16#32
  let v3 : BitVec 32 := Scalar.muli v2 c16_i32
  v3
def k0_off1 (k0_t1 : Fin k0_t1_loop.trips) (c0_i32_1 : BitVec 32) : Fin 2 → Nat :=
  let c0_i32 : BitVec 32 := 0#32
  let c1_i32 : BitVec 32 := 1#32
  let arg6 : BitVec 32 := Scf.iv c0_i32 c1_i32 k0_t1
  let c4_i32 : BitVec 32 := 4#32
  let v1 : BitVec 32 := Scalar.muli arg6 c4_i32
  let v2 : BitVec 32 := Scalar.addi v1 c0_i32_1
  let c16_i32 : BitVec 32 := 16#32
  let v3 : BitVec 32 := Scalar.muli v2 c16_i32
  let v4 : BitVec 32 := v3
  let v5 : Index := Scalar.indexCast v4
  let c0 : Index := 0#32
  ![v5.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c4_i32_6 : BitVec 32 := 4#32
  let v31 : BitVec 32 := Scalar.muli arg6 c4_i32_6
  let c1_i32_7 : BitVec 32 := 1#32
  let v32 : BitVec 32 := Scalar.addi v31 c1_i32_7
  let c16_i32_8 : BitVec 32 := 16#32
  let v33 : BitVec 32 := Scalar.muli v32 c16_i32_8
  v33
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c4_i32_15 : BitVec 32 := 4#32
  let v61 : BitVec 32 := Scalar.muli arg6 c4_i32_15
  let c2_i32 : BitVec 32 := 2#32
  let v62 : BitVec 32 := Scalar.addi v61 c2_i32
  let c16_i32_16 : BitVec 32 := 16#32
  let v63 : BitVec 32 := Scalar.muli v62 c16_i32_16
  v63
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c4_i32_23 : BitVec 32 := 4#32
  let v91 : BitVec 32 := Scalar.muli arg6 c4_i32_23
  let c3_i32 : BitVec 32 := 3#32
  let v92 : BitVec 32 := Scalar.addi v91 c3_i32
  let c16_i32_24 : BitVec 32 := 16#32
  let v93 : BitVec 32 := Scalar.muli v92 c16_i32_24
  v93
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel14.lean ====
abbrev S8192x2048 : Shape := ⟨2, ![8192, 2048]⟩
abbrev S8192x1024 : Shape := ⟨2, ![8192, 1024]⟩
abbrev S1x1024 : Shape := ⟨2, ![1, 1024]⟩
abbrev S1024x1024 : Shape := ⟨2, ![1024, 1024]⟩
abbrev S1024x2048 : Shape := ⟨2, ![1024, 2048]⟩
abbrev S16x1024 : Shape := ⟨2, ![16, 1024]⟩
abbrev S1024 : Shape := ⟨1, ![1024]⟩
abbrev S16x2048 : Shape := ⟨2, ![16, 2048]⟩

abbrev nBuf : Space → Nat
  | .hbm => 11
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1x1024, .f32⟩
  | .hbm, ⟨6, _⟩ => ⟨S8192x2048, .bf16⟩
  | .hbm, ⟨7, _⟩ => ⟨S8192x1024, .bf16⟩
  | .hbm, ⟨8, _⟩ => ⟨S8192x1024, .bf16⟩
  | .hbm, ⟨9, _⟩ => ⟨S1x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_5 : BitVec 32 := 0#32
  let c16_i32 : BitVec 32 := 16#32
  let v7 : BitVec 32 := Scalar.addi c0_i32_5 c16_i32
  let c1_i32 : BitVec 32 := 1#32
  ⟨c0_i32_5, v7, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c4_i32 : BitVec 32 := 4#32
  let v17 : BitVec 32 := Scalar.muli arg13 c4_i32
  let c0_i32_15 : BitVec 32 := 0#32
  let v18 : BitVec 32 := Scalar.addi v17 c0_i32_15
  let c16_i32_16 : BitVec 32 := 16#32
  let v19 : BitVec 32 := Scalar.muli v18 c16_i32_16
  v19
def k0_off1 (k0_t1 : Fin k0_t1_loop.trips) (c0_i32_15 : BitVec 32) : Fin 2 → Nat :=
  let c0_i32_5 : BitVec 32 := 0#32
  let c1_i32 : BitVec 32 := 1#32
  let arg13 : BitVec 32 := Scf.iv c0_i32_5 c1_i32 k0_t1
  let c4_i32 : BitVec 32 := 4#32
  let v17 : BitVec 32 := Scalar.muli arg13 c4_i32
  let v18 : BitVec 32 := Scalar.addi v17 c0_i32_15
  let c16_i32_16 : BitVec 32 := 16#32
  let v19 : BitVec 32 := Scalar.muli v18 c16_i32_16
  let v20 : BitVec 32 := v19
  let v21 : Index := Scalar.indexCast v20
  let c0_17 : Index := 0#32
  ![v21.toNat, 0]
def k0_off2 (k0_t1 : Fin k0_t1_loop.trips) (c0_i32_15 : BitVec 32) : Fin 2 → Nat :=
  let c0_i32_5 : BitVec 32 := 0#32
  let c1_i32 : BitVec 32 := 1#32
  let arg13 : BitVec 32 := Scf.iv c0_i32_5 c1_i32 k0_t1
  let c4_i32 : BitVec 32 := 4#32
  let v17 : BitVec 32 := Scalar.muli arg13 c4_i32
  let v18 : BitVec 32 := Scalar.addi v17 c0_i32_15
  let c16_i32_16 : BitVec 32 := 16#32
  let v19 : BitVec 32 := Scalar.muli v18 c16_i32_16
  let v20 : BitVec 32 := v19
  let v60 : Index := Scalar.indexCast v20
  let c0_26 : Index := 0#32
  ![v60.toNat, 0]
def k0_mult2 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c4_i32_29 : BitVec 32 := 4#32
  let v70 : BitVec 32 := Scalar.muli arg13 c4_i32_29
  let c1_i32_30 : BitVec 32 := 1#32
  let v71 : BitVec 32 := Scalar.addi v70 c1_i32_30
  let c16_i32_31 : BitVec 32 := 16#32
  let v72 : BitVec 32 := Scalar.muli v71 c16_i32_31
  v72
def k0_mult3 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c4_i32_44 : BitVec 32 := 4#32
  let v123 : BitVec 32 := Scalar.muli arg13 c4_i32_44
  let c2_i32 : BitVec 32 := 2#32
  let v124 : BitVec 32 := Scalar.addi v123 c2_i32
  let c16_i32_45 : BitVec 32 := 16#32
  let v125 : BitVec 32 := Scalar.muli v124 c16_i32_45
  v125
def k0_mult4 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c4_i32_58 : BitVec 32 := 4#32
  let v176 : BitVec 32 := Scalar.muli arg13 c4_i32_58
  let c3_i32 : BitVec 32 := 3#32
  let v177 : BitVec 32 := Scalar.addi v176 c3_i32
  let c16_i32_59 : BitVec 32 := 16#32
  let v178 : BitVec 32 := Scalar.muli v177 c16_i32_59
  v178
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference14Ideal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x2048, .f32⟩
  | .hbm, ⟨56, _⟩ => ⟨S8192x2048, .bf16⟩
  | .hbm, ⟨57, _⟩ => ⟨S8192x1024, .bf16⟩
  | .hbm, ⟨58, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Gmlp.Group.lean ====
module

public import proofs.«01_k».proof.Proof.Gen.KernelIdeal.Loops
public import Idealize.ShloMosaic.Lib.Pointwise
public import Idealize.ShloMosaic.Lib.WritesUnit

/-! One block of 128 tokens and one group of 128 channels of the mixer's gradient: the six blocks a
group reads, and the five things it computes of them. -/

@[expose] public section

set_option maxRecDepth 16384

noncomputable section

namespace Cert.KernelIdeal.Gmlp

open Idealize.ShloMosaic Idealize.ShloMosaic.TcCoe
open Cert.KernelIdeal Cert.KernelIdeal.Gen

/-- The first half's block: tokens of block `k`, channels of group `g`. -/
def zuB (x : Vec Ideal S1024x2048 .bf16) (k g : Fin 8) : Vec Ideal S128x128 .bf16 := fun j =>
  x (ix2 (⟨128 * k.val + (j 0).val, by have := (j 0).isLt; simp at this; omega⟩ : Fin 1024)
    (⟨128 * g.val + (j 1).val, by have := (j 1).isLt; simp at this; omega⟩ : Fin 2048))

/-- The second half's block. -/
def zvB (x : Vec Ideal S1024x2048 .bf16) (k g : Fin 8) : Vec Ideal S128x128 .bf16 := fun j =>
  x (ix2 (⟨128 * k.val + (j 0).val, by have := (j 0).isLt; simp at this; omega⟩ : Fin 1024)
    (⟨1024 + 128 * g.val + (j 1).val, by have := (j 1).isLt; simp at this; omega⟩ : Fin 2048))

/-- The cotangent's block. -/
def doB (x : Vec Ideal S1024x1024 .bf16) (k g : Fin 8) : Vec Ideal S128x128 .bf16 := fun j =>
  x (ix2 (⟨128 * k.val + (j 0).val, by have := (j 0).isLt; simp at this; omega⟩ : Fin 1024)
    (⟨128 * g.val + (j 1).val, by have := (j 1).isLt; simp at this; omega⟩ : Fin 1024))

/-- Row `g` of a table of eight rows. -/
def rowB (w : Vec Ideal S8x128 .f32) (g : Fin 8) : Vec Ideal S1x128 .f32 := fun j => w (ix2 g (j 1))

/-- Matrix `g` of eight. -/
def matB {e : EltTy} (w : Vec Ideal S8x128x128 e) (g : Fin 8) : Vec Ideal S1x128x128 e := fun j =>
  w (ix3 g (j 1) (j 2))

/-- Column `g` of eight. -/
def colB (w : Vec Ideal S8x128x1 .f32) (g : Fin 8) : Vec Ideal S1x128x1 .f32 := fun j =>
  w (ix3 g (j 1) (j 2))

section Loads

variable {sig : RefSig} {κ : Kind} {sp : Space}

theorem ld_zu (v : View sig κ sp S1024x2048 .bf16) (X : v.ty.Contents (Elt Ideal)) (k g : Fin 8) {off : Fin 2 → ℕ}
    (h : off = ![128 * k.val, 128 * g.val]) (inb : ∀ a, off a + S128x128.size a ≤ S1024x2048.size a) :
    View.readAt (Elt Ideal) v (Rect.unit (s := S1024x2048) off S128x128.size inb).toLoadRect X = zuB (v.read (Elt Ideal) X) k g := by
  subst h
  funext j
  rw [View.readAt_eq_ld]
  pointwise [zuB]

theorem ld_zv (v : View sig κ sp S1024x2048 .bf16) (X : v.ty.Contents (Elt Ideal)) (k g : Fin 8) {off : Fin 2 → ℕ}
    (h : off = ![128 * k.val, 1024 + 128 * g.val]) (inb : ∀ a, off a + S128x128.size a ≤ S1024x2048.size a) :
    View.readAt (Elt Ideal) v (Rect.unit (s := S1024x2048) off S128x128.size inb).toLoadRect X = zvB (v.read (Elt Ideal) X) k g := by
  subst h
  funext j
  rw [View.readAt_eq_ld]
  pointwise [zvB]

theorem ld_do (v : View sig κ sp S1024x1024 .bf16) (X : v.ty.Contents (Elt Ideal)) (k g : Fin 8) {off : Fin 2 → ℕ}
    (h : off = ![128 * k.val, 128 * g.val]) (inb : ∀ a, off a + S128x128.size a ≤ S1024x1024.size a) :
    View.readAt (Elt Ideal) v (Rect.unit (s := S1024x1024) off S128x128.size inb).toLoadRect X = doB (v.read (Elt Ideal) X) k g := by
  subst h
  funext j
  rw [View.readAt_eq_ld]
  pointwise [doB]

theorem ld_row (v : View sig κ sp S8x128 .f32) (X : v.ty.Contents (Elt Ideal)) (g : Fin 8) {off : Fin 2 → ℕ}
    (h : off = ![g.val, 0]) (inb : ∀ a, off a + S1x128.size a ≤ S8x128.size a) :
    View.readAt (Elt Ideal) v (Rect.unit (s := S8x128) off S1x128.size inb).toLoadRect X = rowB (v.read (Elt Ideal) X) g := by
  subst h
  funext j
  rw [View.readAt_eq_ld]
  idx_vars j
  obtain rfl : j0 = 0 := Subsingleton.elim _ _
  pointwise [rowB]

theorem ld_mat {e : EltTy} (v : View sig κ sp S8x128x128 e) (X : v.ty.Contents (Elt Ideal)) (g : Fin 8) {off : Fin 3 → ℕ}
    (h : off = ![g.val, 0, 0]) (inb : ∀ a, off a + S1x128x128.size a ≤ S8x128x128.size a) :
    View.readAt (Elt Ideal) v (Rect.unit (s := S8x128x128) off S1x128x128.size inb).toLoadRect X = matB (v.read (Elt Ideal) X) g := by
  subst h
  funext j
  rw [View.readAt_eq_ld]
  idx_vars j
  obtain rfl : j0 = 0 := Subsingleton.elim _ _
  pointwise [matB]

theorem ld_col (v : View sig κ sp S8x128x1 .f32) (X : v.ty.Contents (Elt Ideal)) (g : Fin 8) {off : Fin 3 → ℕ}
    (h : off = ![g.val, 0, 0]) (inb : ∀ a, off a + S1x128x1.size a ≤ S8x128x1.size a) :
    View.readAt (Elt Ideal) v (Rect.unit (s := S8x128x1) off S1x128x1.size inb).toLoadRect X = colB (v.read (Elt Ideal) X) g := by
  subst h
  funext j
  rw [View.readAt_eq_ld]
  idx_vars j
  obtain rfl : j0 = 0 := Subsingleton.elim _ _
  obtain rfl : j2 = 0 := Subsingleton.elim _ _
  pointwise [colB]

theorem cons_row (v : View sig κ sp S8x128 .f32) (f : v.ty.Contents (Elt Ideal)) {off : Fin 2 → ℕ} (g : Fin 8)
    (h : off = ![g.val, 0]) (inb : ∀ i, off i + S1x128.size i ≤ S8x128.size i)
    (w : Vec Ideal S1x128 .f32) (L : List (View.Piece (Elt Ideal) S8x128 .f32)) (r : Fin 8) (a : Fin 128) :
    v.read (Elt Ideal) (v.writes (Elt Ideal) f (⟨Rect.unit (s := S8x128) off S1x128.size inb, w⟩ :: L)) (ix2 r a)
      = if r = g then w (ix2 0 a) else v.read (Elt Ideal) (v.writes (Elt Ideal) f L) (ix2 r a) := by
  split_ifs with hr
  · subst hr
    refine View.read_writes_cons_unit_of_mem v f inb w L _ (ix2 0 a) h fun i => ?_
    match i with
    | ⟨0, _⟩ => exact (Nat.add_zero _).symm
    | ⟨1, _⟩ => exact (Nat.zero_add _).symm
  · refine View.read_writes_cons_unit_of_not_mem v f inb w L _ h 0 ?_
    show r.val < g.val ∨ g.val + 1 ≤ r.val
    have := Fin.val_ne_of_ne hr
    omega

/-- Eight rows stored one by one: row `r` reads the payload of `r`. -/
theorem read_rows (v : View sig κ sp S8x128 .f32) (f : v.ty.Contents (Elt Ideal)) (p : Fin 8 → Vec Ideal S1x128 .f32)
    (i0 i1 i2 i3 i4 i5 i6 i7) (r : Fin 8) (a : Fin 128) :
    v.read (Elt Ideal) (v.writes (Elt Ideal) f
      [⟨Rect.unit (s := S8x128) ![7, 0] S1x128.size i7, p 7⟩,
       ⟨Rect.unit (s := S8x128) ![6, 0] S1x128.size i6, p 6⟩,
       ⟨Rect.unit (s := S8x128) ![5, 0] S1x128.size i5, p 5⟩,
       ⟨Rect.unit (s := S8x128) ![4, 0] S1x128.size i4, p 4⟩,
       ⟨Rect.unit (s := S8x128) ![3, 0] S1x128.size i3, p 3⟩,
       ⟨Rect.unit (s := S8x128) ![2, 0] S1x128.size i2, p 2⟩,
       ⟨Rect.unit (s := S8x128) ![1, 0] S1x128.size i1, p 1⟩,
       ⟨Rect.unit (s := S8x128) ![0, 0] S1x128.size i0, p 0⟩])
      (ix2 r a) = p r (ix2 0 a) := by
  rw [cons_row v f (off := ![7, 0]) 7 rfl, cons_row v f (off := ![6, 0]) 6 rfl, cons_row v f (off := ![5, 0]) 5 rfl, cons_row v f (off := ![4, 0]) 4 rfl, cons_row v f (off := ![3, 0]) 3 rfl, cons_row v f (off := ![2, 0]) 2 rfl, cons_row v f (off := ![1, 0]) 1 rfl, cons_row v f (off := ![0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

theorem cons_mat {e : EltTy} (v : View sig κ sp S8x128x128 e) (f : v.ty.Contents (Elt Ideal)) {off : Fin 3 → ℕ} (g : Fin 8)
    (h : off = ![g.val, 0, 0]) (inb : ∀ i, off i + S1x128x128.size i ≤ S8x128x128.size i)
    (w : Vec Ideal S1x128x128 e) (L : List (View.Piece (Elt Ideal) S8x128x128 e)) (r : Fin 8) (a b : Fin 128) :
    v.read (Elt Ideal) (v.writes (Elt Ideal) f (⟨Rect.unit (s := S8x128x128) off S1x128x128.size inb, w⟩ :: L)) (ix3 r a b)
      = if r = g then w (ix3 0 a b) else v.read (Elt Ideal) (v.writes (Elt Ideal) f L) (ix3 r a b) := by
  split_ifs with hr
  · subst hr
    refine View.read_writes_cons_unit_of_mem v f inb w L _ (ix3 0 a b) h fun i => ?_
    match i with
    | ⟨0, _⟩ => exact (Nat.add_zero _).symm
    | ⟨1, _⟩ => exact (Nat.zero_add _).symm
    | ⟨2, _⟩ => exact (Nat.zero_add _).symm
  · refine View.read_writes_cons_unit_of_not_mem v f inb w L _ h 0 ?_
    show r.val < g.val ∨ g.val + 1 ≤ r.val
    have := Fin.val_ne_of_ne hr
    omega

/-- Eight matrices stored one by one. -/
theorem read_mats {e : EltTy} (v : View sig κ sp S8x128x128 e) (f : v.ty.Contents (Elt Ideal)) (p : Fin 8 → Vec Ideal S1x128x128 e)
    (i0 i1 i2 i3 i4 i5 i6 i7) (r : Fin 8) (a b : Fin 128) :
    v.read (Elt Ideal) (v.writes (Elt Ideal) f
      [⟨Rect.unit (s := S8x128x128) ![7, 0, 0] S1x128x128.size i7, p 7⟩,
       ⟨Rect.unit (s := S8x128x128) ![6, 0, 0] S1x128x128.size i6, p 6⟩,
       ⟨Rect.unit (s := S8x128x128) ![5, 0, 0] S1x128x128.size i5, p 5⟩,
       ⟨Rect.unit (s := S8x128x128) ![4, 0, 0] S1x128x128.size i4, p 4⟩,
       ⟨Rect.unit (s := S8x128x128) ![3, 0, 0] S1x128x128.size i3, p 3⟩,
       ⟨Rect.unit (s := S8x128x128) ![2, 0, 0] S1x128x128.size i2, p 2⟩,
       ⟨Rect.unit (s := S8x128x128) ![1, 0, 0] S1x128x128.size i1, p 1⟩,
       ⟨Rect.unit (s := S8x128x128) ![0, 0, 0] S1x128x128.size i0, p 0⟩])
      (ix3 r a b) = p r (ix3 0 a b) := by
  rw [cons_mat v f (off := ![7, 0, 0]) 7 rfl, cons_mat v f (off := ![6, 0, 0]) 6 rfl, cons_mat v f (off := ![5, 0, 0]) 5 rfl, cons_mat v f (off := ![4, 0, 0]) 4 rfl, cons_mat v f (off := ![3, 0, 0]) 3 rfl, cons_mat v f (off := ![2, 0, 0]) 2 rfl, cons_mat v f (off := ![1, 0, 0]) 1 rfl, cons_mat v f (off := ![0, 0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

theorem cons_col (v : View sig κ sp S8x128x1 .f32) (f : v.ty.Contents (Elt Ideal)) {off : Fin 3 → ℕ} (g : Fin 8)
    (h : off = ![g.val, 0, 0]) (inb : ∀ i, off i + S1x128x1.size i ≤ S8x128x1.size i)
    (w : Vec Ideal S1x128x1 .f32) (L : List (View.Piece (Elt Ideal) S8x128x1 .f32)) (r : Fin 8) (a : Fin 128) (b : Fin 1) :
    v.read (Elt Ideal) (v.writes (Elt Ideal) f (⟨Rect.unit (s := S8x128x1) off S1x128x1.size inb, w⟩ :: L)) (ix3 r a b)
      = if r = g then w (ix3 0 a b) else v.read (Elt Ideal) (v.writes (Elt Ideal) f L) (ix3 r a b) := by
  split_ifs with hr
  · subst hr
    refine View.read_writes_cons_unit_of_mem v f inb w L _ (ix3 0 a b) h fun i => ?_
    match i with
    | ⟨0, _⟩ => exact (Nat.add_zero _).symm
    | ⟨1, _⟩ => exact (Nat.zero_add _).symm
    | ⟨2, _⟩ => exact (Nat.zero_add _).symm
  · refine View.read_writes_cons_unit_of_not_mem v f inb w L _ h 0 ?_
    show r.val < g.val ∨ g.val + 1 ≤ r.val
    have := Fin.val_ne_of_ne hr
    omega

/-- Eight columns stored one by one. -/
theorem read_cols (v : View sig κ sp S8x128x1 .f32) (f : v.ty.Contents (Elt Ideal)) (p : Fin 8 → Vec Ideal S1x128x1 .f32)
    (i0 i1 i2 i3 i4 i5 i6 i7) (r : Fin 8) (a : Fin 128) (b : Fin 1) :
    v.read (Elt Ideal) (v.writes (Elt Ideal) f
      [⟨Rect.unit (s := S8x128x1) ![7, 0, 0] S1x128x1.size i7, p 7⟩,
       ⟨Rect.unit (s := S8x128x1) ![6, 0, 0] S1x128x1.size i6, p 6⟩,
       ⟨Rect.unit (s := S8x128x1) ![5, 0, 0] S1x128x1.size i5, p 5⟩,
       ⟨Rect.unit (s := S8x128x1) ![4, 0, 0] S1x128x1.size i4, p 4⟩,
       ⟨Rect.unit (s := S8x128x1) ![3, 0, 0] S1x128x1.size i3, p 3⟩,
       ⟨Rect.unit (s := S8x128x1) ![2, 0, 0] S1x128x1.size i2, p 2⟩,
       ⟨Rect.unit (s := S8x128x1) ![1, 0, 0] S1x128x1.size i1, p 1⟩,
       ⟨Rect.unit (s := S8x128x1) ![0, 0, 0] S1x128x1.size i0, p 0⟩])
      (ix3 r a b) = p r (ix3 0 a b) := by
  rw [cons_col v f (off := ![7, 0, 0]) 7 rfl, cons_col v f (off := ![6, 0, 0]) 6 rfl, cons_col v f (off := ![5, 0, 0]) 5 rfl, cons_col v f (off := ![4, 0, 0]) 4 rfl, cons_col v f (off := ![3, 0, 0]) 3 rfl, cons_col v f (off := ![2, 0, 0]) 2 rfl, cons_col v f (off := ![1, 0, 0]) 1 rfl, cons_col v f (off := ![0, 0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

end Loads

end Cert.KernelIdeal.Gmlp
-- ==== Proof.Gmlp.Trip.lean ====
module

public import proofs.«01_k».proof.Proof.Gmlp.Group

/-! What one trip of the body's loop, one block of 128 tokens, leaves in each written buffer. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open Idealize.SL.Sem Gen

/-- The trip's number among the eight. -/
def tok (k : Fin k0_t1_loop.trips) : Fin 8 := ⟨k.val, Nat.lt_of_lt_of_le k.isLt k0_t1_abs.2.1⟩

section Functions

variable (zu zv y : Vec Ideal S128x128 .bf16) (w b : Vec Ideal S1x128 .f32) (wm : Vec Ideal S1x128x128 .bf16) (bs : Vec Ideal S1x128x1 .f32)

/-- The normalised second half. -/
def vhG : FVec Ideal S128x128 .f32 := k0_pay23 (k0_pay14 zv) (k0_pay16 zv) (k0_pay17 zv)
/-- Its reciprocal standard deviation. -/
def rsG : FVec Ideal S128x1 .f32 := k0_pay22 (k0_pay14 zv) (k0_pay16 zv) (k0_pay17 zv)
/-- The layer norm's output. -/
def vnG : FVec Ideal S128x128 .f32 := k0_pay24 (k0_pay14 zv) (k0_pay16 zv) (k0_pay17 zv) w b
/-- The gradient of the first half's block. -/
def duG : FVec Ideal S128x128 .bf16 := k0_pay33 (k0_pay12 zu) (k0_pay25 (vnG zv w b) wm bs) (k0_pay26 y)
/-- The gradient of the second half's block. -/
def dvG : FVec Ideal S128x128 .bf16 :=
  k0_pay34 (k0_pay20 (k0_pay14 zv) (k0_pay15 zv) (k0_pay16 zv) (k0_pay17 zv)) (k0_pay30 (k0_pay13 zu) w (rsG zv) (vhG zv) y wm)
/-- What the block adds to the layer norm's scale. -/
def lnwG : FVec Ideal S1x128 .f32 := k0_pay31 (k0_pay13 zu) (vhG zv) y wm
/-- What it adds to the layer norm's offset. -/
def lnbG : FVec Ideal S1x128 .f32 := k0_pay32 (k0_pay13 zu) y wm
/-- What it adds to the mixing matrix, before the mask. -/
def wsG : FVec Ideal S128x128 .f32 := k0_pay28 (k0_pay13 zu) (vnG zv w b) y
/-- What it adds to the bias, before the sum over channels. -/
def bsG : FVec Ideal S128x128 .f32 := k0_pay27 (k0_pay13 zu) y

end Functions

section Blocks

variable {sig : RefSig} {κ : Kind} {sp : Space}

/-- Token `a` of block `k`, channel `b` of group `g`, in the first half. -/
def uIx (k : Fin 8) (a : Fin 128) (g : Fin 8) (b : Fin 128) : S1024x2048.Idx :=
  ix2 (⟨128 * k.val + a.val, by omega⟩ : Fin 1024) (⟨128 * g.val + b.val, by omega⟩ : Fin 2048)

/-- The same in the second half. -/
def vIx (k : Fin 8) (a : Fin 128) (g : Fin 8) (b : Fin 128) : S1024x2048.Idx :=
  ix2 (⟨128 * k.val + a.val, by omega⟩ : Fin 1024) (⟨1024 + 128 * g.val + b.val, by omega⟩ : Fin 2048)

variable (v : View sig κ sp S1024x2048 .bf16) (f : v.ty.Contents (Elt Ideal)) {off : Fin 2 → ℕ} (k g : Fin 8)
  (inb : ∀ i, off i + S128x128.size i ≤ S1024x2048.size i)
  (w : Vec Ideal S128x128 .bf16) (L : List (View.Piece (Elt Ideal) S1024x2048 .bf16)) (k' : Fin 8) (a : Fin 128) (g' : Fin 8) (b : Fin 128)

theorem cons_u_at_u (h : off = ![128 * k.val, 128 * g.val]) :
    v.read (Elt Ideal) (v.writes (Elt Ideal) f (⟨Rect.unit (s := S1024x2048) off S128x128.size inb, w⟩ :: L)) (uIx k' a g' b)
      = if k' = k ∧ g' = g then w (ix2 a b) else v.read (Elt Ideal) (v.writes (Elt Ideal) f L) (uIx k' a g' b) := by
  split_ifs with hr
  · obtain ⟨rfl, rfl⟩ := hr
    refine View.read_writes_cons_unit_of_mem v f inb w L _ (ix2 a b) h fun i => ?_
    match i with
    | ⟨0, _⟩ => rfl
    | ⟨1, _⟩ => rfl
  · rcases not_and_or.mp hr with hk | hk
    · refine View.read_writes_cons_unit_of_not_mem v f inb w L _ h 0 ?_
      show 128 * k'.val + a.val < 128 * k.val ∨ 128 * k.val + 128 ≤ 128 * k'.val + a.val
      have := Fin.val_ne_of_ne hk
      omega
    · refine View.read_writes_cons_unit_of_not_mem v f inb w L _ h 1 ?_
      show 128 * g'.val + b.val < 128 * g.val ∨ 128 * g.val + 128 ≤ 128 * g'.val + b.val
      have := Fin.val_ne_of_ne hk
      omega

theorem cons_u_at_v (h : off = ![128 * k.val, 128 * g.val]) :
    v.read (Elt Ideal) (v.writes (Elt Ideal) f (⟨Rect.unit (s := S1024x2048) off S128x128.size inb, w⟩ :: L)) (vIx k' a g' b)
      = v.read (Elt Ideal) (v.writes (Elt Ideal) f L) (vIx k' a g' b) := by
  refine View.read_writes_cons_unit_of_not_mem v f inb w L _ h 1 ?_
  show 1024 + 128 * g'.val + b.val < 128 * g.val ∨ 128 * g.val + 128 ≤ 1024 + 128 * g'.val + b.val
  omega

theorem cons_v_at_u (h : off = ![128 * k.val, 1024 + 128 * g.val]) :
    v.read (Elt Ideal) (v.writes (Elt Ideal) f (⟨Rect.unit (s := S1024x2048) off S128x128.size inb, w⟩ :: L)) (uIx k' a g' b)
      = v.read (Elt Ideal) (v.writes (Elt Ideal) f L) (uIx k' a g' b) := by
  refine View.read_writes_cons_unit_of_not_mem v f inb w L _ h 1 ?_
  show 128 * g'.val + b.val < 1024 + 128 * g.val ∨ 1024 + 128 * g.val + 128 ≤ 128 * g'.val + b.val
  omega

theorem cons_v_at_v (h : off = ![128 * k.val, 1024 + 128 * g.val]) :
    v.read (Elt Ideal) (v.writes (Elt Ideal) f (⟨Rect.unit (s := S1024x2048) off S128x128.size inb, w⟩ :: L)) (vIx k' a g' b)
      = if k' = k ∧ g' = g then w (ix2 a b) else v.read (Elt Ideal) (v.writes (Elt Ideal) f L) (vIx k' a g' b) := by
  split_ifs with hr
  · obtain ⟨rfl, rfl⟩ := hr
    refine View.read_writes_cons_unit_of_mem v f inb w L _ (ix2 a b) h fun i => ?_
    match i with
    | ⟨0, _⟩ => rfl
    | ⟨1, _⟩ => rfl
  · rcases not_and_or.mp hr with hk | hk
    · refine View.read_writes_cons_unit_of_not_mem v f inb w L _ h 0 ?_
      show 128 * k'.val + a.val < 128 * k.val ∨ 128 * k.val + 128 ≤ 128 * k'.val + a.val
      have := Fin.val_ne_of_ne hk
      omega
    · refine View.read_writes_cons_unit_of_not_mem v f inb w L _ h 1 ?_
      show 1024 + 128 * g'.val + b.val < 1024 + 128 * g.val ∨ 1024 + 128 * g.val + 128 ≤ 1024 + 128 * g'.val + b.val
      have := Fin.val_ne_of_ne hk
      omega

theorem read_blocks_u (ou ov : Fin 8 → Fin 2 → ℕ) (hu : ∀ g : Fin 8, ou g = ![128 * k.val, 128 * g.val]) (hv : ∀ g : Fin 8, ov g = ![128 * k.val, 1024 + 128 * g.val])
    (iu : ∀ g, ∀ i, ou g i + S128x128.size i ≤ S1024x2048.size i) (iv : ∀ g, ∀ i, ov g i + S128x128.size i ≤ S1024x2048.size i)
    (pu pv : Fin 8 → Vec Ideal S128x128 .bf16) :
    v.read (Elt Ideal) (v.writes (Elt Ideal) f
      [⟨Rect.unit (s := S1024x2048) (ov 7) S128x128.size (iv 7), pv 7⟩, ⟨Rect.unit (s := S1024x2048) (ou 7) S128x128.size (iu 7), pu 7⟩,
       ⟨Rect.unit (s := S1024x2048) (ov 6) S128x128.size (iv 6), pv 6⟩, ⟨Rect.unit (s := S1024x2048) (ou 6) S128x128.size (iu 6), pu 6⟩,
       ⟨Rect.unit (s := S1024x2048) (ov 5) S128x128.size (iv 5), pv 5⟩, ⟨Rect.unit (s := S1024x2048) (ou 5) S128x128.size (iu 5), pu 5⟩,
       ⟨Rect.unit (s := S1024x2048) (ov 4) S128x128.size (iv 4), pv 4⟩, ⟨Rect.unit (s := S1024x2048) (ou 4) S128x128.size (iu 4), pu 4⟩,
       ⟨Rect.unit (s := S1024x2048) (ov 3) S128x128.size (iv 3), pv 3⟩, ⟨Rect.unit (s := S1024x2048) (ou 3) S128x128.size (iu 3), pu 3⟩,
       ⟨Rect.unit (s := S1024x2048) (ov 2) S128x128.size (iv 2), pv 2⟩, ⟨Rect.unit (s := S1024x2048) (ou 2) S128x128.size (iu 2), pu 2⟩,
       ⟨Rect.unit (s := S1024x2048) (ov 1) S128x128.size (iv 1), pv 1⟩, ⟨Rect.unit (s := S1024x2048) (ou 1) S128x128.size (iu 1), pu 1⟩,
       ⟨Rect.unit (s := S1024x2048) (ov 0) S128x128.size (iv 0), pv 0⟩, ⟨Rect.unit (s := S1024x2048) (ou 0) S128x128.size (iu 0), pu 0⟩]) (uIx k' a g' b)
      = if k' = k then pu g' (ix2 a b) else v.read (Elt Ideal) f (uIx k' a g' b) := by
  rw [cons_v_at_u v f k 7 (iv 7) _ _ _ _ _ _ (hv 7), cons_u_at_u v f k 7 (iu 7) _ _ _ _ _ _ (hu 7), cons_v_at_u v f k 6 (iv 6) _ _ _ _ _ _ (hv 6), cons_u_at_u v f k 6 (iu 6) _ _ _ _ _ _ (hu 6), cons_v_at_u v f k 5 (iv 5) _ _ _ _ _ _ (hv 5), cons_u_at_u v f k 5 (iu 5) _ _ _ _ _ _ (hu 5), cons_v_at_u v f k 4 (iv 4) _ _ _ _ _ _ (hv 4), cons_u_at_u v f k 4 (iu 4) _ _ _ _ _ _ (hu 4), cons_v_at_u v f k 3 (iv 3) _ _ _ _ _ _ (hv 3), cons_u_at_u v f k 3 (iu 3) _ _ _ _ _ _ (hu 3), cons_v_at_u v f k 2 (iv 2) _ _ _ _ _ _ (hv 2), cons_u_at_u v f k 2 (iu 2) _ _ _ _ _ _ (hu 2), cons_v_at_u v f k 1 (iv 1) _ _ _ _ _ _ (hv 1), cons_u_at_u v f k 1 (iu 1) _ _ _ _ _ _ (hu 1), cons_v_at_u v f k 0 (iv 0) _ _ _ _ _ _ (hv 0), cons_u_at_u v f k 0 (iu 0) _ _ _ _ _ _ (hu 0)]
  by_cases hk : k' = k
  · subst hk
    simp only [true_and, if_true]
    split_ifs with h7 h6 h5 h4 h3 h2 h1 h0
    all_goals first
      | (subst_vars; rfl)
      | (exfalso; fin_cases g'
         exacts [h0 rfl, h1 rfl, h2 rfl, h3 rfl, h4 rfl, h5 rfl, h6 rfl, h7 rfl])
  · simp only [hk, false_and, if_false]
    rfl

theorem read_blocks_v (ou ov : Fin 8 → Fin 2 → ℕ) (hu : ∀ g : Fin 8, ou g = ![128 * k.val, 128 * g.val]) (hv : ∀ g : Fin 8, ov g = ![128 * k.val, 1024 + 128 * g.val])
    (iu : ∀ g, ∀ i, ou g i + S128x128.size i ≤ S1024x2048.size i) (iv : ∀ g, ∀ i, ov g i + S128x128.size i ≤ S1024x2048.size i)
    (pu pv : Fin 8 → Vec Ideal S128x128 .bf16) :
    v.read (Elt Ideal) (v.writes (Elt Ideal) f
      [⟨Rect.unit (s := S1024x2048) (ov 7) S128x128.size (iv 7), pv 7⟩, ⟨Rect.unit (s := S1024x2048) (ou 7) S128x128.size (iu 7), pu 7⟩,
       ⟨Rect.unit (s := S1024x2048) (ov 6) S128x128.size (iv 6), pv 6⟩, ⟨Rect.unit (s := S1024x2048) (ou 6) S128x128.size (iu 6), pu 6⟩,
       ⟨Rect.unit (s := S1024x2048) (ov 5) S128x128.size (iv 5), pv 5⟩, ⟨Rect.unit (s := S1024x2048) (ou 5) S128x128.size (iu 5), pu 5⟩,
       ⟨Rect.unit (s := S1024x2048) (ov 4) S128x128.size (iv 4), pv 4⟩, ⟨Rect.unit (s := S1024x2048) (ou 4) S128x128.size (iu 4), pu 4⟩,
       ⟨Rect.unit (s := S1024x2048) (ov 3) S128x128.size (iv 3), pv 3⟩, ⟨Rect.unit (s := S1024x2048) (ou 3) S128x128.size (iu 3), pu 3⟩,
       ⟨Rect.unit (s := S1024x2048) (ov 2) S128x128.size (iv 2), pv 2⟩, ⟨Rect.unit (s := S1024x2048) (ou 2) S128x128.size (iu 2), pu 2⟩,
       ⟨Rect.unit (s := S1024x2048) (ov 1) S128x128.size (iv 1), pv 1⟩, ⟨Rect.unit (s := S1024x2048) (ou 1) S128x128.size (iu 1), pu 1⟩,
       ⟨Rect.unit (s := S1024x2048) (ov 0) S128x128.size (iv 0), pv 0⟩, ⟨Rect.unit (s := S1024x2048) (ou 0) S128x128.size (iu 0), pu 0⟩]) (vIx k' a g' b)
      = if k' = k then pv g' (ix2 a b) else v.read (Elt Ideal) f (vIx k' a g' b) := by
  rw [cons_v_at_v v f k 7 (iv 7) _ _ _ _ _ _ (hv 7), cons_u_at_v v f k 7 (iu 7) _ _ _ _ _ _ (hu 7), cons_v_at_v v f k 6 (iv 6) _ _ _ _ _ _ (hv 6), cons_u_at_v v f k 6 (iu 6) _ _ _ _ _ _ (hu 6), cons_v_at_v v f k 5 (iv 5) _ _ _ _ _ _ (hv 5), cons_u_at_v v f k 5 (iu 5) _ _ _ _ _ _ (hu 5), cons_v_at_v v f k 4 (iv 4) _ _ _ _ _ _ (hv 4), cons_u_at_v v f k 4 (iu 4) _ _ _ _ _ _ (hu 4), cons_v_at_v v f k 3 (iv 3) _ _ _ _ _ _ (hv 3), cons_u_at_v v f k 3 (iu 3) _ _ _ _ _ _ (hu 3), cons_v_at_v v f k 2 (iv 2) _ _ _ _ _ _ (hv 2), cons_u_at_v v f k 2 (iu 2) _ _ _ _ _ _ (hu 2), cons_v_at_v v f k 1 (iv 1) _ _ _ _ _ _ (hv 1), cons_u_at_v v f k 1 (iu 1) _ _ _ _ _ _ (hu 1), cons_v_at_v v f k 0 (iv 0) _ _ _ _ _ _ (hv 0), cons_u_at_v v f k 0 (iu 0) _ _ _ _ _ _ (hu 0)]
  by_cases hk : k' = k
  · subst hk
    simp only [true_and, if_true]
    split_ifs with h7 h6 h5 h4 h3 h2 h1 h0
    all_goals first
      | (subst_vars; rfl)
      | (exfalso; fin_cases g'
         exacts [h0 rfl, h1 rfl, h2 rfl, h3 rfl, h4 rfl, h5 rfl, h6 rfl, h7 rfl])
  · simp only [hk, false_and, if_false]
    rfl

end Blocks

section Trip

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (v50 : IVec S128x128 1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty)

theorem trip8 (r : Fin 8) (a : Fin 128) :
    arg8.view.read (Elt Ideal) (arg8.view.writes (Elt Ideal) f_arg8 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.1 f_arg7 f_arg8 f_arg9 f_arg10 f_arg11 )) (ix2 r a)
      = (fun g : Fin 8 => k0_pay35 (lnwG (zuB (arg1.view.read (Elt Ideal) X_arg1) (tok k) g) (zvB (arg1.view.read (Elt Ideal) X_arg1) (tok k) g) (doB (arg2.view.read (Elt Ideal) X_arg2) (tok k) g) (matB (arg12.view.read (Elt Ideal) X_arg12) g)) (rowB (arg8.view.read (Elt Ideal) f_arg8) g)) r (ix2 0 a) := by
  refine (congrArg (fun L => arg8.view.read (Elt Ideal) (arg8.view.writes (Elt Ideal) f_arg8 L) _) ?_).trans
    (read_rows arg8.view f_arg8 (fun g : Fin 8 => k0_pay35 (lnwG (zuB (arg1.view.read (Elt Ideal) X_arg1) (tok k) g) (zvB (arg1.view.read (Elt Ideal) X_arg1) (tok k) g) (doB (arg2.view.read (Elt Ideal) X_arg2) (tok k) g) (matB (arg12.view.read (Elt Ideal) X_arg12) g)) (rowB (arg8.view.read (Elt Ideal) f_arg8) g))
      (by decide) (by decide) (by decide) (by decide) (by decide) (by decide) (by decide) (by decide) r a)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_row arg8.view f_arg8 0 (off := ![0, 0]) rfl, ld_row arg8.view f_arg8 1 (off := ![1, 0]) rfl, ld_row arg8.view f_arg8 2 (off := ![2, 0]) rfl, ld_row arg8.view f_arg8 3 (off := ![3, 0]) rfl, ld_row arg8.view f_arg8 4 (off := ![4, 0]) rfl, ld_row arg8.view f_arg8 5 (off := ![5, 0]) rfl, ld_row arg8.view f_arg8 6 (off := ![6, 0]) rfl, ld_row arg8.view f_arg8 7 (off := ![7, 0]) rfl]
  rfl

theorem trip9 (r : Fin 8) (a : Fin 128) :
    arg9.view.read (Elt Ideal) (arg9.view.writes (Elt Ideal) f_arg9 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.1 f_arg7 f_arg8 f_arg9 f_arg10 f_arg11 )) (ix2 r a)
      = (fun g : Fin 8 => k0_pay36 (lnbG (zuB (arg1.view.read (Elt Ideal) X_arg1) (tok k) g) (doB (arg2.view.read (Elt Ideal) X_arg2) (tok k) g) (matB (arg12.view.read (Elt Ideal) X_arg12) g)) (rowB (arg9.view.read (Elt Ideal) f_arg9) g)) r (ix2 0 a) := by
  refine (congrArg (fun L => arg9.view.read (Elt Ideal) (arg9.view.writes (Elt Ideal) f_arg9 L) _) ?_).trans
    (read_rows arg9.view f_arg9 (fun g : Fin 8 => k0_pay36 (lnbG (zuB (arg1.view.read (Elt Ideal) X_arg1) (tok k) g) (doB (arg2.view.read (Elt Ideal) X_arg2) (tok k) g) (matB (arg12.view.read (Elt Ideal) X_arg12) g)) (rowB (arg9.view.read (Elt Ideal) f_arg9) g))
      (by decide) (by decide) (by decide) (by decide) (by decide) (by decide) (by decide) (by decide) r a)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_row arg9.view f_arg9 0 (off := ![0, 0]) rfl, ld_row arg9.view f_arg9 1 (off := ![1, 0]) rfl, ld_row arg9.view f_arg9 2 (off := ![2, 0]) rfl, ld_row arg9.view f_arg9 3 (off := ![3, 0]) rfl, ld_row arg9.view f_arg9 4 (off := ![4, 0]) rfl, ld_row arg9.view f_arg9 5 (off := ![5, 0]) rfl, ld_row arg9.view f_arg9 6 (off := ![6, 0]) rfl, ld_row arg9.view f_arg9 7 (off := ![7, 0]) rfl]
  rfl

theorem trip10 (r : Fin 8) (a b : Fin 128) :
    arg10.view.read (Elt Ideal) (arg10.view.writes (Elt Ideal) f_arg10 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.1 f_arg7 f_arg8 f_arg9 f_arg10 f_arg11 )) (ix3 r a b)
      = (fun g : Fin 8 => k0_pay37 v50 (wsG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (rowB (arg4.view.read (Elt Ideal) X_arg4) g)) (matB (arg10.view.read (Elt Ideal) f_arg10) g)) r (ix3 0 a b) := by
  refine (congrArg (fun L => arg10.view.read (Elt Ideal) (arg10.view.writes (Elt Ideal) f_arg10 L) _) ?_).trans
    (read_mats arg10.view f_arg10 (fun g : Fin 8 => k0_pay37 v50 (wsG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (rowB (arg4.view.read (Elt Ideal) X_arg4) g)) (matB (arg10.view.read (Elt Ideal) f_arg10) g))
      (by decide) (by decide) (by decide) (by decide) (by decide) (by decide) (by decide) (by decide) r a b)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg10.view f_arg10 0 (off := ![0, 0, 0]) rfl, ld_mat arg10.view f_arg10 1 (off := ![1, 0, 0]) rfl, ld_mat arg10.view f_arg10 2 (off := ![2, 0, 0]) rfl, ld_mat arg10.view f_arg10 3 (off := ![3, 0, 0]) rfl, ld_mat arg10.view f_arg10 4 (off := ![4, 0, 0]) rfl, ld_mat arg10.view f_arg10 5 (off := ![5, 0, 0]) rfl, ld_mat arg10.view f_arg10 6 (off := ![6, 0, 0]) rfl, ld_mat arg10.view f_arg10 7 (off := ![7, 0, 0]) rfl]
  rfl

theorem trip11 (r : Fin 8) (a : Fin 128) (b : Fin 1) :
    arg11.view.read (Elt Ideal) (arg11.view.writes (Elt Ideal) f_arg11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.2.1 f_arg7 f_arg8 f_arg9 f_arg10 f_arg11 )) (ix3 r a b)
      = (fun g : Fin 8 => k0_pay39 (k0_pay38 (bsG (zuB (arg1.view.read (Elt Ideal) X_arg1) (tok k) g) (doB (arg2.view.read (Elt Ideal) X_arg2) (tok k) g)) (colB (arg11.view.read (Elt Ideal) f_arg11) g))) r (ix3 0 a b) := by
  refine (congrArg (fun L => arg11.view.read (Elt Ideal) (arg11.view.writes (Elt Ideal) f_arg11 L) _) ?_).trans
    (read_cols arg11.view f_arg11 (fun g : Fin 8 => k0_pay39 (k0_pay38 (bsG (zuB (arg1.view.read (Elt Ideal) X_arg1) (tok k) g) (doB (arg2.view.read (Elt Ideal) X_arg2) (tok k) g)) (colB (arg11.view.read (Elt Ideal) f_arg11) g)))
      (by decide) (by decide) (by decide) (by decide) (by decide) (by decide) (by decide) (by decide) r a b)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_col arg11.view f_arg11 0 (off := ![0, 0, 0]) rfl, ld_col arg11.view f_arg11 1 (off := ![1, 0, 0]) rfl, ld_col arg11.view f_arg11 2 (off := ![2, 0, 0]) rfl, ld_col arg11.view f_arg11 3 (off := ![3, 0, 0]) rfl, ld_col arg11.view f_arg11 4 (off := ![4, 0, 0]) rfl, ld_col arg11.view f_arg11 5 (off := ![5, 0, 0]) rfl, ld_col arg11.view f_arg11 6 (off := ![6, 0, 0]) rfl, ld_col arg11.view f_arg11 7 (off := ![7, 0, 0]) rfl]
  rfl

theorem trip7u (k' : Fin 8) (a : Fin 128) (g' : Fin 8) (b : Fin 128) :
    arg7.view.read (Elt Ideal) (arg7.view.writes (Elt Ideal) f_arg7 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).1 f_arg7 f_arg8 f_arg9 f_arg10 f_arg11 )) (uIx k' a g' b)
      = if k' = tok k then (fun g => duG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (rowB (arg4.view.read (Elt Ideal) X_arg4) g) (matB (arg12.view.read (Elt Ideal) X_arg12) g) (colB (arg6.view.read (Elt Ideal) X_arg6) g)) g' (ix2 a b) else arg7.view.read (Elt Ideal) f_arg7 (uIx k' a g' b) := by
  refine (congrArg (fun L => arg7.view.read (Elt Ideal) (arg7.view.writes (Elt Ideal) f_arg7 L) _) ?_).trans
    (read_blocks_u arg7.view f_arg7 (tok k) k' a g' b ![k0_off1 k, k0_off4 k, k0_off7 k, k0_off10 k, k0_off13 k, k0_off16 k, k0_off19 k, k0_off22 k] ![k0_off2 k, k0_off5 k, k0_off8 k, k0_off11 k, k0_off14 k, k0_off17 k, k0_off20 k, k0_off23 k]
      (fun g => by fin_cases g; exacts [k0_off1_eq k, k0_off4_eq k, k0_off7_eq k, k0_off10_eq k, k0_off13_eq k, k0_off16_eq k, k0_off19_eq k, k0_off22_eq k]) (fun g => by fin_cases g; exacts [k0_off2_eq k, k0_off5_eq k, k0_off8_eq k, k0_off11_eq k, k0_off14_eq k, k0_off17_eq k, k0_off20_eq k, k0_off23_eq k])
      (fun g => by fin_cases g; exacts [Facts₀.k0_off1_inb k, Facts₀.k0_off4_inb k, Facts₀.k0_off7_inb k, Facts₀.k0_off10_inb k, Facts₀.k0_off13_inb k, Facts₀.k0_off16_inb k, Facts₀.k0_off19_inb k, Facts₀.k0_off22_inb k]) (fun g => by fin_cases g; exacts [Facts₀.k0_off2_inb k, Facts₀.k0_off5_inb k, Facts₀.k0_off8_inb k, Facts₀.k0_off11_inb k, Facts₀.k0_off14_inb k, Facts₀.k0_off17_inb k, Facts₀.k0_off20_inb k, Facts₀.k0_off23_inb k])
      (fun g => duG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (rowB (arg4.view.read (Elt Ideal) X_arg4) g) (matB (arg12.view.read (Elt Ideal) X_arg12) g) (colB (arg6.view.read (Elt Ideal) X_arg6) g)) (fun g => dvG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (matB (arg12.view.read (Elt Ideal) X_arg12) g)))
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_col arg6.view X_arg6 0 (off := ![0, 0, 0]) rfl, ld_col arg6.view X_arg6 1 (off := ![1, 0, 0]) rfl, ld_col arg6.view X_arg6 2 (off := ![2, 0, 0]) rfl, ld_col arg6.view X_arg6 3 (off := ![3, 0, 0]) rfl, ld_col arg6.view X_arg6 4 (off := ![4, 0, 0]) rfl, ld_col arg6.view X_arg6 5 (off := ![5, 0, 0]) rfl, ld_col arg6.view X_arg6 6 (off := ![6, 0, 0]) rfl, ld_col arg6.view X_arg6 7 (off := ![7, 0, 0]) rfl]
  rfl

theorem trip7v (k' : Fin 8) (a : Fin 128) (g' : Fin 8) (b : Fin 128) :
    arg7.view.read (Elt Ideal) (arg7.view.writes (Elt Ideal) f_arg7 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).1 f_arg7 f_arg8 f_arg9 f_arg10 f_arg11 )) (vIx k' a g' b)
      = if k' = tok k then (fun g => dvG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (matB (arg12.view.read (Elt Ideal) X_arg12) g)) g' (ix2 a b) else arg7.view.read (Elt Ideal) f_arg7 (vIx k' a g' b) := by
  refine (congrArg (fun L => arg7.view.read (Elt Ideal) (arg7.view.writes (Elt Ideal) f_arg7 L) _) ?_).trans
    (read_blocks_v arg7.view f_arg7 (tok k) k' a g' b ![k0_off1 k, k0_off4 k, k0_off7 k, k0_off10 k, k0_off13 k, k0_off16 k, k0_off19 k, k0_off22 k] ![k0_off2 k, k0_off5 k, k0_off8 k, k0_off11 k, k0_off14 k, k0_off17 k, k0_off20 k, k0_off23 k]
      (fun g => by fin_cases g; exacts [k0_off1_eq k, k0_off4_eq k, k0_off7_eq k, k0_off10_eq k, k0_off13_eq k, k0_off16_eq k, k0_off19_eq k, k0_off22_eq k]) (fun g => by fin_cases g; exacts [k0_off2_eq k, k0_off5_eq k, k0_off8_eq k, k0_off11_eq k, k0_off14_eq k, k0_off17_eq k, k0_off20_eq k, k0_off23_eq k])
      (fun g => by fin_cases g; exacts [Facts₀.k0_off1_inb k, Facts₀.k0_off4_inb k, Facts₀.k0_off7_inb k, Facts₀.k0_off10_inb k, Facts₀.k0_off13_inb k, Facts₀.k0_off16_inb k, Facts₀.k0_off19_inb k, Facts₀.k0_off22_inb k]) (fun g => by fin_cases g; exacts [Facts₀.k0_off2_inb k, Facts₀.k0_off5_inb k, Facts₀.k0_off8_inb k, Facts₀.k0_off11_inb k, Facts₀.k0_off14_inb k, Facts₀.k0_off17_inb k, Facts₀.k0_off20_inb k, Facts₀.k0_off23_inb k])
      (fun g => duG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (rowB (arg4.view.read (Elt Ideal) X_arg4) g) (matB (arg12.view.read (Elt Ideal) X_arg12) g) (colB (arg6.view.read (Elt Ideal) X_arg6) g)) (fun g => dvG (zuB (arg1.view.read (Elt Ideal) X_arg1) (tok k) g) (zvB (arg1.view.read (Elt Ideal) X_arg1) (tok k) g) (doB (arg2.view.read (Elt Ideal) X_arg2) (tok k) g) (rowB (arg3.view.read (Elt Ideal) X_arg3) g) (matB (arg12.view.read (Elt Ideal) X_arg12) g)))
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_col arg6.view X_arg6 0 (off := ![0, 0, 0]) rfl, ld_col arg6.view X_arg6 1 (off := ![1, 0, 0]) rfl, ld_col arg6.view X_arg6 2 (off := ![2, 0, 0]) rfl, ld_col arg6.view X_arg6 3 (off := ![3, 0, 0]) rfl, ld_col arg6.view X_arg6 4 (off := ![4, 0, 0]) rfl, ld_col arg6.view X_arg6 5 (off := ![5, 0, 0]) rfl, ld_col arg6.view X_arg6 6 (off := ![6, 0, 0]) rfl, ld_col arg6.view X_arg6 7 (off := ![7, 0, 0]) rfl]
  rfl

end Trip

end Cert.KernelIdeal.Gmlp
-- ==== Proof.Gmlp.Loop.lean ====
module

public import proofs.«01_k».proof.Proof.Gmlp.Trip

/-! What the eight trips of the body's loop leave in each written buffer: the gradient of the
inputs block by block, and every accumulator raised by the eight blocks' sum. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open Idealize.SL.Sem Gen

section Terms

variable (x1 : Vec Ideal S1024x2048 .bf16) (x2 : Vec Ideal S1024x1024 .bf16) (x3 x4 : Vec Ideal S8x128 .f32)
  (x6 : Vec Ideal S8x128x1 .f32) (m : Vec Ideal S8x128x128 .bf16) (v50 : IVec S128x128 1) (k g : Fin 8)

/-- The gradient of block `k`, group `g` of the first half. -/
def uT : FVec Ideal S128x128 .bf16 := duG (zuB x1 k g) (zvB x1 k g) (doB x2 k g) (rowB x3 g) (rowB x4 g) (matB m g) (colB x6 g)
/-- The gradient of block `k`, group `g` of the second half. -/
def vT : FVec Ideal S128x128 .bf16 := dvG (zuB x1 k g) (zvB x1 k g) (doB x2 k g) (rowB x3 g) (matB m g)
/-- Block `k`'s part of the scale's gradient. -/
def t8 (a : Fin 128) : EReal := lnwG (zuB x1 k g) (zvB x1 k g) (doB x2 k g) (matB m g) (ix2 0 a)
/-- Block `k`'s part of the offset's gradient. -/
def t9 (a : Fin 128) : EReal := lnbG (zuB x1 k g) (doB x2 k g) (matB m g) (ix2 0 a)
/-- Block `k`'s part of the mixing matrix's gradient. -/
def t10 (a b : Fin 128) : EReal :=
  Scalar.select (v50 (ix2 a b)) (wsG (zuB x1 k g) (zvB x1 k g) (doB x2 k g) (rowB x3 g) (rowB x4 g) (ix2 a b)) (0 : EReal)
/-- Block `k`'s part of the bias's gradient. -/
def t11 (a : Fin 128) : EReal := ∑ b : Fin 128, bsG (zuB x1 k g) (doB x2 k g) (ix2 a b)

end Terms

theorem pay35_at (n o : FVec Ideal S1x128 .f32) (a : Fin 128) : k0_pay35 n o (ix2 0 a) = o (ix2 0 a) + n (ix2 0 a) := by
  pointwise [k0_pay35]

theorem pay36_at (n o : FVec Ideal S1x128 .f32) (a : Fin 128) : k0_pay36 n o (ix2 0 a) = o (ix2 0 a) + n (ix2 0 a) := by
  pointwise [k0_pay36]

theorem pay37_at (v50 : IVec S128x128 1) (n : FVec Ideal S128x128 .f32) (o : FVec Ideal S1x128x128 .f32) (a b : Fin 128) :
    k0_pay37 v50 n o (ix3 0 a b) = o (ix3 0 a b) + Scalar.select (v50 (ix2 a b)) (n (ix2 a b)) (0 : EReal) := by
  pointwise [k0_pay37]

theorem pay39_at (d : FVec Ideal S128x128 .f32) (o : FVec Ideal S1x128x1 .f32) (a : Fin 128) (b : Fin 1) :
    k0_pay39 (k0_pay38 d o) (ix3 0 a b) = o (ix3 0 a b) + ∑ l : Fin 128, d (ix2 a l) := by
  obtain rfl : b = 0 := Subsingleton.elim _ _
  pointwise [k0_pay39, k0_pay38]

section Loop

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (v50 : IVec S128x128 1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty)

/-- Number `k` among eight. -/
def k8 (k : ℕ) : Fin 8 := ⟨k % 8, by omega⟩

theorem k8_val (k : Fin 8) : k8 k.val = k := Fin.ext (Nat.mod_eq_of_lt k.isLt)

theorem sum_k8 (f : Fin 8 → EReal) : ∑ k ∈ Finset.range 8, f (k8 k) = ∑ k : Fin 8, f k := by
  rw [Finset.sum_range]
  exact Finset.sum_congr rfl fun k _ => congrArg f (k8_val k)

theorem step8 (r : Fin 8) (a : Fin 128) :
    arg8.view.read (Elt Ideal) (arg8.view.writes (Elt Ideal) f_arg8 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.1 f_arg7 f_arg8 f_arg9 f_arg10 f_arg11 )) (ix2 r a)
      = arg8.view.read (Elt Ideal) f_arg8 (ix2 r a) + t8 (arg1.view.read (Elt Ideal) X_arg1) (arg2.view.read (Elt Ideal) X_arg2) (arg12.view.read (Elt Ideal) X_arg12) (tok k) r a :=
  (trip8 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k f_arg7 f_arg8 f_arg9 f_arg10 f_arg11 r a).trans (pay35_at ..)

theorem loop8 (n : ℕ) (hn : n ≤ 8) (r : Fin 8) (a : Fin 128) :
    arg8.view.read (Elt Ideal) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.1) (ix2 r a)
      = arg8.view.read (Elt Ideal) G_arg8 (ix2 r a) + ∑ k ∈ Finset.range n, t8 (arg1.view.read (Elt Ideal) X_arg1) (arg2.view.read (Elt Ideal) X_arg2) (arg12.view.read (Elt Ideal) X_arg12) (k8 k) r a := by
  induction n with
  | zero => exact (add_zero _).symm
  | succ n ih =>
    have hk : n < k0_t1_loop.trips := hn
    have e : k8 n = tok ⟨n, hk⟩ := Fin.ext (Nat.mod_eq_of_lt hn)
    rw [Finset.sum_range_succ, ← add_assoc, ← ih (by omega), e]
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg8.view.read (Elt Ideal) (arg8.view.writes (Elt Ideal) G_arg8 L.2.1) _) h).trans ?_
    refine (congrFun (congrArg (arg8.view.read (Elt Ideal)) (View.writes_append ..)) _).trans ?_
    exact step8 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ r a

theorem loop8_all (r : Fin 8) (a : Fin 128) :
    arg8.view.read (Elt Ideal) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).2.1) (ix2 r a)
      = arg8.view.read (Elt Ideal) G_arg8 (ix2 r a) + ∑ k : Fin 8, t8 (arg1.view.read (Elt Ideal) X_arg1) (arg2.view.read (Elt Ideal) X_arg2) (arg12.view.read (Elt Ideal) X_arg12) k r a :=
  (loop8 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl r a).trans (congrArg _ (sum_k8 fun k => t8 (arg1.view.read (Elt Ideal) X_arg1) (arg2.view.read (Elt Ideal) X_arg2) (arg12.view.read (Elt Ideal) X_arg12) k r a))

theorem step9 (r : Fin 8) (a : Fin 128) :
    arg9.view.read (Elt Ideal) (arg9.view.writes (Elt Ideal) f_arg9 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.1 f_arg7 f_arg8 f_arg9 f_arg10 f_arg11 )) (ix2 r a)
      = arg9.view.read (Elt Ideal) f_arg9 (ix2 r a) + t9 (arg1.view.read (Elt Ideal) X_arg1) (arg2.view.read (Elt Ideal) X_arg2) (arg12.view.read (Elt Ideal) X_arg12) (tok k) r a :=
  (trip9 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k f_arg7 f_arg8 f_arg9 f_arg10 f_arg11 r a).trans (pay36_at ..)

theorem loop9 (n : ℕ) (hn : n ≤ 8) (r : Fin 8) (a : Fin 128) :
    arg9.view.read (Elt Ideal) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.1) (ix2 r a)
      = arg9.view.read (Elt Ideal) G_arg9 (ix2 r a) + ∑ k ∈ Finset.range n, t9 (arg1.view.read (Elt Ideal) X_arg1) (arg2.view.read (Elt Ideal) X_arg2) (arg12.view.read (Elt Ideal) X_arg12) (k8 k) r a := by
  induction n with
  | zero => exact (add_zero _).symm
  | succ n ih =>
    have hk : n < k0_t1_loop.trips := hn
    have e : k8 n = tok ⟨n, hk⟩ := Fin.ext (Nat.mod_eq_of_lt hn)
    rw [Finset.sum_range_succ, ← add_assoc, ← ih (by omega), e]
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg9.view.read (Elt Ideal) (arg9.view.writes (Elt Ideal) G_arg9 L.2.2.1) _) h).trans ?_
    refine (congrFun (congrArg (arg9.view.read (Elt Ideal)) (View.writes_append ..)) _).trans ?_
    exact step9 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ r a

theorem loop9_all (r : Fin 8) (a : Fin 128) :
    arg9.view.read (Elt Ideal) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).2.2.1) (ix2 r a)
      = arg9.view.read (Elt Ideal) G_arg9 (ix2 r a) + ∑ k : Fin 8, t9 (arg1.view.read (Elt Ideal) X_arg1) (arg2.view.read (Elt Ideal) X_arg2) (arg12.view.read (Elt Ideal) X_arg12) k r a :=
  (loop9 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl r a).trans (congrArg _ (sum_k8 fun k => t9 (arg1.view.read (Elt Ideal) X_arg1) (arg2.view.read (Elt Ideal) X_arg2) (arg12.view.read (Elt Ideal) X_arg12) k r a))

theorem step10 (r : Fin 8) (a b : Fin 128) :
    arg10.view.read (Elt Ideal) (arg10.view.writes (Elt Ideal) f_arg10 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.1 f_arg7 f_arg8 f_arg9 f_arg10 f_arg11 )) (ix3 r a b)
      = arg10.view.read (Elt Ideal) f_arg10 (ix3 r a b) + t10 (arg1.view.read (Elt Ideal) X_arg1) (arg2.view.read (Elt Ideal) X_arg2) (arg3.view.read (Elt Ideal) X_arg3) (arg4.view.read (Elt Ideal) X_arg4) v50 (tok k) r a b :=
  (trip10 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k f_arg7 f_arg8 f_arg9 f_arg10 f_arg11 r a b).trans (pay37_at ..)

theorem loop10 (n : ℕ) (hn : n ≤ 8) (r : Fin 8) (a b : Fin 128) :
    arg10.view.read (Elt Ideal) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.2.1) (ix3 r a b)
      = arg10.view.read (Elt Ideal) G_arg10 (ix3 r a b) + ∑ k ∈ Finset.range n, t10 (arg1.view.read (Elt Ideal) X_arg1) (arg2.view.read (Elt Ideal) X_arg2) (arg3.view.read (Elt Ideal) X_arg3) (arg4.view.read (Elt Ideal) X_arg4) v50 (k8 k) r a b := by
  induction n with
  | zero => exact (add_zero _).symm
  | succ n ih =>
    have hk : n < k0_t1_loop.trips := hn
    have e : k8 n = tok ⟨n, hk⟩ := Fin.ext (Nat.mod_eq_of_lt hn)
    rw [Finset.sum_range_succ, ← add_assoc, ← ih (by omega), e]
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg10.view.read (Elt Ideal) (arg10.view.writes (Elt Ideal) G_arg10 L.2.2.2.1) _) h).trans ?_
    refine (congrFun (congrArg (arg10.view.read (Elt Ideal)) (View.writes_append ..)) _).trans ?_
    exact step10 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ r a b

theorem loop10_all (r : Fin 8) (a b : Fin 128) :
    arg10.view.read (Elt Ideal) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).2.2.2.1) (ix3 r a b)
      = arg10.view.read (Elt Ideal) G_arg10 (ix3 r a b) + ∑ k : Fin 8, t10 (arg1.view.read (Elt Ideal) X_arg1) (arg2.view.read (Elt Ideal) X_arg2) (arg3.view.read (Elt Ideal) X_arg3) (arg4.view.read (Elt Ideal) X_arg4) v50 k r a b :=
  (loop10 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl r a b).trans (congrArg _ (sum_k8 fun k => t10 (arg1.view.read (Elt Ideal) X_arg1) (arg2.view.read (Elt Ideal) X_arg2) (arg3.view.read (Elt Ideal) X_arg3) (arg4.view.read (Elt Ideal) X_arg4) v50 k r a b))

theorem step11 (r : Fin 8) (a : Fin 128) (b : Fin 1) :
    arg11.view.read (Elt Ideal) (arg11.view.writes (Elt Ideal) f_arg11 ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.2.1 f_arg7 f_arg8 f_arg9 f_arg10 f_arg11 )) (ix3 r a b)
      = arg11.view.read (Elt Ideal) f_arg11 (ix3 r a b) + t11 (arg1.view.read (Elt Ideal) X_arg1) (arg2.view.read (Elt Ideal) X_arg2) (tok k) r a :=
  (trip11 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k f_arg7 f_arg8 f_arg9 f_arg10 f_arg11 r a b).trans (pay39_at ..)

theorem loop11 (n : ℕ) (hn : n ≤ 8) (r : Fin 8) (a : Fin 128) (b : Fin 1) :
    arg11.view.read (Elt Ideal) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.2.2) (ix3 r a b)
      = arg11.view.read (Elt Ideal) G_arg11 (ix3 r a b) + ∑ k ∈ Finset.range n, t11 (arg1.view.read (Elt Ideal) X_arg1) (arg2.view.read (Elt Ideal) X_arg2) (k8 k) r a := by
  induction n with
  | zero => exact (add_zero _).symm
  | succ n ih =>
    have hk : n < k0_t1_loop.trips := hn
    have e : k8 n = tok ⟨n, hk⟩ := Fin.ext (Nat.mod_eq_of_lt hn)
    rw [Finset.sum_range_succ, ← add_assoc, ← ih (by omega), e]
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg11.view.read (Elt Ideal) (arg11.view.writes (Elt Ideal) G_arg11 L.2.2.2.2) _) h).trans ?_
    refine (congrFun (congrArg (arg11.view.read (Elt Ideal)) (View.writes_append ..)) _).trans ?_
    exact step11 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ r a b

theorem loop11_all (r : Fin 8) (a : Fin 128) (b : Fin 1) :
    arg11.view.read (Elt Ideal) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).2.2.2.2) (ix3 r a b)
      = arg11.view.read (Elt Ideal) G_arg11 (ix3 r a b) + ∑ k : Fin 8, t11 (arg1.view.read (Elt Ideal) X_arg1) (arg2.view.read (Elt Ideal) X_arg2) k r a :=
  (loop11 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl r a b).trans (congrArg _ (sum_k8 fun k => t11 (arg1.view.read (Elt Ideal) X_arg1) (arg2.view.read (Elt Ideal) X_arg2) k r a))

theorem loop7u (n : ℕ) (hn : n ≤ 8) (k' : Fin 8) (a : Fin 128) (g : Fin 8) (b : Fin 128) :
    arg7.view.read (Elt Ideal) (arg7.view.writes (Elt Ideal) G_arg7 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).1) (uIx k' a g b)
      = if k'.val < n then uT (arg1.view.read (Elt Ideal) X_arg1) (arg2.view.read (Elt Ideal) X_arg2) (arg3.view.read (Elt Ideal) X_arg3) (arg4.view.read (Elt Ideal) X_arg4) (arg6.view.read (Elt Ideal) X_arg6) (arg12.view.read (Elt Ideal) X_arg12) k' g (ix2 a b) else arg7.view.read (Elt Ideal) G_arg7 (uIx k' a g b) := by
  induction n with
  | zero => exact (if_neg (Nat.not_lt_zero _)).symm
  | succ n ih =>
    have hk : n < k0_t1_loop.trips := hn
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg7.view.read (Elt Ideal) (arg7.view.writes (Elt Ideal) G_arg7 L.1) _) h).trans ?_
    refine (congrFun (congrArg (arg7.view.read (Elt Ideal)) (View.writes_append ..)) _).trans ?_
    refine (trip7u 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ k' a g b).trans ?_
    by_cases hc : k'.val = n
    · have e : k' = tok ⟨n, hk⟩ := Fin.ext hc
      rw [if_pos e, if_pos (by omega : k'.val < n + 1), e]
      rfl
    · have e : k' ≠ tok ⟨n, hk⟩ := fun h => hc (congrArg Fin.val h)
      rw [if_neg e, ih (by omega)]
      exact if_congr (by omega) rfl rfl

theorem loop7u_all (k : Fin 8) (a : Fin 128) (g : Fin 8) (b : Fin 128) :
    arg7.view.read (Elt Ideal) (arg7.view.writes (Elt Ideal) G_arg7 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).1) (uIx k a g b)
      = uT (arg1.view.read (Elt Ideal) X_arg1) (arg2.view.read (Elt Ideal) X_arg2) (arg3.view.read (Elt Ideal) X_arg3) (arg4.view.read (Elt Ideal) X_arg4) (arg6.view.read (Elt Ideal) X_arg6) (arg12.view.read (Elt Ideal) X_arg12) k g (ix2 a b) :=
  (loop7u 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl k a g b).trans (if_pos k.isLt)

theorem loop7v (n : ℕ) (hn : n ≤ 8) (k' : Fin 8) (a : Fin 128) (g : Fin 8) (b : Fin 128) :
    arg7.view.read (Elt Ideal) (arg7.view.writes (Elt Ideal) G_arg7 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).1) (vIx k' a g b)
      = if k'.val < n then vT (arg1.view.read (Elt Ideal) X_arg1) (arg2.view.read (Elt Ideal) X_arg2) (arg3.view.read (Elt Ideal) X_arg3) (arg12.view.read (Elt Ideal) X_arg12) k' g (ix2 a b) else arg7.view.read (Elt Ideal) G_arg7 (vIx k' a g b) := by
  induction n with
  | zero => exact (if_neg (Nat.not_lt_zero _)).symm
  | succ n ih =>
    have hk : n < k0_t1_loop.trips := hn
    have h := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg7.view.read (Elt Ideal) (arg7.view.writes (Elt Ideal) G_arg7 L.1) _) h).trans ?_
    refine (congrFun (congrArg (arg7.view.read (Elt Ideal)) (View.writes_append ..)) _).trans ?_
    refine (trip7v 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ k' a g b).trans ?_
    by_cases hc : k'.val = n
    · have e : k' = tok ⟨n, hk⟩ := Fin.ext hc
      rw [if_pos e, if_pos (by omega : k'.val < n + 1), e]
      rfl
    · have e : k' ≠ tok ⟨n, hk⟩ := fun h => hc (congrArg Fin.val h)
      rw [if_neg e, ih (by omega)]
      exact if_congr (by omega) rfl rfl

theorem loop7v_all (k : Fin 8) (a : Fin 128) (g : Fin 8) (b : Fin 128) :
    arg7.view.read (Elt Ideal) (arg7.view.writes (Elt Ideal) G_arg7 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).1) (vIx k a g b)
      = vT (arg1.view.read (Elt Ideal) X_arg1) (arg2.view.read (Elt Ideal) X_arg2) (arg3.view.read (Elt Ideal) X_arg3) (arg12.view.read (Elt Ideal) X_arg12) k g (ix2 a b) :=
  (loop7v 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl k a g b).trans (if_pos k.isLt)

end Loop

end Cert.KernelIdeal.Gmlp
-- ==== Proof.Gmlp.Blocks.lean ====
module

public import proofs.«01_k».proof.Proof.Gmlp.Loop

/-! What one grid point leaves in each output block, as functions of the blocks it reads and of what the
accumulators held before. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

/-- The mask the body draws: token pairs of one chunk order. -/
def maskK : IVec S128x128 1 := k0_pay254 k0_pay250 k0_pay251 k0_pay252 k0_pay253

/-- The eight mixing matrices under the mask. -/
def mixB (x5 : Vec Ideal S8x128x128 .f32) : Vec Ideal S8x128x128 .bf16 := fun j =>
  Scalar.select (maskK (ix2 (j 1) (j 2))) (x5 j) (0 : EReal)

theorem pay1_at (v50 : IVec S128x128 1) (w : Vec Ideal S1x128x128 .f32) (a b : Fin 128) :
    k0_pay1 v50 w (ix3 0 a b) = Scalar.select (v50 (ix2 a b)) (w (ix3 0 a b)) (0 : EReal) := by
  pointwise [k0_pay1]

section Blocks

variable (x1 : Vec Ideal S1024x2048 .bf16) (x2 : Vec Ideal S1024x1024 .bf16) (x3 x4 : Vec Ideal S8x128 .f32)
  (x5 : Vec Ideal S8x128x128 .f32) (x6 : Vec Ideal S8x128x1 .f32)

/-- The inputs' gradient, the whole block of 1024 tokens. -/
def D7 : Vec Ideal S1024x2048 .bf16 := fun j =>
  if h : (j 1).val < 1024 then
    uT x1 x2 x3 x4 x6 (mixB x5) ⟨(j 0).val / 128, by have := (j 0).isLt; simp at this; omega⟩ ⟨(j 1).val / 128, by omega⟩
      (ix2 (⟨(j 0).val % 128, by omega⟩ : Fin 128) (⟨(j 1).val % 128, by omega⟩ : Fin 128))
  else
    vT x1 x2 x3 (mixB x5) ⟨(j 0).val / 128, by have := (j 0).isLt; simp at this; omega⟩
      ⟨((j 1).val - 1024) / 128, by have := (j 1).isLt; simp at this; omega⟩
      (ix2 (⟨(j 0).val % 128, by omega⟩ : Fin 128) (⟨((j 1).val - 1024) % 128, by omega⟩ : Fin 128))

theorem D7_u (k : Fin 8) (a : Fin 128) (g : Fin 8) (b : Fin 128) :
    D7 x1 x2 x3 x4 x5 x6 (uIx k a g b) = uT x1 x2 x3 x4 x6 (mixB x5) k g (ix2 a b) := by
  refine (dif_pos (show 128 * g.val + b.val < 1024 by omega)).trans ?_
  have e1 : (⟨(128 * k.val + a.val) / 128, by omega⟩ : Fin 8) = k := Fin.ext (by show (128 * k.val + a.val) / 128 = k.val; omega)
  have e2 : (⟨(128 * g.val + b.val) / 128, by omega⟩ : Fin 8) = g := Fin.ext (by show (128 * g.val + b.val) / 128 = g.val; omega)
  have e3 : (⟨(128 * k.val + a.val) % 128, by omega⟩ : Fin 128) = a := Fin.ext (by show (128 * k.val + a.val) % 128 = a.val; omega)
  have e4 : (⟨(128 * g.val + b.val) % 128, by omega⟩ : Fin 128) = b := Fin.ext (by show (128 * g.val + b.val) % 128 = b.val; omega)
  exact congr (congrArg₂ (uT x1 x2 x3 x4 x6 (mixB x5)) e1 e2) (congrArg₂ ix2 e3 e4)

theorem D7_v (k : Fin 8) (a : Fin 128) (g : Fin 8) (b : Fin 128) :
    D7 x1 x2 x3 x4 x5 x6 (vIx k a g b) = vT x1 x2 x3 (mixB x5) k g (ix2 a b) := by
  refine (dif_neg (show ¬(1024 + 128 * g.val + b.val < 1024) by omega)).trans ?_
  have e1 : (⟨(128 * k.val + a.val) / 128, by omega⟩ : Fin 8) = k := Fin.ext (by show (128 * k.val + a.val) / 128 = k.val; omega)
  have e2 : (⟨(1024 + 128 * g.val + b.val - 1024) / 128, by omega⟩ : Fin 8) = g :=
    Fin.ext (by show (1024 + 128 * g.val + b.val - 1024) / 128 = g.val; omega)
  have e3 : (⟨(128 * k.val + a.val) % 128, by omega⟩ : Fin 128) = a := Fin.ext (by show (128 * k.val + a.val) % 128 = a.val; omega)
  have e4 : (⟨(1024 + 128 * g.val + b.val - 1024) % 128, by omega⟩ : Fin 128) = b :=
    Fin.ext (by show (1024 + 128 * g.val + b.val - 1024) % 128 = b.val; omega)
  exact congr (congrArg₂ (vT x1 x2 x3 (mixB x5)) e1 e2) (congrArg₂ ix2 e3 e4)

/-- Every entry of the block lies in one half, block and group. -/
theorem uv_cases (j : S1024x2048.Idx) : (∃ k a g b, j = uIx k a g b) ∨ ∃ k a g b, j = vIx k a g b := by
  idx_vars j
  by_cases h : j1.val < 1024
  · refine .inl ⟨⟨j0.val / 128, by omega⟩, ⟨j0.val % 128, by omega⟩, ⟨j1.val / 128, by omega⟩, ⟨j1.val % 128, by omega⟩, ?_⟩
    exact congrArg₂ ix2 (Fin.ext (Nat.div_add_mod _ _).symm) (Fin.ext (Nat.div_add_mod _ _).symm)
  · refine .inr ⟨⟨j0.val / 128, by omega⟩, ⟨j0.val % 128, by omega⟩, ⟨(j1.val - 1024) / 128, by omega⟩, ⟨(j1.val - 1024) % 128, by omega⟩, ?_⟩
    exact congrArg₂ ix2 (Fin.ext (Nat.div_add_mod _ _).symm) (Fin.ext (by
      show j1.val = 1024 + 128 * ((j1.val - 1024) / 128) + (j1.val - 1024) % 128
      omega))

/-- The four accumulators after the point, over what they held before it. -/
def A8 (o : Vec Ideal S8x128 .f32) : Vec Ideal S8x128 .f32 := fun j =>
  (show EReal from o j) + ∑ k : Fin 8, t8 x1 x2 (mixB x5) k (j 0) (j 1)
def A9 (o : Vec Ideal S8x128 .f32) : Vec Ideal S8x128 .f32 := fun j =>
  (show EReal from o j) + ∑ k : Fin 8, t9 x1 x2 (mixB x5) k (j 0) (j 1)
def A10 (o : Vec Ideal S8x128x128 .f32) : Vec Ideal S8x128x128 .f32 := fun j =>
  (show EReal from o j) + ∑ k : Fin 8, t10 x1 x2 x3 x4 maskK k (j 0) (j 1) (j 2)
def A11 (o : Vec Ideal S8x128x1 .f32) : Vec Ideal S8x128x1 .f32 := fun j =>
  (show EReal from o j) + ∑ k : Fin 8, t11 x1 x2 k (j 0) (j 1)

end Blocks

section Zero

variable {sig : RefSig} {κ : Kind} {sp : Space}

theorem read_zero2 (v : View sig κ sp S8x128 .f32) (f : v.ty.Contents (Elt Ideal)) (inb) (w : Vec Ideal S8x128 .f32) :
    v.read (Elt Ideal) (v.writes (Elt Ideal) f [⟨Rect.unit (s := S8x128) ![0, 0] S8x128.size inb, w⟩]) = w := by
  funext j
  exact View.read_writes_cons_unit_of_mem v f inb w [] j j rfl fun a => by fin_cases a <;> exact (Nat.zero_add _).symm

theorem read_zero3 (v : View sig κ sp S8x128x128 .f32) (f : v.ty.Contents (Elt Ideal)) (inb) (w : Vec Ideal S8x128x128 .f32) :
    v.read (Elt Ideal) (v.writes (Elt Ideal) f [⟨Rect.unit (s := S8x128x128) ![0, 0, 0] S8x128x128.size inb, w⟩]) = w := by
  funext j
  exact View.read_writes_cons_unit_of_mem v f inb w [] j j rfl fun a => by fin_cases a <;> exact (Nat.zero_add _).symm

theorem read_zero1 (v : View sig κ sp S8x128x1 .f32) (f : v.ty.Contents (Elt Ideal)) (inb) (w : Vec Ideal S8x128x1 .f32) :
    v.read (Elt Ideal) (v.writes (Elt Ideal) f [⟨Rect.unit (s := S8x128x1) ![0, 0, 0] S8x128x1.size inb, w⟩]) = w := by
  funext j
  exact View.read_writes_cons_unit_of_mem v f inb w [] j j rfl fun a => by fin_cases a <;> exact (Nat.zero_add _).symm

/-- Eight stores of a masked matrix each: the whole table under the mask. -/
theorem read_mix (v : View sig κ sp S8x128x128 .bf16) (f : v.ty.Contents (Elt Ideal)) (x5 : Vec Ideal S8x128x128 .f32)
    (i0 i1 i2 i3 i4 i5 i6 i7) :
    v.read (Elt Ideal) (v.writes (Elt Ideal) f
      [⟨Rect.unit (s := S8x128x128) ![7, 0, 0] S1x128x128.size i7, k0_pay1 maskK (matB x5 7)⟩,
       ⟨Rect.unit (s := S8x128x128) ![6, 0, 0] S1x128x128.size i6, k0_pay1 maskK (matB x5 6)⟩,
       ⟨Rect.unit (s := S8x128x128) ![5, 0, 0] S1x128x128.size i5, k0_pay1 maskK (matB x5 5)⟩,
       ⟨Rect.unit (s := S8x128x128) ![4, 0, 0] S1x128x128.size i4, k0_pay1 maskK (matB x5 4)⟩,
       ⟨Rect.unit (s := S8x128x128) ![3, 0, 0] S1x128x128.size i3, k0_pay1 maskK (matB x5 3)⟩,
       ⟨Rect.unit (s := S8x128x128) ![2, 0, 0] S1x128x128.size i2, k0_pay1 maskK (matB x5 2)⟩,
       ⟨Rect.unit (s := S8x128x128) ![1, 0, 0] S1x128x128.size i1, k0_pay1 maskK (matB x5 1)⟩,
       ⟨Rect.unit (s := S8x128x128) ![0, 0, 0] S1x128x128.size i0, k0_pay1 maskK (matB x5 0)⟩]) = mixB x5 := by
  funext j
  idx_vars j
  refine (read_mats v f (fun g => k0_pay1 maskK (matB x5 g)) i0 i1 i2 i3 i4 i5 i6 i7 j0 j1 j2).trans ?_
  exact pay1_at ..

end Zero

section Final

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg12 : BufTy.Contents (Elt Ideal) arg12.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty)
  (x1 : Vec Ideal S1024x2048 .bf16) (x2 : Vec Ideal S1024x1024 .bf16) (x3 x4 : Vec Ideal S8x128 .f32)
  (x5 : Vec Ideal S8x128x128 .f32) (x6 : Vec Ideal S8x128x1 .f32)
  (h1 : arg1.view.read (Elt Ideal) X_arg1 = x1) (h2 : arg2.view.read (Elt Ideal) X_arg2 = x2)
  (h3 : arg3.view.read (Elt Ideal) X_arg3 = x3) (h4 : arg4.view.read (Elt Ideal) X_arg4 = x4)
  (h6 : arg6.view.read (Elt Ideal) X_arg6 = x6) (h12 : arg12.view.read (Elt Ideal) X_arg12 = mixB x5)

include h1 h2 h3 h4 h6 h12 in
theorem fin7 :
    arg7.view.read (Elt Ideal) (arg7.view.writes (Elt Ideal) G_arg7 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).1)
      = D7 x1 x2 x3 x4 x5 x6 := by
  subst h1 h2 h3 h4 h6
  funext j
  rcases uv_cases j with ⟨k, a, g, b, rfl⟩ | ⟨k, a, g, b, rfl⟩
  · rw [D7_u, ← h12]
    exact loop7u_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k a g b
  · rw [D7_v, ← h12]
    exact loop7v_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k a g b

include h1 h2 h12 in
theorem fin8 (o) (ho : arg8.view.read (Elt Ideal) G_arg8 = o) :
    arg8.view.read (Elt Ideal) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.1)
      = A8 x1 x2 x5 o := by
  subst h1 h2 ho
  funext j
  idx_vars j
  refine (loop8_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 j0 j1).trans ?_
  rw [h12]; rfl

include h1 h2 h12 in
theorem fin9 (o) (ho : arg9.view.read (Elt Ideal) G_arg9 = o) :
    arg9.view.read (Elt Ideal) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.1)
      = A9 x1 x2 x5 o := by
  subst h1 h2 ho
  funext j
  idx_vars j
  refine (loop9_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 j0 j1).trans ?_
  rw [h12]; rfl

include h1 h2 h3 h4 in
theorem fin10 (o) (ho : arg10.view.read (Elt Ideal) G_arg10 = o) :
    arg10.view.read (Elt Ideal) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.2.1)
      = A10 x1 x2 x3 x4 o := by
  subst h1 h2 h3 h4 ho
  funext j
  idx_vars j
  refine (loop10_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 j0 j1 j2).trans ?_
  rfl

include h1 h2 in
theorem fin11 (o) (ho : arg11.view.read (Elt Ideal) G_arg11 = o) :
    arg11.view.read (Elt Ideal) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.2.2)
      = A11 x1 x2 o := by
  subst h1 h2 ho
  funext j
  idx_vars j
  refine (loop11_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 j0 j1 j2).trans ?_
  rfl

end Final

end Cert.KernelIdeal.Gmlp
-- ==== Proof.Gmlp.RunA.lean ====
module

public import proofs.«01_k».proof.Proof.Gmlp.Blocks
public import proofs.«01_k».proof.Proof.Gen.KernelIdeal.Frame.Runs

/-! The body run at the first grid point. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

set_option maxHeartbeats 4000000 in
theorem run_A (c : Dev nD) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (hc0 : cond0_0 i)
    (x1 : Vec Ideal S1024x2048 .bf16) (x2 : Vec Ideal S1024x1024 .bf16) (x3 x4 : Vec Ideal S8x128 .f32)
    (x5 : Vec Ideal S8x128x128 .f32) (x6 : Vec Ideal S8x128x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (D7 x1 x2 x3 x4 x5 x6) ∗ owns (c : Thread nD τ) arg8 fullShare (A8 x1 x2 x5 (fun _ => (0 : EReal))) ∗ owns (c : Thread nD τ) arg9 fullShare (A9 x1 x2 x5 (fun _ => (0 : EReal))) ∗ owns (c : Thread nD τ) arg10 fullShare (A10 x1 x2 x3 x4 (fun _ => (0 : EReal))) ∗ owns (c : Thread nD τ) arg11 fullShare (A11 x1 x2 (fun _ => (0 : EReal))) ∗ (∃ d, owns (c : Thread nD τ) arg12 fullShare d)) -∗ K ⟨⟩))
      ⊢ wp frame (wpE (defs₀ (F := Ideal)) Variants.none c none) E (cc0_gmlp_bwd i arg1 harg1 arg2 harg2 arg3 harg3 arg4 harg4 arg5 harg5 arg6 harg6 arg7 harg7 arg8 harg8 arg9 harg9 arg10 harg10 arg11 harg11 arg12 harg12) K := by
  simp only [cc0_gmlp_bwd_eq_skeleton]; unfold cc0_gmlp_bwd_skel
  simp only [k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0)
  sl_step
  have r5 : arg5.view.read (Elt Ideal) (harg5.unread x5) = x5 := harg5.read_unread _
  have h12 : arg12.view.read (Elt Ideal) (arg12.view.writes (Elt Ideal) arg12.view.junk (run_A.sl.H12_8 c arg5 harg5 x5)) = mixB x5 := by
    sl_unfold_run_names
    simp only [ld_mat arg5.view (harg5.unread x5) 0 (off := ![0, 0, 0]) rfl, ld_mat arg5.view (harg5.unread x5) 1 (off := ![1, 0, 0]) rfl, ld_mat arg5.view (harg5.unread x5) 2 (off := ![2, 0, 0]) rfl, ld_mat arg5.view (harg5.unread x5) 3 (off := ![3, 0, 0]) rfl, ld_mat arg5.view (harg5.unread x5) 4 (off := ![4, 0, 0]) rfl, ld_mat arg5.view (harg5.unread x5) 5 (off := ![5, 0, 0]) rfl, ld_mat arg5.view (harg5.unread x5) 6 (off := ![6, 0, 0]) rfl, ld_mat arg5.view (harg5.unread x5) 7 (off := ![7, 0, 0]) rfl, r5]
    exact read_mix arg12.view _ x5 (by decide) (by decide) (by decide) (by decide) (by decide) (by decide) (by decide) (by decide)
  have z8 : arg8.view.read (Elt Ideal) (arg8.view.writes (Elt Ideal) arg8.view.junk (run_A.sl.H8_1)) = fun _ => (0 : EReal) := by
    sl_unfold_run_names
    refine (read_zero2 arg8.view _ _ _).trans ?_
    funext j
    pointwise [k0_pay2, k0_pay3, k0_pay4, k0_pay5]
  have z9 : arg9.view.read (Elt Ideal) (arg9.view.writes (Elt Ideal) arg9.view.junk (run_A.sl.H9_1)) = fun _ => (0 : EReal) := by
    sl_unfold_run_names
    refine (read_zero2 arg9.view _ _ _).trans ?_
    funext j
    pointwise [k0_pay2, k0_pay3, k0_pay4, k0_pay5]
  have z10 : arg10.view.read (Elt Ideal) (arg10.view.writes (Elt Ideal) arg10.view.junk (run_A.sl.H10_1)) = fun _ => (0 : EReal) := by
    sl_unfold_run_names
    refine (read_zero3 arg10.view _ _ _).trans ?_
    funext j
    pointwise [k0_pay2, k0_pay3, k0_pay4, k0_pay5]
  have z11 : arg11.view.read (Elt Ideal) (arg11.view.writes (Elt Ideal) arg11.view.junk (run_A.sl.H11_1)) = fun _ => (0 : EReal) := by
    sl_unfold_run_names
    refine (read_zero1 arg11.view _ _ _).trans ?_
    funext j
    pointwise [k0_pay2, k0_pay3, k0_pay4, k0_pay5]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    skip
    exact fin7 (h1 := harg1.read_unread _) (h2 := harg2.read_unread _) (h3 := harg3.read_unread _) (h4 := harg4.read_unread _) (h6 := harg6.read_unread _) (h12 := h12) ..
  isplitl [H8]
  · iexists _; isplitr; swap; · iexact H8
    ipureintro
    rw [View.writes_append]
    exact fin8 (h1 := harg1.read_unread _) (h2 := harg2.read_unread _) (h12 := h12) (ho := z8) ..
  isplitl [H9]
  · iexists _; isplitr; swap; · iexact H9
    ipureintro
    rw [View.writes_append]
    exact fin9 (h1 := harg1.read_unread _) (h2 := harg2.read_unread _) (h12 := h12) (ho := z9) ..
  isplitl [H10]
  · iexists _; isplitr; swap; · iexact H10
    ipureintro
    rw [View.writes_append]
    exact fin10 (h1 := harg1.read_unread _) (h2 := harg2.read_unread _) (h3 := harg3.read_unread _) (h4 := harg4.read_unread _) (ho := z10) ..
  isplitl [H11]
  · iexists _; isplitr; swap; · iexact H11
    ipureintro
    rw [View.writes_append]
    exact fin11 (h1 := harg1.read_unread _) (h2 := harg2.read_unread _) (ho := z11) ..
  iexists _, _; isplitr; swap; · iexact H12
  ipureintro; rfl

end Cert.KernelIdeal.Gmlp
-- ==== Proof.Gmlp.RunB.lean ====
module

public import proofs.«01_k».proof.Proof.Gmlp.Blocks
public import proofs.«01_k».proof.Proof.Gen.KernelIdeal.Frame.Runs

/-! The body run at a grid point past the first. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

set_option maxHeartbeats 4000000 in
theorem run_B (c : Dev nD) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (hc0 : ¬cond0_0 i)
    (x1 : Vec Ideal S1024x2048 .bf16) (x2 : Vec Ideal S1024x1024 .bf16) (x3 x4 : Vec Ideal S8x128 .f32)
    (x5 : Vec Ideal S8x128x128 .f32) (x6 : Vec Ideal S8x128x1 .f32)
    (o8 o9 : Vec Ideal S8x128 .f32) (o10 : Vec Ideal S8x128x128 .f32) (o11 : Vec Ideal S8x128x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare o8 ∗ owns (c : Thread nD τ) arg9 fullShare o9 ∗ owns (c : Thread nD τ) arg10 fullShare o10 ∗ owns (c : Thread nD τ) arg11 fullShare o11 ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (D7 x1 x2 x3 x4 x5 x6) ∗ owns (c : Thread nD τ) arg8 fullShare (A8 x1 x2 x5 o8) ∗ owns (c : Thread nD τ) arg9 fullShare (A9 x1 x2 x5 o9) ∗ owns (c : Thread nD τ) arg10 fullShare (A10 x1 x2 x3 x4 o10) ∗ owns (c : Thread nD τ) arg11 fullShare (A11 x1 x2 o11) ∗ (∃ d, owns (c : Thread nD τ) arg12 fullShare d)) -∗ K ⟨⟩))
      ⊢ wp frame (wpE (defs₀ (F := Ideal)) Variants.none c none) E (cc0_gmlp_bwd i arg1 harg1 arg2 harg2 arg3 harg3 arg4 harg4 arg5 harg5 arg6 harg6 arg7 harg7 arg8 harg8 arg9 harg9 arg10 harg10 arg11 harg11 arg12 harg12) K := by
  simp only [cc0_gmlp_bwd_eq_skeleton]; unfold cc0_gmlp_bwd_skel
  simp only [k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
  sl_exec (disch := first | sl_exact hc0)
  sl_step
  have r5 : arg5.view.read (Elt Ideal) (harg5.unread x5) = x5 := harg5.read_unread _
  have h12 : arg12.view.read (Elt Ideal) (arg12.view.writes (Elt Ideal) arg12.view.junk (run_B.sl.H12_8 c arg5 harg5 x5)) = mixB x5 := by
    sl_unfold_run_names
    simp only [ld_mat arg5.view (harg5.unread x5) 0 (off := ![0, 0, 0]) rfl, ld_mat arg5.view (harg5.unread x5) 1 (off := ![1, 0, 0]) rfl, ld_mat arg5.view (harg5.unread x5) 2 (off := ![2, 0, 0]) rfl, ld_mat arg5.view (harg5.unread x5) 3 (off := ![3, 0, 0]) rfl, ld_mat arg5.view (harg5.unread x5) 4 (off := ![4, 0, 0]) rfl, ld_mat arg5.view (harg5.unread x5) 5 (off := ![5, 0, 0]) rfl, ld_mat arg5.view (harg5.unread x5) 6 (off := ![6, 0, 0]) rfl, ld_mat arg5.view (harg5.unread x5) 7 (off := ![7, 0, 0]) rfl, r5]
    exact read_mix arg12.view _ x5 (by decide) (by decide) (by decide) (by decide) (by decide) (by decide) (by decide) (by decide)
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    skip
    exact fin7 (h1 := harg1.read_unread _) (h2 := harg2.read_unread _) (h3 := harg3.read_unread _) (h4 := harg4.read_unread _) (h6 := harg6.read_unread _) (h12 := h12) ..
  isplitl [H8]
  · iexists _; isplitr; swap; · iexact H8
    ipureintro
    skip
    exact fin8 (h1 := harg1.read_unread _) (h2 := harg2.read_unread _) (h12 := h12) (ho := (harg8.read_unread _)) ..
  isplitl [H9]
  · iexists _; isplitr; swap; · iexact H9
    ipureintro
    skip
    exact fin9 (h1 := harg1.read_unread _) (h2 := harg2.read_unread _) (h12 := h12) (ho := (harg9.read_unread _)) ..
  isplitl [H10]
  · iexists _; isplitr; swap; · iexact H10
    ipureintro
    skip
    exact fin10 (h1 := harg1.read_unread _) (h2 := harg2.read_unread _) (h3 := harg3.read_unread _) (h4 := harg4.read_unread _) (ho := (harg10.read_unread _)) ..
  isplitl [H11]
  · iexists _; isplitr; swap; · iexact H11
    ipureintro
    skip
    exact fin11 (h1 := harg1.read_unread _) (h2 := harg2.read_unread _) (ho := (harg11.read_unread _)) ..
  iexists _, _; isplitr; swap; · iexact H12
  ipureintro; rfl

end Cert.KernelIdeal.Gmlp
-- ==== Proof.Gmlp.Frame.lean ====
module

public import proofs.«01_k».proof.Proof.Gmlp.RunA
public import proofs.«01_k».proof.Proof.Gmlp.RunB
public import Idealize.ShloMosaic.Lib.Claim

/-! The pipeline around the body: what each staged block holds after each grid point, the body at a point, and the whole run. -/

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

/-- A block carried from point to point: `A t` of what the point before left, `z` before the first. -/
def carry {V : Type} {N : ℕ} (A : Fin N → V → V) (z : V) : (n : ℕ) → n < N → V
  | 0, h => A ⟨0, h⟩ z
  | n + 1, h => A ⟨n + 1, h⟩ (carry A z n (Nat.lt_of_succ_lt h))

theorem carry_first {V : Type} {N : ℕ} (hN : N = 8) (A : Fin N → V → V) (z : V) (t : Fin N) (h : t.val % 8 = 0) :
    carry A z t.val t.isLt = A t z := by
  obtain ⟨n, hn⟩ := t
  dsimp only at h
  obtain rfl : n = 0 := by omega
  rfl

theorem carry_next {V : Type} {N : ℕ} (A : Fin N → V → V) (z : V) (t : Fin N) (h : ¬t.val % 8 = 0) :
    carry A z t.val t.isLt = A t (carry A z (t.val - 1) (Nat.lt_of_le_of_lt (Nat.sub_le _ _) t.isLt)) := by
  obtain ⟨n, hn⟩ := t
  cases n with
  | zero => exact absurd rfl h
  | succ n => rfl

variable (m : (ℓ : Loc nD τ sig) → Buf (Elt Ideal) ℓ) (ρ : Dev nD → PrngReg)

def c8 (c : Dev nD) : (n : ℕ) → n < cfg0.N → Vec Ideal S8x128 .f32 :=
  carry (fun t => A8 (iblk m c 0 t) (iblk m c 1 t) (iblk m c 4 t)) fun _ => (0 : EReal)
def c9 (c : Dev nD) : (n : ℕ) → n < cfg0.N → Vec Ideal S8x128 .f32 :=
  carry (fun t => A9 (iblk m c 0 t) (iblk m c 1 t) (iblk m c 4 t)) fun _ => (0 : EReal)
def c10 (c : Dev nD) : (n : ℕ) → n < cfg0.N → Vec Ideal S8x128x128 .f32 :=
  carry (fun t => A10 (iblk m c 0 t) (iblk m c 1 t) (iblk m c 2 t) (iblk m c 3 t)) fun _ => (0 : EReal)
def c11 (c : Dev nD) : (n : ℕ) → n < cfg0.N → Vec Ideal S8x128x1 .f32 :=
  carry (fun t => A11 (iblk m c 0 t) (iblk m c 1 t)) fun _ => (0 : EReal)

/-- What every window's block holds after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => D7 (iblk m c 0 t) (iblk m c 1 t) (iblk m c 2 t) (iblk m c 3 t) (iblk m c 4 t) (iblk m c 5 t)
    | ⟨7, _⟩ => c8 m c t.val t.isLt
    | ⟨8, _⟩ => c9 m c t.val t.isLt
    | ⟨9, _⟩ => c10 m c t.val t.isLt
    | ⟨10, _⟩ => c11 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = D7 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = c8 m c t.val t.isLt := by dsimp only [dats]
theorem after0_8 (c : Dev nD) (t : Fin cfg0.N) : (dats m 0 c).after 8 t = c9 m c t.val t.isLt := by dsimp only [dats]
theorem after0_9 (c : Dev nD) (t : Fin cfg0.N) : (dats m 0 c).after 9 t = c10 m c t.val t.isLt := by dsimp only [dats]
theorem after0_10 (c : Dev nD) (t : Fin cfg0.N) : (dats m 0 c).after 10 t = c11 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7_next (c : Dev nD) (t : Fin cfg0.N) (h0 : ¬t.val % 8 = 0) (d) :
    (dats m 0 c).before 7 t d = c8 m c (t.val - 1) (Nat.lt_of_le_of_lt (Nat.sub_le _ _) t.isLt) := by
  have hN : t.val < 8 := lt_of_lt_of_eq t.isLt (show cfg0.N = 8 from N_0)
  rw [Dat.before_out_kept _ 7 rfl t (by omega) (Bool.eq_false_iff.mpr fun h => by
    have := (flush0_7 _).mp h; dsimp only at this; omega) (fun _ => rfl) (fun _ _ => rfl)]
  dsimp only [dats]
theorem before0_8_next (c : Dev nD) (t : Fin cfg0.N) (h0 : ¬t.val % 8 = 0) (d) :
    (dats m 0 c).before 8 t d = c9 m c (t.val - 1) (Nat.lt_of_le_of_lt (Nat.sub_le _ _) t.isLt) := by
  have hN : t.val < 8 := lt_of_lt_of_eq t.isLt (show cfg0.N = 8 from N_0)
  rw [Dat.before_out_kept _ 8 rfl t (by omega) (Bool.eq_false_iff.mpr fun h => by
    have := (flush0_8 _).mp h; dsimp only at this; omega) (fun _ => rfl) (fun _ _ => rfl)]
  dsimp only [dats]
theorem before0_9_next (c : Dev nD) (t : Fin cfg0.N) (h0 : ¬t.val % 8 = 0) (d) :
    (dats m 0 c).before 9 t d = c10 m c (t.val - 1) (Nat.lt_of_le_of_lt (Nat.sub_le _ _) t.isLt) := by
  have hN : t.val < 8 := lt_of_lt_of_eq t.isLt (show cfg0.N = 8 from N_0)
  rw [Dat.before_out_kept _ 9 rfl t (by omega) (Bool.eq_false_iff.mpr fun h => by
    have := (flush0_9 _).mp h; dsimp only at this; omega) (fun _ => rfl) (fun _ _ => rfl)]
  dsimp only [dats]
theorem before0_10_next (c : Dev nD) (t : Fin cfg0.N) (h0 : ¬t.val % 8 = 0) (d) :
    (dats m 0 c).before 10 t d = c11 m c (t.val - 1) (Nat.lt_of_le_of_lt (Nat.sub_le _ _) t.isLt) := by
  have hN : t.val < 8 := lt_of_lt_of_eq t.isLt (show cfg0.N = 8 from N_0)
  rw [Dat.before_out_kept _ 10 rfl t (by omega) (Bool.eq_false_iff.mpr fun h => by
    have := (flush0_10 _).mp h; dsimp only at this; omega) (fun _ => rfl) (fun _ _ => rfl)]
  dsimp only [dats]

/-- What the body finds at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  by_cases h0 : t.val % 8 = 0
  · rw [show c8 m c t.val t.isLt = _ from carry_first (show cfg0.N = 8 from N_0) _ _ t h0, show c9 m c t.val t.isLt = _ from carry_first (show cfg0.N = 8 from N_0) _ _ t h0, show c10 m c t.val t.isLt = _ from carry_first (show cfg0.N = 8 from N_0) _ _ t h0, show c11 m c t.val t.isLt = _ from carry_first (show cfg0.N = 8 from N_0) _ _ t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show c8 m c t.val t.isLt = _ from carry_next _ _ t h0, show c9 m c t.val t.isLt = _ from carry_next _ _ t h0, show c10 m c t.val t.isLt = _ from carry_next _ _ t h0, show c11 m c t.val t.isLt = _ from carry_next _ _ t h0]
    simp only [before0_7_next m c t h0, before0_8_next m c t h0, before0_9_next m c t h0, before0_10_next m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The whole run: every array at what the pipeline's contents say, every semaphore at zero. -/
theorem run_zero : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_zero m ρ)

theorem quiet : θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_zero m ρ))

end Cert.KernelIdeal.Gmlp
-- ==== Proof.GmlpBits.Group.lean ====
module

public import proofs.«01_k».proof.Proof.Gen.Kernel.Loops
public import Idealize.ShloMosaic.Lib.Pointwise
public import Idealize.ShloMosaic.Lib.WritesUnit

/-! One block of 128 tokens and one group of 128 channels of the mixer's gradient: the six blocks a
group reads, and the five things it computes of them. -/

@[expose] public section

set_option maxRecDepth 16384

noncomputable section

namespace Cert.Kernel.Gmlp

open Idealize.ShloMosaic Idealize.ShloMosaic.TcCoe
open Cert.Kernel Cert.Kernel.Gen

/-- The first half's block: tokens of block `k`, channels of group `g`. -/
def zuB (x : Vec Bits S1024x2048 .bf16) (k g : Fin 8) : Vec Bits S128x128 .bf16 := fun j =>
  x (ix2 (⟨128 * k.val + (j 0).val, by have := (j 0).isLt; simp at this; omega⟩ : Fin 1024)
    (⟨128 * g.val + (j 1).val, by have := (j 1).isLt; simp at this; omega⟩ : Fin 2048))

/-- The second half's block. -/
def zvB (x : Vec Bits S1024x2048 .bf16) (k g : Fin 8) : Vec Bits S128x128 .bf16 := fun j =>
  x (ix2 (⟨128 * k.val + (j 0).val, by have := (j 0).isLt; simp at this; omega⟩ : Fin 1024)
    (⟨1024 + 128 * g.val + (j 1).val, by have := (j 1).isLt; simp at this; omega⟩ : Fin 2048))

/-- The cotangent's block. -/
def doB (x : Vec Bits S1024x1024 .bf16) (k g : Fin 8) : Vec Bits S128x128 .bf16 := fun j =>
  x (ix2 (⟨128 * k.val + (j 0).val, by have := (j 0).isLt; simp at this; omega⟩ : Fin 1024)
    (⟨128 * g.val + (j 1).val, by have := (j 1).isLt; simp at this; omega⟩ : Fin 1024))

/-- Row `g` of a table of eight rows. -/
def rowB (w : Vec Bits S8x128 .f32) (g : Fin 8) : Vec Bits S1x128 .f32 := fun j => w (ix2 g (j 1))

/-- Matrix `g` of eight. -/
def matB {e : EltTy} (w : Vec Bits S8x128x128 e) (g : Fin 8) : Vec Bits S1x128x128 e := fun j =>
  w (ix3 g (j 1) (j 2))

/-- Column `g` of eight. -/
def colB (w : Vec Bits S8x128x1 .f32) (g : Fin 8) : Vec Bits S1x128x1 .f32 := fun j =>
  w (ix3 g (j 1) (j 2))

section Loads

variable {sig : RefSig} {κ : Kind} {sp : Space}

theorem ld_zu (v : View sig κ sp S1024x2048 .bf16) (X : v.ty.Contents (Elt Bits)) (k g : Fin 8) {off : Fin 2 → ℕ}
    (h : off = ![128 * k.val, 128 * g.val]) (inb : ∀ a, off a + S128x128.size a ≤ S1024x2048.size a) :
    View.readAt (Elt Bits) v (Rect.unit (s := S1024x2048) off S128x128.size inb).toLoadRect X = zuB (v.read (Elt Bits) X) k g := by
  subst h
  funext j
  rw [View.readAt_eq_ld]
  pointwise [zuB]

theorem ld_zv (v : View sig κ sp S1024x2048 .bf16) (X : v.ty.Contents (Elt Bits)) (k g : Fin 8) {off : Fin 2 → ℕ}
    (h : off = ![128 * k.val, 1024 + 128 * g.val]) (inb : ∀ a, off a + S128x128.size a ≤ S1024x2048.size a) :
    View.readAt (Elt Bits) v (Rect.unit (s := S1024x2048) off S128x128.size inb).toLoadRect X = zvB (v.read (Elt Bits) X) k g := by
  subst h
  funext j
  rw [View.readAt_eq_ld]
  pointwise [zvB]

theorem ld_do (v : View sig κ sp S1024x1024 .bf16) (X : v.ty.Contents (Elt Bits)) (k g : Fin 8) {off : Fin 2 → ℕ}
    (h : off = ![128 * k.val, 128 * g.val]) (inb : ∀ a, off a + S128x128.size a ≤ S1024x1024.size a) :
    View.readAt (Elt Bits) v (Rect.unit (s := S1024x1024) off S128x128.size inb).toLoadRect X = doB (v.read (Elt Bits) X) k g := by
  subst h
  funext j
  rw [View.readAt_eq_ld]
  pointwise [doB]

theorem ld_row (v : View sig κ sp S8x128 .f32) (X : v.ty.Contents (Elt Bits)) (g : Fin 8) {off : Fin 2 → ℕ}
    (h : off = ![g.val, 0]) (inb : ∀ a, off a + S1x128.size a ≤ S8x128.size a) :
    View.readAt (Elt Bits) v (Rect.unit (s := S8x128) off S1x128.size inb).toLoadRect X = rowB (v.read (Elt Bits) X) g := by
  subst h
  funext j
  rw [View.readAt_eq_ld]
  idx_vars j
  obtain rfl : j0 = 0 := Subsingleton.elim _ _
  pointwise [rowB]

theorem ld_mat {e : EltTy} (v : View sig κ sp S8x128x128 e) (X : v.ty.Contents (Elt Bits)) (g : Fin 8) {off : Fin 3 → ℕ}
    (h : off = ![g.val, 0, 0]) (inb : ∀ a, off a + S1x128x128.size a ≤ S8x128x128.size a) :
    View.readAt (Elt Bits) v (Rect.unit (s := S8x128x128) off S1x128x128.size inb).toLoadRect X = matB (v.read (Elt Bits) X) g := by
  subst h
  funext j
  rw [View.readAt_eq_ld]
  idx_vars j
  obtain rfl : j0 = 0 := Subsingleton.elim _ _
  pointwise [matB]

theorem ld_col (v : View sig κ sp S8x128x1 .f32) (X : v.ty.Contents (Elt Bits)) (g : Fin 8) {off : Fin 3 → ℕ}
    (h : off = ![g.val, 0, 0]) (inb : ∀ a, off a + S1x128x1.size a ≤ S8x128x1.size a) :
    View.readAt (Elt Bits) v (Rect.unit (s := S8x128x1) off S1x128x1.size inb).toLoadRect X = colB (v.read (Elt Bits) X) g := by
  subst h
  funext j
  rw [View.readAt_eq_ld]
  idx_vars j
  obtain rfl : j0 = 0 := Subsingleton.elim _ _
  obtain rfl : j2 = 0 := Subsingleton.elim _ _
  pointwise [colB]

theorem cons_row (v : View sig κ sp S8x128 .f32) (f : v.ty.Contents (Elt Bits)) {off : Fin 2 → ℕ} (g : Fin 8)
    (h : off = ![g.val, 0]) (inb : ∀ i, off i + S1x128.size i ≤ S8x128.size i)
    (w : Vec Bits S1x128 .f32) (L : List (View.Piece (Elt Bits) S8x128 .f32)) (r : Fin 8) (a : Fin 128) :
    v.read (Elt Bits) (v.writes (Elt Bits) f (⟨Rect.unit (s := S8x128) off S1x128.size inb, w⟩ :: L)) (ix2 r a)
      = if r = g then w (ix2 0 a) else v.read (Elt Bits) (v.writes (Elt Bits) f L) (ix2 r a) := by
  split_ifs with hr
  · subst hr
    refine View.read_writes_cons_unit_of_mem v f inb w L _ (ix2 0 a) h fun i => ?_
    match i with
    | ⟨0, _⟩ => exact (Nat.add_zero _).symm
    | ⟨1, _⟩ => exact (Nat.zero_add _).symm
  · refine View.read_writes_cons_unit_of_not_mem v f inb w L _ h 0 ?_
    show r.val < g.val ∨ g.val + 1 ≤ r.val
    have := Fin.val_ne_of_ne hr
    omega

/-- Eight rows stored one by one: row `r` reads the payload of `r`. -/
theorem read_rows (v : View sig κ sp S8x128 .f32) (f : v.ty.Contents (Elt Bits)) (p : Fin 8 → Vec Bits S1x128 .f32)
    (i0 i1 i2 i3 i4 i5 i6 i7) (r : Fin 8) (a : Fin 128) :
    v.read (Elt Bits) (v.writes (Elt Bits) f
      [⟨Rect.unit (s := S8x128) ![7, 0] S1x128.size i7, p 7⟩,
       ⟨Rect.unit (s := S8x128) ![6, 0] S1x128.size i6, p 6⟩,
       ⟨Rect.unit (s := S8x128) ![5, 0] S1x128.size i5, p 5⟩,
       ⟨Rect.unit (s := S8x128) ![4, 0] S1x128.size i4, p 4⟩,
       ⟨Rect.unit (s := S8x128) ![3, 0] S1x128.size i3, p 3⟩,
       ⟨Rect.unit (s := S8x128) ![2, 0] S1x128.size i2, p 2⟩,
       ⟨Rect.unit (s := S8x128) ![1, 0] S1x128.size i1, p 1⟩,
       ⟨Rect.unit (s := S8x128) ![0, 0] S1x128.size i0, p 0⟩])
      (ix2 r a) = p r (ix2 0 a) := by
  rw [cons_row v f (off := ![7, 0]) 7 rfl, cons_row v f (off := ![6, 0]) 6 rfl, cons_row v f (off := ![5, 0]) 5 rfl, cons_row v f (off := ![4, 0]) 4 rfl, cons_row v f (off := ![3, 0]) 3 rfl, cons_row v f (off := ![2, 0]) 2 rfl, cons_row v f (off := ![1, 0]) 1 rfl, cons_row v f (off := ![0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

theorem cons_mat {e : EltTy} (v : View sig κ sp S8x128x128 e) (f : v.ty.Contents (Elt Bits)) {off : Fin 3 → ℕ} (g : Fin 8)
    (h : off = ![g.val, 0, 0]) (inb : ∀ i, off i + S1x128x128.size i ≤ S8x128x128.size i)
    (w : Vec Bits S1x128x128 e) (L : List (View.Piece (Elt Bits) S8x128x128 e)) (r : Fin 8) (a b : Fin 128) :
    v.read (Elt Bits) (v.writes (Elt Bits) f (⟨Rect.unit (s := S8x128x128) off S1x128x128.size inb, w⟩ :: L)) (ix3 r a b)
      = if r = g then w (ix3 0 a b) else v.read (Elt Bits) (v.writes (Elt Bits) f L) (ix3 r a b) := by
  split_ifs with hr
  · subst hr
    refine View.read_writes_cons_unit_of_mem v f inb w L _ (ix3 0 a b) h fun i => ?_
    match i with
    | ⟨0, _⟩ => exact (Nat.add_zero _).symm
    | ⟨1, _⟩ => exact (Nat.zero_add _).symm
    | ⟨2, _⟩ => exact (Nat.zero_add _).symm
  · refine View.read_writes_cons_unit_of_not_mem v f inb w L _ h 0 ?_
    show r.val < g.val ∨ g.val + 1 ≤ r.val
    have := Fin.val_ne_of_ne hr
    omega

/-- Eight matrices stored one by one. -/
theorem read_mats {e : EltTy} (v : View sig κ sp S8x128x128 e) (f : v.ty.Contents (Elt Bits)) (p : Fin 8 → Vec Bits S1x128x128 e)
    (i0 i1 i2 i3 i4 i5 i6 i7) (r : Fin 8) (a b : Fin 128) :
    v.read (Elt Bits) (v.writes (Elt Bits) f
      [⟨Rect.unit (s := S8x128x128) ![7, 0, 0] S1x128x128.size i7, p 7⟩,
       ⟨Rect.unit (s := S8x128x128) ![6, 0, 0] S1x128x128.size i6, p 6⟩,
       ⟨Rect.unit (s := S8x128x128) ![5, 0, 0] S1x128x128.size i5, p 5⟩,
       ⟨Rect.unit (s := S8x128x128) ![4, 0, 0] S1x128x128.size i4, p 4⟩,
       ⟨Rect.unit (s := S8x128x128) ![3, 0, 0] S1x128x128.size i3, p 3⟩,
       ⟨Rect.unit (s := S8x128x128) ![2, 0, 0] S1x128x128.size i2, p 2⟩,
       ⟨Rect.unit (s := S8x128x128) ![1, 0, 0] S1x128x128.size i1, p 1⟩,
       ⟨Rect.unit (s := S8x128x128) ![0, 0, 0] S1x128x128.size i0, p 0⟩])
      (ix3 r a b) = p r (ix3 0 a b) := by
  rw [cons_mat v f (off := ![7, 0, 0]) 7 rfl, cons_mat v f (off := ![6, 0, 0]) 6 rfl, cons_mat v f (off := ![5, 0, 0]) 5 rfl, cons_mat v f (off := ![4, 0, 0]) 4 rfl, cons_mat v f (off := ![3, 0, 0]) 3 rfl, cons_mat v f (off := ![2, 0, 0]) 2 rfl, cons_mat v f (off := ![1, 0, 0]) 1 rfl, cons_mat v f (off := ![0, 0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

theorem cons_col (v : View sig κ sp S8x128x1 .f32) (f : v.ty.Contents (Elt Bits)) {off : Fin 3 → ℕ} (g : Fin 8)
    (h : off = ![g.val, 0, 0]) (inb : ∀ i, off i + S1x128x1.size i ≤ S8x128x1.size i)
    (w : Vec Bits S1x128x1 .f32) (L : List (View.Piece (Elt Bits) S8x128x1 .f32)) (r : Fin 8) (a : Fin 128) (b : Fin 1) :
    v.read (Elt Bits) (v.writes (Elt Bits) f (⟨Rect.unit (s := S8x128x1) off S1x128x1.size inb, w⟩ :: L)) (ix3 r a b)
      = if r = g then w (ix3 0 a b) else v.read (Elt Bits) (v.writes (Elt Bits) f L) (ix3 r a b) := by
  split_ifs with hr
  · subst hr
    refine View.read_writes_cons_unit_of_mem v f inb w L _ (ix3 0 a b) h fun i => ?_
    match i with
    | ⟨0, _⟩ => exact (Nat.add_zero _).symm
    | ⟨1, _⟩ => exact (Nat.zero_add _).symm
    | ⟨2, _⟩ => exact (Nat.zero_add _).symm
  · refine View.read_writes_cons_unit_of_not_mem v f inb w L _ h 0 ?_
    show r.val < g.val ∨ g.val + 1 ≤ r.val
    have := Fin.val_ne_of_ne hr
    omega

/-- Eight columns stored one by one. -/
theorem read_cols (v : View sig κ sp S8x128x1 .f32) (f : v.ty.Contents (Elt Bits)) (p : Fin 8 → Vec Bits S1x128x1 .f32)
    (i0 i1 i2 i3 i4 i5 i6 i7) (r : Fin 8) (a : Fin 128) (b : Fin 1) :
    v.read (Elt Bits) (v.writes (Elt Bits) f
      [⟨Rect.unit (s := S8x128x1) ![7, 0, 0] S1x128x1.size i7, p 7⟩,
       ⟨Rect.unit (s := S8x128x1) ![6, 0, 0] S1x128x1.size i6, p 6⟩,
       ⟨Rect.unit (s := S8x128x1) ![5, 0, 0] S1x128x1.size i5, p 5⟩,
       ⟨Rect.unit (s := S8x128x1) ![4, 0, 0] S1x128x1.size i4, p 4⟩,
       ⟨Rect.unit (s := S8x128x1) ![3, 0, 0] S1x128x1.size i3, p 3⟩,
       ⟨Rect.unit (s := S8x128x1) ![2, 0, 0] S1x128x1.size i2, p 2⟩,
       ⟨Rect.unit (s := S8x128x1) ![1, 0, 0] S1x128x1.size i1, p 1⟩,
       ⟨Rect.unit (s := S8x128x1) ![0, 0, 0] S1x128x1.size i0, p 0⟩])
      (ix3 r a b) = p r (ix3 0 a b) := by
  rw [cons_col v f (off := ![7, 0, 0]) 7 rfl, cons_col v f (off := ![6, 0, 0]) 6 rfl, cons_col v f (off := ![5, 0, 0]) 5 rfl, cons_col v f (off := ![4, 0, 0]) 4 rfl, cons_col v f (off := ![3, 0, 0]) 3 rfl, cons_col v f (off := ![2, 0, 0]) 2 rfl, cons_col v f (off := ![1, 0, 0]) 1 rfl, cons_col v f (off := ![0, 0, 0]) 0 rfl]
  split_ifs with h7 h6 h5 h4 h3 h2 h1 h0
  all_goals first
    | (subst_vars; rfl)
    | (exfalso; fin_cases r
       exacts [h0 rfl, h1 rfl, h2 rfl, h3 rfl, h4 rfl, h5 rfl, h6 rfl, h7 rfl])

end Loads

end Cert.Kernel.Gmlp
-- ==== Proof.GmlpBits.Trip.lean ====
module

public import proofs.«01_k».proof.Proof.GmlpBits.Group

/-! What one trip of the body's loop, one block of 128 tokens, leaves in each written buffer. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open Idealize.SL.Sem Gen

/-- The trip's number among the eight. -/
def tok (k : Fin k0_t1_loop.trips) : Fin 8 := ⟨k.val, Nat.lt_of_lt_of_le k.isLt k0_t1_abs.2.1⟩

section Functions

variable (zu zv y : Vec Bits S128x128 .bf16) (w b : Vec Bits S1x128 .f32) (wm : Vec Bits S1x128x128 .bf16) (bs : Vec Bits S1x128x1 .f32)

/-- The normalised second half. -/
def vhG : FVec Bits S128x128 .f32 := k0_pay23 (k0_pay14 zv) (k0_pay16 zv) (k0_pay17 zv)
/-- Its reciprocal standard deviation. -/
def rsG : FVec Bits S128x1 .f32 := k0_pay22 (k0_pay14 zv) (k0_pay16 zv) (k0_pay17 zv)
/-- The layer norm's output. -/
def vnG : FVec Bits S128x128 .f32 := k0_pay24 (k0_pay14 zv) (k0_pay16 zv) (k0_pay17 zv) w b
/-- The gradient of the first half's block. -/
def duG : FVec Bits S128x128 .bf16 := k0_pay33 (k0_pay12 zu) (k0_pay25 (vnG zv w b) wm bs) (k0_pay26 y)
/-- The gradient of the second half's block. -/
def dvG : FVec Bits S128x128 .bf16 :=
  k0_pay34 (k0_pay20 (k0_pay14 zv) (k0_pay15 zv) (k0_pay16 zv) (k0_pay17 zv)) (k0_pay30 (k0_pay13 zu) w (rsG zv) (vhG zv) y wm)
/-- What the block adds to the layer norm's scale. -/
def lnwG : FVec Bits S1x128 .f32 := k0_pay31 (k0_pay13 zu) (vhG zv) y wm
/-- What it adds to the layer norm's offset. -/
def lnbG : FVec Bits S1x128 .f32 := k0_pay32 (k0_pay13 zu) y wm
/-- What it adds to the mixing matrix, before the mask. -/
def wsG : FVec Bits S128x128 .f32 := k0_pay28 (k0_pay13 zu) (vnG zv w b) y
/-- What it adds to the bias, before the sum over channels. -/
def bsG : FVec Bits S128x128 .f32 := k0_pay27 (k0_pay13 zu) y

end Functions

section Blocks

variable {sig : RefSig} {κ : Kind} {sp : Space}

/-- Token `a` of block `k`, channel `b` of group `g`, in the first half. -/
def uIx (k : Fin 8) (a : Fin 128) (g : Fin 8) (b : Fin 128) : S1024x2048.Idx :=
  ix2 (⟨128 * k.val + a.val, by omega⟩ : Fin 1024) (⟨128 * g.val + b.val, by omega⟩ : Fin 2048)

/-- The same in the second half. -/
def vIx (k : Fin 8) (a : Fin 128) (g : Fin 8) (b : Fin 128) : S1024x2048.Idx :=
  ix2 (⟨128 * k.val + a.val, by omega⟩ : Fin 1024) (⟨1024 + 128 * g.val + b.val, by omega⟩ : Fin 2048)

variable (v : View sig κ sp S1024x2048 .bf16) (f : v.ty.Contents (Elt Bits)) {off : Fin 2 → ℕ} (k g : Fin 8)
  (inb : ∀ i, off i + S128x128.size i ≤ S1024x2048.size i)
  (w : Vec Bits S128x128 .bf16) (L : List (View.Piece (Elt Bits) S1024x2048 .bf16)) (k' : Fin 8) (a : Fin 128) (g' : Fin 8) (b : Fin 128)

theorem cons_u_at_u (h : off = ![128 * k.val, 128 * g.val]) :
    v.read (Elt Bits) (v.writes (Elt Bits) f (⟨Rect.unit (s := S1024x2048) off S128x128.size inb, w⟩ :: L)) (uIx k' a g' b)
      = if k' = k ∧ g' = g then w (ix2 a b) else v.read (Elt Bits) (v.writes (Elt Bits) f L) (uIx k' a g' b) := by
  split_ifs with hr
  · obtain ⟨rfl, rfl⟩ := hr
    refine View.read_writes_cons_unit_of_mem v f inb w L _ (ix2 a b) h fun i => ?_
    match i with
    | ⟨0, _⟩ => rfl
    | ⟨1, _⟩ => rfl
  · rcases not_and_or.mp hr with hk | hk
    · refine View.read_writes_cons_unit_of_not_mem v f inb w L _ h 0 ?_
      show 128 * k'.val + a.val < 128 * k.val ∨ 128 * k.val + 128 ≤ 128 * k'.val + a.val
      have := Fin.val_ne_of_ne hk
      omega
    · refine View.read_writes_cons_unit_of_not_mem v f inb w L _ h 1 ?_
      show 128 * g'.val + b.val < 128 * g.val ∨ 128 * g.val + 128 ≤ 128 * g'.val + b.val
      have := Fin.val_ne_of_ne hk
      omega

theorem cons_u_at_v (h : off = ![128 * k.val, 128 * g.val]) :
    v.read (Elt Bits) (v.writes (Elt Bits) f (⟨Rect.unit (s := S1024x2048) off S128x128.size inb, w⟩ :: L)) (vIx k' a g' b)
      = v.read (Elt Bits) (v.writes (Elt Bits) f L) (vIx k' a g' b) := by
  refine View.read_writes_cons_unit_of_not_mem v f inb w L _ h 1 ?_
  show 1024 + 128 * g'.val + b.val < 128 * g.val ∨ 128 * g.val + 128 ≤ 1024 + 128 * g'.val + b.val
  omega

theorem cons_v_at_u (h : off = ![128 * k.val, 1024 + 128 * g.val]) :
    v.read (Elt Bits) (v.writes (Elt Bits) f (⟨Rect.unit (s := S1024x2048) off S128x128.size inb, w⟩ :: L)) (uIx k' a g' b)
      = v.read (Elt Bits) (v.writes (Elt Bits) f L) (uIx k' a g' b) := by
  refine View.read_writes_cons_unit_of_not_mem v f inb w L _ h 1 ?_
  show 128 * g'.val + b.val < 1024 + 128 * g.val ∨ 1024 + 128 * g.val + 128 ≤ 128 * g'.val + b.val
  omega

theorem cons_v_at_v (h : off = ![128 * k.val, 1024 + 128 * g.val]) :
    v.read (Elt Bits) (v.writes (Elt Bits) f (⟨Rect.unit (s := S1024x2048) off S128x128.size inb, w⟩ :: L)) (vIx k' a g' b)
      = if k' = k ∧ g' = g then w (ix2 a b) else v.read (Elt Bits) (v.writes (Elt Bits) f L) (vIx k' a g' b) := by
  split_ifs with hr
  · obtain ⟨rfl, rfl⟩ := hr
    refine View.read_writes_cons_unit_of_mem v f inb w L _ (ix2 a b) h fun i => ?_
    match i with
    | ⟨0, _⟩ => rfl
    | ⟨1, _⟩ => rfl
  · rcases not_and_or.mp hr with hk | hk
    · refine View.read_writes_cons_unit_of_not_mem v f inb w L _ h 0 ?_
      show 128 * k'.val + a.val < 128 * k.val ∨ 128 * k.val + 128 ≤ 128 * k'.val + a.val
      have := Fin.val_ne_of_ne hk
      omega
    · refine View.read_writes_cons_unit_of_not_mem v f inb w L _ h 1 ?_
      show 1024 + 128 * g'.val + b.val < 1024 + 128 * g.val ∨ 1024 + 128 * g.val + 128 ≤ 1024 + 128 * g'.val + b.val
      have := Fin.val_ne_of_ne hk
      omega

theorem read_blocks_u (ou ov : Fin 8 → Fin 2 → ℕ) (hu : ∀ g : Fin 8, ou g = ![128 * k.val, 128 * g.val]) (hv : ∀ g : Fin 8, ov g = ![128 * k.val, 1024 + 128 * g.val])
    (iu : ∀ g, ∀ i, ou g i + S128x128.size i ≤ S1024x2048.size i) (iv : ∀ g, ∀ i, ov g i + S128x128.size i ≤ S1024x2048.size i)
    (pu pv : Fin 8 → Vec Bits S128x128 .bf16) :
    v.read (Elt Bits) (v.writes (Elt Bits) f
      [⟨Rect.unit (s := S1024x2048) (ov 7) S128x128.size (iv 7), pv 7⟩, ⟨Rect.unit (s := S1024x2048) (ou 7) S128x128.size (iu 7), pu 7⟩,
       ⟨Rect.unit (s := S1024x2048) (ov 6) S128x128.size (iv 6), pv 6⟩, ⟨Rect.unit (s := S1024x2048) (ou 6) S128x128.size (iu 6), pu 6⟩,
       ⟨Rect.unit (s := S1024x2048) (ov 5) S128x128.size (iv 5), pv 5⟩, ⟨Rect.unit (s := S1024x2048) (ou 5) S128x128.size (iu 5), pu 5⟩,
       ⟨Rect.unit (s := S1024x2048) (ov 4) S128x128.size (iv 4), pv 4⟩, ⟨Rect.unit (s := S1024x2048) (ou 4) S128x128.size (iu 4), pu 4⟩,
       ⟨Rect.unit (s := S1024x2048) (ov 3) S128x128.size (iv 3), pv 3⟩, ⟨Rect.unit (s := S1024x2048) (ou 3) S128x128.size (iu 3), pu 3⟩,
       ⟨Rect.unit (s := S1024x2048) (ov 2) S128x128.size (iv 2), pv 2⟩, ⟨Rect.unit (s := S1024x2048) (ou 2) S128x128.size (iu 2), pu 2⟩,
       ⟨Rect.unit (s := S1024x2048) (ov 1) S128x128.size (iv 1), pv 1⟩, ⟨Rect.unit (s := S1024x2048) (ou 1) S128x128.size (iu 1), pu 1⟩,
       ⟨Rect.unit (s := S1024x2048) (ov 0) S128x128.size (iv 0), pv 0⟩, ⟨Rect.unit (s := S1024x2048) (ou 0) S128x128.size (iu 0), pu 0⟩]) (uIx k' a g' b)
      = if k' = k then pu g' (ix2 a b) else v.read (Elt Bits) f (uIx k' a g' b) := by
  rw [cons_v_at_u v f k 7 (iv 7) _ _ _ _ _ _ (hv 7), cons_u_at_u v f k 7 (iu 7) _ _ _ _ _ _ (hu 7), cons_v_at_u v f k 6 (iv 6) _ _ _ _ _ _ (hv 6), cons_u_at_u v f k 6 (iu 6) _ _ _ _ _ _ (hu 6), cons_v_at_u v f k 5 (iv 5) _ _ _ _ _ _ (hv 5), cons_u_at_u v f k 5 (iu 5) _ _ _ _ _ _ (hu 5), cons_v_at_u v f k 4 (iv 4) _ _ _ _ _ _ (hv 4), cons_u_at_u v f k 4 (iu 4) _ _ _ _ _ _ (hu 4), cons_v_at_u v f k 3 (iv 3) _ _ _ _ _ _ (hv 3), cons_u_at_u v f k 3 (iu 3) _ _ _ _ _ _ (hu 3), cons_v_at_u v f k 2 (iv 2) _ _ _ _ _ _ (hv 2), cons_u_at_u v f k 2 (iu 2) _ _ _ _ _ _ (hu 2), cons_v_at_u v f k 1 (iv 1) _ _ _ _ _ _ (hv 1), cons_u_at_u v f k 1 (iu 1) _ _ _ _ _ _ (hu 1), cons_v_at_u v f k 0 (iv 0) _ _ _ _ _ _ (hv 0), cons_u_at_u v f k 0 (iu 0) _ _ _ _ _ _ (hu 0)]
  by_cases hk : k' = k
  · subst hk
    simp only [true_and, if_true]
    split_ifs with h7 h6 h5 h4 h3 h2 h1 h0
    all_goals first
      | (subst_vars; rfl)
      | (exfalso; fin_cases g'
         exacts [h0 rfl, h1 rfl, h2 rfl, h3 rfl, h4 rfl, h5 rfl, h6 rfl, h7 rfl])
  · simp only [hk, false_and, if_false]
    rfl

theorem read_blocks_v (ou ov : Fin 8 → Fin 2 → ℕ) (hu : ∀ g : Fin 8, ou g = ![128 * k.val, 128 * g.val]) (hv : ∀ g : Fin 8, ov g = ![128 * k.val, 1024 + 128 * g.val])
    (iu : ∀ g, ∀ i, ou g i + S128x128.size i ≤ S1024x2048.size i) (iv : ∀ g, ∀ i, ov g i + S128x128.size i ≤ S1024x2048.size i)
    (pu pv : Fin 8 → Vec Bits S128x128 .bf16) :
    v.read (Elt Bits) (v.writes (Elt Bits) f
      [⟨Rect.unit (s := S1024x2048) (ov 7) S128x128.size (iv 7), pv 7⟩, ⟨Rect.unit (s := S1024x2048) (ou 7) S128x128.size (iu 7), pu 7⟩,
       ⟨Rect.unit (s := S1024x2048) (ov 6) S128x128.size (iv 6), pv 6⟩, ⟨Rect.unit (s := S1024x2048) (ou 6) S128x128.size (iu 6), pu 6⟩,
       ⟨Rect.unit (s := S1024x2048) (ov 5) S128x128.size (iv 5), pv 5⟩, ⟨Rect.unit (s := S1024x2048) (ou 5) S128x128.size (iu 5), pu 5⟩,
       ⟨Rect.unit (s := S1024x2048) (ov 4) S128x128.size (iv 4), pv 4⟩, ⟨Rect.unit (s := S1024x2048) (ou 4) S128x128.size (iu 4), pu 4⟩,
       ⟨Rect.unit (s := S1024x2048) (ov 3) S128x128.size (iv 3), pv 3⟩, ⟨Rect.unit (s := S1024x2048) (ou 3) S128x128.size (iu 3), pu 3⟩,
       ⟨Rect.unit (s := S1024x2048) (ov 2) S128x128.size (iv 2), pv 2⟩, ⟨Rect.unit (s := S1024x2048) (ou 2) S128x128.size (iu 2), pu 2⟩,
       ⟨Rect.unit (s := S1024x2048) (ov 1) S128x128.size (iv 1), pv 1⟩, ⟨Rect.unit (s := S1024x2048) (ou 1) S128x128.size (iu 1), pu 1⟩,
       ⟨Rect.unit (s := S1024x2048) (ov 0) S128x128.size (iv 0), pv 0⟩, ⟨Rect.unit (s := S1024x2048) (ou 0) S128x128.size (iu 0), pu 0⟩]) (vIx k' a g' b)
      = if k' = k then pv g' (ix2 a b) else v.read (Elt Bits) f (vIx k' a g' b) := by
  rw [cons_v_at_v v f k 7 (iv 7) _ _ _ _ _ _ (hv 7), cons_u_at_v v f k 7 (iu 7) _ _ _ _ _ _ (hu 7), cons_v_at_v v f k 6 (iv 6) _ _ _ _ _ _ (hv 6), cons_u_at_v v f k 6 (iu 6) _ _ _ _ _ _ (hu 6), cons_v_at_v v f k 5 (iv 5) _ _ _ _ _ _ (hv 5), cons_u_at_v v f k 5 (iu 5) _ _ _ _ _ _ (hu 5), cons_v_at_v v f k 4 (iv 4) _ _ _ _ _ _ (hv 4), cons_u_at_v v f k 4 (iu 4) _ _ _ _ _ _ (hu 4), cons_v_at_v v f k 3 (iv 3) _ _ _ _ _ _ (hv 3), cons_u_at_v v f k 3 (iu 3) _ _ _ _ _ _ (hu 3), cons_v_at_v v f k 2 (iv 2) _ _ _ _ _ _ (hv 2), cons_u_at_v v f k 2 (iu 2) _ _ _ _ _ _ (hu 2), cons_v_at_v v f k 1 (iv 1) _ _ _ _ _ _ (hv 1), cons_u_at_v v f k 1 (iu 1) _ _ _ _ _ _ (hu 1), cons_v_at_v v f k 0 (iv 0) _ _ _ _ _ _ (hv 0), cons_u_at_v v f k 0 (iu 0) _ _ _ _ _ _ (hu 0)]
  by_cases hk : k' = k
  · subst hk
    simp only [true_and, if_true]
    split_ifs with h7 h6 h5 h4 h3 h2 h1 h0
    all_goals first
      | (subst_vars; rfl)
      | (exfalso; fin_cases g'
         exacts [h0 rfl, h1 rfl, h2 rfl, h3 rfl, h4 rfl, h5 rfl, h6 rfl, h7 rfl])
  · simp only [hk, false_and, if_false]
    rfl

end Blocks

section Trip

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (v50 : IVec S128x128 1) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (X_arg6 : BufTy.Contents (Elt Bits) arg6.view.ty) (X_arg12 : BufTy.Contents (Elt Bits) arg12.view.ty) (k : Fin k0_t1_loop.trips) (f_arg7 : BufTy.Contents (Elt Bits) arg7.view.ty) (f_arg8 : BufTy.Contents (Elt Bits) arg8.view.ty) (f_arg9 : BufTy.Contents (Elt Bits) arg9.view.ty) (f_arg10 : BufTy.Contents (Elt Bits) arg10.view.ty) (f_arg11 : BufTy.Contents (Elt Bits) arg11.view.ty)

theorem trip8 (r : Fin 8) (a : Fin 128) :
    arg8.view.read (Elt Bits) (arg8.view.writes (Elt Bits) f_arg8 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.1 f_arg7 f_arg8 f_arg9 f_arg10 f_arg11 )) (ix2 r a)
      = (fun g : Fin 8 => k0_pay35 (lnwG (zuB (arg1.view.read (Elt Bits) X_arg1) (tok k) g) (zvB (arg1.view.read (Elt Bits) X_arg1) (tok k) g) (doB (arg2.view.read (Elt Bits) X_arg2) (tok k) g) (matB (arg12.view.read (Elt Bits) X_arg12) g)) (rowB (arg8.view.read (Elt Bits) f_arg8) g)) r (ix2 0 a) := by
  refine (congrArg (fun L => arg8.view.read (Elt Bits) (arg8.view.writes (Elt Bits) f_arg8 L) _) ?_).trans
    (read_rows arg8.view f_arg8 (fun g : Fin 8 => k0_pay35 (lnwG (zuB (arg1.view.read (Elt Bits) X_arg1) (tok k) g) (zvB (arg1.view.read (Elt Bits) X_arg1) (tok k) g) (doB (arg2.view.read (Elt Bits) X_arg2) (tok k) g) (matB (arg12.view.read (Elt Bits) X_arg12) g)) (rowB (arg8.view.read (Elt Bits) f_arg8) g))
      (by decide) (by decide) (by decide) (by decide) (by decide) (by decide) (by decide) (by decide) r a)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_row arg8.view f_arg8 0 (off := ![0, 0]) rfl, ld_row arg8.view f_arg8 1 (off := ![1, 0]) rfl, ld_row arg8.view f_arg8 2 (off := ![2, 0]) rfl, ld_row arg8.view f_arg8 3 (off := ![3, 0]) rfl, ld_row arg8.view f_arg8 4 (off := ![4, 0]) rfl, ld_row arg8.view f_arg8 5 (off := ![5, 0]) rfl, ld_row arg8.view f_arg8 6 (off := ![6, 0]) rfl, ld_row arg8.view f_arg8 7 (off := ![7, 0]) rfl]
  rfl

theorem trip9 (r : Fin 8) (a : Fin 128) :
    arg9.view.read (Elt Bits) (arg9.view.writes (Elt Bits) f_arg9 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.1 f_arg7 f_arg8 f_arg9 f_arg10 f_arg11 )) (ix2 r a)
      = (fun g : Fin 8 => k0_pay36 (lnbG (zuB (arg1.view.read (Elt Bits) X_arg1) (tok k) g) (doB (arg2.view.read (Elt Bits) X_arg2) (tok k) g) (matB (arg12.view.read (Elt Bits) X_arg12) g)) (rowB (arg9.view.read (Elt Bits) f_arg9) g)) r (ix2 0 a) := by
  refine (congrArg (fun L => arg9.view.read (Elt Bits) (arg9.view.writes (Elt Bits) f_arg9 L) _) ?_).trans
    (read_rows arg9.view f_arg9 (fun g : Fin 8 => k0_pay36 (lnbG (zuB (arg1.view.read (Elt Bits) X_arg1) (tok k) g) (doB (arg2.view.read (Elt Bits) X_arg2) (tok k) g) (matB (arg12.view.read (Elt Bits) X_arg12) g)) (rowB (arg9.view.read (Elt Bits) f_arg9) g))
      (by decide) (by decide) (by decide) (by decide) (by decide) (by decide) (by decide) (by decide) r a)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_row arg9.view f_arg9 0 (off := ![0, 0]) rfl, ld_row arg9.view f_arg9 1 (off := ![1, 0]) rfl, ld_row arg9.view f_arg9 2 (off := ![2, 0]) rfl, ld_row arg9.view f_arg9 3 (off := ![3, 0]) rfl, ld_row arg9.view f_arg9 4 (off := ![4, 0]) rfl, ld_row arg9.view f_arg9 5 (off := ![5, 0]) rfl, ld_row arg9.view f_arg9 6 (off := ![6, 0]) rfl, ld_row arg9.view f_arg9 7 (off := ![7, 0]) rfl]
  rfl

theorem trip10 (r : Fin 8) (a b : Fin 128) :
    arg10.view.read (Elt Bits) (arg10.view.writes (Elt Bits) f_arg10 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.1 f_arg7 f_arg8 f_arg9 f_arg10 f_arg11 )) (ix3 r a b)
      = (fun g : Fin 8 => k0_pay37 v50 (wsG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (rowB (arg4.view.read (Elt Bits) X_arg4) g)) (matB (arg10.view.read (Elt Bits) f_arg10) g)) r (ix3 0 a b) := by
  refine (congrArg (fun L => arg10.view.read (Elt Bits) (arg10.view.writes (Elt Bits) f_arg10 L) _) ?_).trans
    (read_mats arg10.view f_arg10 (fun g : Fin 8 => k0_pay37 v50 (wsG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (rowB (arg4.view.read (Elt Bits) X_arg4) g)) (matB (arg10.view.read (Elt Bits) f_arg10) g))
      (by decide) (by decide) (by decide) (by decide) (by decide) (by decide) (by decide) (by decide) r a b)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg10.view f_arg10 0 (off := ![0, 0, 0]) rfl, ld_mat arg10.view f_arg10 1 (off := ![1, 0, 0]) rfl, ld_mat arg10.view f_arg10 2 (off := ![2, 0, 0]) rfl, ld_mat arg10.view f_arg10 3 (off := ![3, 0, 0]) rfl, ld_mat arg10.view f_arg10 4 (off := ![4, 0, 0]) rfl, ld_mat arg10.view f_arg10 5 (off := ![5, 0, 0]) rfl, ld_mat arg10.view f_arg10 6 (off := ![6, 0, 0]) rfl, ld_mat arg10.view f_arg10 7 (off := ![7, 0, 0]) rfl]
  rfl

theorem trip11 (r : Fin 8) (a : Fin 128) (b : Fin 1) :
    arg11.view.read (Elt Bits) (arg11.view.writes (Elt Bits) f_arg11 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).2.2.2.2.1 f_arg7 f_arg8 f_arg9 f_arg10 f_arg11 )) (ix3 r a b)
      = (fun g : Fin 8 => k0_pay39 (k0_pay38 (bsG (zuB (arg1.view.read (Elt Bits) X_arg1) (tok k) g) (doB (arg2.view.read (Elt Bits) X_arg2) (tok k) g)) (colB (arg11.view.read (Elt Bits) f_arg11) g))) r (ix3 0 a b) := by
  refine (congrArg (fun L => arg11.view.read (Elt Bits) (arg11.view.writes (Elt Bits) f_arg11 L) _) ?_).trans
    (read_cols arg11.view f_arg11 (fun g : Fin 8 => k0_pay39 (k0_pay38 (bsG (zuB (arg1.view.read (Elt Bits) X_arg1) (tok k) g) (doB (arg2.view.read (Elt Bits) X_arg2) (tok k) g)) (colB (arg11.view.read (Elt Bits) f_arg11) g)))
      (by decide) (by decide) (by decide) (by decide) (by decide) (by decide) (by decide) (by decide) r a b)
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_col arg11.view f_arg11 0 (off := ![0, 0, 0]) rfl, ld_col arg11.view f_arg11 1 (off := ![1, 0, 0]) rfl, ld_col arg11.view f_arg11 2 (off := ![2, 0, 0]) rfl, ld_col arg11.view f_arg11 3 (off := ![3, 0, 0]) rfl, ld_col arg11.view f_arg11 4 (off := ![4, 0, 0]) rfl, ld_col arg11.view f_arg11 5 (off := ![5, 0, 0]) rfl, ld_col arg11.view f_arg11 6 (off := ![6, 0, 0]) rfl, ld_col arg11.view f_arg11 7 (off := ![7, 0, 0]) rfl]
  rfl

theorem trip7u (k' : Fin 8) (a : Fin 128) (g' : Fin 8) (b : Fin 128) :
    arg7.view.read (Elt Bits) (arg7.view.writes (Elt Bits) f_arg7 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).1 f_arg7 f_arg8 f_arg9 f_arg10 f_arg11 )) (uIx k' a g' b)
      = if k' = tok k then (fun g => duG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (rowB (arg4.view.read (Elt Bits) X_arg4) g) (matB (arg12.view.read (Elt Bits) X_arg12) g) (colB (arg6.view.read (Elt Bits) X_arg6) g)) g' (ix2 a b) else arg7.view.read (Elt Bits) f_arg7 (uIx k' a g' b) := by
  refine (congrArg (fun L => arg7.view.read (Elt Bits) (arg7.view.writes (Elt Bits) f_arg7 L) _) ?_).trans
    (read_blocks_u arg7.view f_arg7 (tok k) k' a g' b ![k0_off1 k, k0_off4 k, k0_off7 k, k0_off10 k, k0_off13 k, k0_off16 k, k0_off19 k, k0_off22 k] ![k0_off2 k, k0_off5 k, k0_off8 k, k0_off11 k, k0_off14 k, k0_off17 k, k0_off20 k, k0_off23 k]
      (fun g => by fin_cases g; exacts [k0_off1_eq k, k0_off4_eq k, k0_off7_eq k, k0_off10_eq k, k0_off13_eq k, k0_off16_eq k, k0_off19_eq k, k0_off22_eq k]) (fun g => by fin_cases g; exacts [k0_off2_eq k, k0_off5_eq k, k0_off8_eq k, k0_off11_eq k, k0_off14_eq k, k0_off17_eq k, k0_off20_eq k, k0_off23_eq k])
      (fun g => by fin_cases g; exacts [Facts₀.k0_off1_inb k, Facts₀.k0_off4_inb k, Facts₀.k0_off7_inb k, Facts₀.k0_off10_inb k, Facts₀.k0_off13_inb k, Facts₀.k0_off16_inb k, Facts₀.k0_off19_inb k, Facts₀.k0_off22_inb k]) (fun g => by fin_cases g; exacts [Facts₀.k0_off2_inb k, Facts₀.k0_off5_inb k, Facts₀.k0_off8_inb k, Facts₀.k0_off11_inb k, Facts₀.k0_off14_inb k, Facts₀.k0_off17_inb k, Facts₀.k0_off20_inb k, Facts₀.k0_off23_inb k])
      (fun g => duG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (rowB (arg4.view.read (Elt Bits) X_arg4) g) (matB (arg12.view.read (Elt Bits) X_arg12) g) (colB (arg6.view.read (Elt Bits) X_arg6) g)) (fun g => dvG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (matB (arg12.view.read (Elt Bits) X_arg12) g)))
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_col arg6.view X_arg6 0 (off := ![0, 0, 0]) rfl, ld_col arg6.view X_arg6 1 (off := ![1, 0, 0]) rfl, ld_col arg6.view X_arg6 2 (off := ![2, 0, 0]) rfl, ld_col arg6.view X_arg6 3 (off := ![3, 0, 0]) rfl, ld_col arg6.view X_arg6 4 (off := ![4, 0, 0]) rfl, ld_col arg6.view X_arg6 5 (off := ![5, 0, 0]) rfl, ld_col arg6.view X_arg6 6 (off := ![6, 0, 0]) rfl, ld_col arg6.view X_arg6 7 (off := ![7, 0, 0]) rfl]
  rfl

theorem trip7v (k' : Fin 8) (a : Fin 128) (g' : Fin 8) (b : Fin 128) :
    arg7.view.read (Elt Bits) (arg7.view.writes (Elt Bits) f_arg7 ((trip_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 k).1 f_arg7 f_arg8 f_arg9 f_arg10 f_arg11 )) (vIx k' a g' b)
      = if k' = tok k then (fun g => dvG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (matB (arg12.view.read (Elt Bits) X_arg12) g)) g' (ix2 a b) else arg7.view.read (Elt Bits) f_arg7 (vIx k' a g' b) := by
  refine (congrArg (fun L => arg7.view.read (Elt Bits) (arg7.view.writes (Elt Bits) f_arg7 L) _) ?_).trans
    (read_blocks_v arg7.view f_arg7 (tok k) k' a g' b ![k0_off1 k, k0_off4 k, k0_off7 k, k0_off10 k, k0_off13 k, k0_off16 k, k0_off19 k, k0_off22 k] ![k0_off2 k, k0_off5 k, k0_off8 k, k0_off11 k, k0_off14 k, k0_off17 k, k0_off20 k, k0_off23 k]
      (fun g => by fin_cases g; exacts [k0_off1_eq k, k0_off4_eq k, k0_off7_eq k, k0_off10_eq k, k0_off13_eq k, k0_off16_eq k, k0_off19_eq k, k0_off22_eq k]) (fun g => by fin_cases g; exacts [k0_off2_eq k, k0_off5_eq k, k0_off8_eq k, k0_off11_eq k, k0_off14_eq k, k0_off17_eq k, k0_off20_eq k, k0_off23_eq k])
      (fun g => by fin_cases g; exacts [Facts₀.k0_off1_inb k, Facts₀.k0_off4_inb k, Facts₀.k0_off7_inb k, Facts₀.k0_off10_inb k, Facts₀.k0_off13_inb k, Facts₀.k0_off16_inb k, Facts₀.k0_off19_inb k, Facts₀.k0_off22_inb k]) (fun g => by fin_cases g; exacts [Facts₀.k0_off2_inb k, Facts₀.k0_off5_inb k, Facts₀.k0_off8_inb k, Facts₀.k0_off11_inb k, Facts₀.k0_off14_inb k, Facts₀.k0_off17_inb k, Facts₀.k0_off20_inb k, Facts₀.k0_off23_inb k])
      (fun g => duG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (rowB (arg4.view.read (Elt Bits) X_arg4) g) (matB (arg12.view.read (Elt Bits) X_arg12) g) (colB (arg6.view.read (Elt Bits) X_arg6) g)) (fun g => dvG (zuB (arg1.view.read (Elt Bits) X_arg1) (tok k) g) (zvB (arg1.view.read (Elt Bits) X_arg1) (tok k) g) (doB (arg2.view.read (Elt Bits) X_arg2) (tok k) g) (rowB (arg3.view.read (Elt Bits) X_arg3) g) (matB (arg12.view.read (Elt Bits) X_arg12) g)))
  unfold trip_k0_t1
  dsimp only
  sl_unfold_run_names
  simp only [ld_zu arg1.view X_arg1 (tok k) 0 (k0_off1_eq k), ld_zu arg1.view X_arg1 (tok k) 1 (k0_off4_eq k), ld_zu arg1.view X_arg1 (tok k) 2 (k0_off7_eq k), ld_zu arg1.view X_arg1 (tok k) 3 (k0_off10_eq k), ld_zu arg1.view X_arg1 (tok k) 4 (k0_off13_eq k), ld_zu arg1.view X_arg1 (tok k) 5 (k0_off16_eq k), ld_zu arg1.view X_arg1 (tok k) 6 (k0_off19_eq k), ld_zu arg1.view X_arg1 (tok k) 7 (k0_off22_eq k),
    ld_zv arg1.view X_arg1 (tok k) 0 (k0_off2_eq k), ld_zv arg1.view X_arg1 (tok k) 1 (k0_off5_eq k), ld_zv arg1.view X_arg1 (tok k) 2 (k0_off8_eq k), ld_zv arg1.view X_arg1 (tok k) 3 (k0_off11_eq k), ld_zv arg1.view X_arg1 (tok k) 4 (k0_off14_eq k), ld_zv arg1.view X_arg1 (tok k) 5 (k0_off17_eq k), ld_zv arg1.view X_arg1 (tok k) 6 (k0_off20_eq k), ld_zv arg1.view X_arg1 (tok k) 7 (k0_off23_eq k),
    ld_do arg2.view X_arg2 (tok k) 0 (k0_off3_eq k), ld_do arg2.view X_arg2 (tok k) 1 (k0_off6_eq k), ld_do arg2.view X_arg2 (tok k) 2 (k0_off9_eq k), ld_do arg2.view X_arg2 (tok k) 3 (k0_off12_eq k), ld_do arg2.view X_arg2 (tok k) 4 (k0_off15_eq k), ld_do arg2.view X_arg2 (tok k) 5 (k0_off18_eq k), ld_do arg2.view X_arg2 (tok k) 6 (k0_off21_eq k), ld_do arg2.view X_arg2 (tok k) 7 (k0_off24_eq k),
    ld_row arg3.view X_arg3 0 (off := ![0, 0]) rfl, ld_row arg3.view X_arg3 1 (off := ![1, 0]) rfl, ld_row arg3.view X_arg3 2 (off := ![2, 0]) rfl, ld_row arg3.view X_arg3 3 (off := ![3, 0]) rfl, ld_row arg3.view X_arg3 4 (off := ![4, 0]) rfl, ld_row arg3.view X_arg3 5 (off := ![5, 0]) rfl, ld_row arg3.view X_arg3 6 (off := ![6, 0]) rfl, ld_row arg3.view X_arg3 7 (off := ![7, 0]) rfl, ld_row arg4.view X_arg4 0 (off := ![0, 0]) rfl, ld_row arg4.view X_arg4 1 (off := ![1, 0]) rfl, ld_row arg4.view X_arg4 2 (off := ![2, 0]) rfl, ld_row arg4.view X_arg4 3 (off := ![3, 0]) rfl, ld_row arg4.view X_arg4 4 (off := ![4, 0]) rfl, ld_row arg4.view X_arg4 5 (off := ![5, 0]) rfl, ld_row arg4.view X_arg4 6 (off := ![6, 0]) rfl, ld_row arg4.view X_arg4 7 (off := ![7, 0]) rfl, ld_mat arg12.view X_arg12 0 (off := ![0, 0, 0]) rfl, ld_mat arg12.view X_arg12 1 (off := ![1, 0, 0]) rfl, ld_mat arg12.view X_arg12 2 (off := ![2, 0, 0]) rfl, ld_mat arg12.view X_arg12 3 (off := ![3, 0, 0]) rfl, ld_mat arg12.view X_arg12 4 (off := ![4, 0, 0]) rfl, ld_mat arg12.view X_arg12 5 (off := ![5, 0, 0]) rfl, ld_mat arg12.view X_arg12 6 (off := ![6, 0, 0]) rfl, ld_mat arg12.view X_arg12 7 (off := ![7, 0, 0]) rfl, ld_col arg6.view X_arg6 0 (off := ![0, 0, 0]) rfl, ld_col arg6.view X_arg6 1 (off := ![1, 0, 0]) rfl, ld_col arg6.view X_arg6 2 (off := ![2, 0, 0]) rfl, ld_col arg6.view X_arg6 3 (off := ![3, 0, 0]) rfl, ld_col arg6.view X_arg6 4 (off := ![4, 0, 0]) rfl, ld_col arg6.view X_arg6 5 (off := ![5, 0, 0]) rfl, ld_col arg6.view X_arg6 6 (off := ![6, 0, 0]) rfl, ld_col arg6.view X_arg6 7 (off := ![7, 0, 0]) rfl]
  rfl

end Trip

end Cert.Kernel.Gmlp
-- ==== Proof.GmlpBits.Loop.lean ====
module

public import proofs.«01_k».proof.Proof.GmlpBits.Trip

/-! What the eight trips of the body's loop leave in each written buffer: the gradient of the
inputs block by block, and every accumulator raised by the eight blocks' sum. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open Idealize.SL.Sem Gen

section Terms

variable (x1 : Vec Bits S1024x2048 .bf16) (x2 : Vec Bits S1024x1024 .bf16) (x3 x4 : Vec Bits S8x128 .f32)
  (x6 : Vec Bits S8x128x1 .f32) (m : Vec Bits S8x128x128 .bf16) (v50 : IVec S128x128 1) (k g : Fin 8)

/-- The gradient of block `k`, group `g` of the first half. -/
def uT : FVec Bits S128x128 .bf16 := duG (zuB x1 k g) (zvB x1 k g) (doB x2 k g) (rowB x3 g) (rowB x4 g) (matB m g) (colB x6 g)
/-- The gradient of block `k`, group `g` of the second half. -/
def vT : FVec Bits S128x128 .bf16 := dvG (zuB x1 k g) (zvB x1 k g) (doB x2 k g) (rowB x3 g) (matB m g)
/-- The scale's gradient after block `k`, over what it held before. -/
def u8 (o : Vec Bits S8x128 .f32) : Vec Bits S8x128 .f32 := fun j =>
  k0_pay35 (lnwG (zuB x1 k (j 0)) (zvB x1 k (j 0)) (doB x2 k (j 0)) (matB m (j 0))) (rowB o (j 0)) (ix2 0 (j 1))
/-- The offset's gradient after block `k`. -/
def u9 (o : Vec Bits S8x128 .f32) : Vec Bits S8x128 .f32 := fun j =>
  k0_pay36 (lnbG (zuB x1 k (j 0)) (doB x2 k (j 0)) (matB m (j 0))) (rowB o (j 0)) (ix2 0 (j 1))
/-- The mixing matrices' gradient after block `k`. -/
def u10 (o : Vec Bits S8x128x128 .f32) : Vec Bits S8x128x128 .f32 := fun j =>
  k0_pay37 v50 (wsG (zuB x1 k (j 0)) (zvB x1 k (j 0)) (doB x2 k (j 0)) (rowB x3 (j 0)) (rowB x4 (j 0))) (matB o (j 0)) (ix3 0 (j 1) (j 2))
/-- The bias's gradient after block `k`. -/
def u11 (o : Vec Bits S8x128x1 .f32) : Vec Bits S8x128x1 .f32 := fun j =>
  k0_pay39 (k0_pay38 (bsG (zuB x1 k (j 0)) (doB x2 k (j 0))) (colB o (j 0))) (ix3 0 (j 1) (j 2))

end Terms

section Loop

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (k : Fin k0_t1_loop.trips) (f_arg7 : BufTy.Contents (Elt Bits) arg7.view.ty) (f_arg8 : BufTy.Contents (Elt Bits) arg8.view.ty) (f_arg9 : BufTy.Contents (Elt Bits) arg9.view.ty) (f_arg10 : BufTy.Contents (Elt Bits) arg10.view.ty) (f_arg11 : BufTy.Contents (Elt Bits) arg11.view.ty) (v50 : IVec S128x128 1) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (X_arg6 : BufTy.Contents (Elt Bits) arg6.view.ty) (X_arg12 : BufTy.Contents (Elt Bits) arg12.view.ty) (G_arg7 : BufTy.Contents (Elt Bits) arg7.view.ty) (G_arg8 : BufTy.Contents (Elt Bits) arg8.view.ty) (G_arg9 : BufTy.Contents (Elt Bits) arg9.view.ty) (G_arg10 : BufTy.Contents (Elt Bits) arg10.view.ty) (G_arg11 : BufTy.Contents (Elt Bits) arg11.view.ty) (k : Fin k0_t1_loop.trips) (f_arg7 : BufTy.Contents (Elt Bits) arg7.view.ty) (f_arg8 : BufTy.Contents (Elt Bits) arg8.view.ty) (f_arg9 : BufTy.Contents (Elt Bits) arg9.view.ty) (f_arg10 : BufTy.Contents (Elt Bits) arg10.view.ty) (f_arg11 : BufTy.Contents (Elt Bits) arg11.view.ty)

/-- Number `k` among eight. -/
def k8 (k : ℕ) : Fin 8 := ⟨k % 8, by omega⟩

/-- `n` blocks' steps, one after another. -/
def steps {V : Type} (f : Fin 8 → V → V) (o : V) : ℕ → V
  | 0 => o
  | n + 1 => f (k8 n) (steps f o n)

theorem loop8 (n : ℕ) (hn : n ≤ 8) :
    arg8.view.read (Elt Bits) (arg8.view.writes (Elt Bits) G_arg8 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.1)
      = steps (fun k => u8 (arg1.view.read (Elt Bits) X_arg1) (arg2.view.read (Elt Bits) X_arg2) (arg12.view.read (Elt Bits) X_arg12) k) (arg8.view.read (Elt Bits) G_arg8) n := by
  induction n with
  | zero => rfl
  | succ n ih =>
    have hk : n < k0_t1_loop.trips := hn
    have e : k8 n = tok ⟨n, hk⟩ := Fin.ext (Nat.mod_eq_of_lt hn)
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg8.view.read (Elt Bits) (arg8.view.writes (Elt Bits) G_arg8 L.2.1)) h).trans ?_
    refine (congrArg (arg8.view.read (Elt Bits)) (View.writes_append ..)).trans ?_
    rw [steps, ← ih (by omega), e]
    funext j
    idx_vars j
    exact trip8 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ j0 j1

theorem loop9 (n : ℕ) (hn : n ≤ 8) :
    arg9.view.read (Elt Bits) (arg9.view.writes (Elt Bits) G_arg9 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.1)
      = steps (fun k => u9 (arg1.view.read (Elt Bits) X_arg1) (arg2.view.read (Elt Bits) X_arg2) (arg12.view.read (Elt Bits) X_arg12) k) (arg9.view.read (Elt Bits) G_arg9) n := by
  induction n with
  | zero => rfl
  | succ n ih =>
    have hk : n < k0_t1_loop.trips := hn
    have e : k8 n = tok ⟨n, hk⟩ := Fin.ext (Nat.mod_eq_of_lt hn)
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg9.view.read (Elt Bits) (arg9.view.writes (Elt Bits) G_arg9 L.2.2.1)) h).trans ?_
    refine (congrArg (arg9.view.read (Elt Bits)) (View.writes_append ..)).trans ?_
    rw [steps, ← ih (by omega), e]
    funext j
    idx_vars j
    exact trip9 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ j0 j1

theorem loop10 (n : ℕ) (hn : n ≤ 8) :
    arg10.view.read (Elt Bits) (arg10.view.writes (Elt Bits) G_arg10 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.2.1)
      = steps (fun k => u10 (arg1.view.read (Elt Bits) X_arg1) (arg2.view.read (Elt Bits) X_arg2) (arg3.view.read (Elt Bits) X_arg3) (arg4.view.read (Elt Bits) X_arg4) v50 k) (arg10.view.read (Elt Bits) G_arg10) n := by
  induction n with
  | zero => rfl
  | succ n ih =>
    have hk : n < k0_t1_loop.trips := hn
    have e : k8 n = tok ⟨n, hk⟩ := Fin.ext (Nat.mod_eq_of_lt hn)
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg10.view.read (Elt Bits) (arg10.view.writes (Elt Bits) G_arg10 L.2.2.2.1)) h).trans ?_
    refine (congrArg (arg10.view.read (Elt Bits)) (View.writes_append ..)).trans ?_
    rw [steps, ← ih (by omega), e]
    funext j
    idx_vars j
    exact trip10 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ j0 j1 j2

theorem loop11 (n : ℕ) (hn : n ≤ 8) :
    arg11.view.read (Elt Bits) (arg11.view.writes (Elt Bits) G_arg11 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).2.2.2.2)
      = steps (fun k => u11 (arg1.view.read (Elt Bits) X_arg1) (arg2.view.read (Elt Bits) X_arg2) k) (arg11.view.read (Elt Bits) G_arg11) n := by
  induction n with
  | zero => rfl
  | succ n ih =>
    have hk : n < k0_t1_loop.trips := hn
    have e : k8 n = tok ⟨n, hk⟩ := Fin.ext (Nat.mod_eq_of_lt hn)
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg11.view.read (Elt Bits) (arg11.view.writes (Elt Bits) G_arg11 L.2.2.2.2)) h).trans ?_
    refine (congrArg (arg11.view.read (Elt Bits)) (View.writes_append ..)).trans ?_
    rw [steps, ← ih (by omega), e]
    funext j
    idx_vars j
    exact trip11 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ j0 j1 j2

theorem loop7u (n : ℕ) (hn : n ≤ 8) (k' : Fin 8) (a : Fin 128) (g : Fin 8) (b : Fin 128) :
    arg7.view.read (Elt Bits) (arg7.view.writes (Elt Bits) G_arg7 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).1) (uIx k' a g b)
      = if k'.val < n then uT (arg1.view.read (Elt Bits) X_arg1) (arg2.view.read (Elt Bits) X_arg2) (arg3.view.read (Elt Bits) X_arg3) (arg4.view.read (Elt Bits) X_arg4) (arg6.view.read (Elt Bits) X_arg6) (arg12.view.read (Elt Bits) X_arg12) k' g (ix2 a b) else arg7.view.read (Elt Bits) G_arg7 (uIx k' a g b) := by
  induction n with
  | zero => exact (if_neg (Nat.not_lt_zero _)).symm
  | succ n ih =>
    have hk : n < k0_t1_loop.trips := hn
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg7.view.read (Elt Bits) (arg7.view.writes (Elt Bits) G_arg7 L.1) _) h).trans ?_
    refine (congrFun (congrArg (arg7.view.read (Elt Bits)) (View.writes_append ..)) _).trans ?_
    refine (trip7u 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ k' a g b).trans ?_
    by_cases hc : k'.val = n
    · have e : k' = tok ⟨n, hk⟩ := Fin.ext hc
      rw [if_pos e, if_pos (by omega : k'.val < n + 1), e]
      rfl
    · have e : k' ≠ tok ⟨n, hk⟩ := fun h => hc (congrArg Fin.val h)
      rw [if_neg e, ih (by omega)]
      exact if_congr (by omega) rfl rfl

theorem loop7u_all (k : Fin 8) (a : Fin 128) (g : Fin 8) (b : Fin 128) :
    arg7.view.read (Elt Bits) (arg7.view.writes (Elt Bits) G_arg7 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).1) (uIx k a g b)
      = uT (arg1.view.read (Elt Bits) X_arg1) (arg2.view.read (Elt Bits) X_arg2) (arg3.view.read (Elt Bits) X_arg3) (arg4.view.read (Elt Bits) X_arg4) (arg6.view.read (Elt Bits) X_arg6) (arg12.view.read (Elt Bits) X_arg12) k g (ix2 a b) :=
  (loop7u 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl k a g b).trans (if_pos k.isLt)

theorem loop7v (n : ℕ) (hn : n ≤ 8) (k' : Fin 8) (a : Fin 128) (g : Fin 8) (b : Fin 128) :
    arg7.view.read (Elt Bits) (arg7.view.writes (Elt Bits) G_arg7 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 n).1) (vIx k' a g b)
      = if k'.val < n then vT (arg1.view.read (Elt Bits) X_arg1) (arg2.view.read (Elt Bits) X_arg2) (arg3.view.read (Elt Bits) X_arg3) (arg12.view.read (Elt Bits) X_arg12) k' g (ix2 a b) else arg7.view.read (Elt Bits) G_arg7 (vIx k' a g b) := by
  induction n with
  | zero => exact (if_neg (Nat.not_lt_zero _)).symm
  | succ n ih =>
    have hk : n < k0_t1_loop.trips := hn
    have h := pb_k0_t1_succ (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 ⟨n, hk⟩
    refine (congrArg (fun L => arg7.view.read (Elt Bits) (arg7.view.writes (Elt Bits) G_arg7 L.1) _) h).trans ?_
    refine (congrFun (congrArg (arg7.view.read (Elt Bits)) (View.writes_append ..)) _).trans ?_
    refine (trip7v 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 ⟨n, hk⟩ _ _ _ _ _ k' a g b).trans ?_
    by_cases hc : k'.val = n
    · have e : k' = tok ⟨n, hk⟩ := Fin.ext hc
      rw [if_pos e, if_pos (by omega : k'.val < n + 1), e]
      rfl
    · have e : k' ≠ tok ⟨n, hk⟩ := fun h => hc (congrArg Fin.val h)
      rw [if_neg e, ih (by omega)]
      exact if_congr (by omega) rfl rfl

theorem loop7v_all (k : Fin 8) (a : Fin 128) (g : Fin 8) (b : Fin 128) :
    arg7.view.read (Elt Bits) (arg7.view.writes (Elt Bits) G_arg7 (pb_k0_t1 (F := Bits) 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 k0_t1_loop.trips).1) (vIx k a g b)
      = vT (arg1.view.read (Elt Bits) X_arg1) (arg2.view.read (Elt Bits) X_arg2) (arg3.view.read (Elt Bits) X_arg3) (arg12.view.read (Elt Bits) X_arg12) k g (ix2 a b) :=
  (loop7v 𝒱 c bd i arg1 harg1 arg2 harg2 arg3 harg3 arg4 harg4 arg5 harg5 arg6 harg6 arg7 harg7 arg8 harg8 arg9 harg9 arg10 harg10 arg11 harg11 arg12 harg12 v50 X_arg1 X_arg2 X_arg3 X_arg4 X_arg6 X_arg12 G_arg7 G_arg8 G_arg9 G_arg10 G_arg11 8 le_rfl k a g b).trans (if_pos k.isLt)

end Loop

end Cert.Kernel.Gmlp
-- ==== Proof.GmlpBits.Blocks.lean ====
module

public import proofs.«01_k».proof.Proof.GmlpBits.Loop

/-! What one grid point leaves in each output block, as functions of the blocks it reads and of what the
accumulators held before. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

/-- The mask the body draws: token pairs of one chunk order. -/
def maskK : IVec S128x128 1 := k0_pay254 k0_pay250 k0_pay251 k0_pay252 k0_pay253

/-- The eight mixing matrices under the mask. -/
def mixB (x5 : Vec Bits S8x128x128 .f32) : Vec Bits S8x128x128 .bf16 := fun j =>
  k0_pay1 maskK (matB x5 (j 0)) (ix3 0 (j 1) (j 2))

section Blocks

variable (x1 : Vec Bits S1024x2048 .bf16) (x2 : Vec Bits S1024x1024 .bf16) (x3 x4 : Vec Bits S8x128 .f32)
  (x5 : Vec Bits S8x128x128 .f32) (x6 : Vec Bits S8x128x1 .f32)

/-- The inputs' gradient, the whole block of 1024 tokens. -/
def D7 : Vec Bits S1024x2048 .bf16 := fun j =>
  if h : (j 1).val < 1024 then
    uT x1 x2 x3 x4 x6 (mixB x5) ⟨(j 0).val / 128, by have := (j 0).isLt; simp at this; omega⟩ ⟨(j 1).val / 128, by omega⟩
      (ix2 (⟨(j 0).val % 128, by omega⟩ : Fin 128) (⟨(j 1).val % 128, by omega⟩ : Fin 128))
  else
    vT x1 x2 x3 (mixB x5) ⟨(j 0).val / 128, by have := (j 0).isLt; simp at this; omega⟩
      ⟨((j 1).val - 1024) / 128, by have := (j 1).isLt; simp at this; omega⟩
      (ix2 (⟨(j 0).val % 128, by omega⟩ : Fin 128) (⟨((j 1).val - 1024) % 128, by omega⟩ : Fin 128))

theorem D7_u (k : Fin 8) (a : Fin 128) (g : Fin 8) (b : Fin 128) :
    D7 x1 x2 x3 x4 x5 x6 (uIx k a g b) = uT x1 x2 x3 x4 x6 (mixB x5) k g (ix2 a b) := by
  refine (dif_pos (show 128 * g.val + b.val < 1024 by omega)).trans ?_
  have e1 : (⟨(128 * k.val + a.val) / 128, by omega⟩ : Fin 8) = k := Fin.ext (by show (128 * k.val + a.val) / 128 = k.val; omega)
  have e2 : (⟨(128 * g.val + b.val) / 128, by omega⟩ : Fin 8) = g := Fin.ext (by show (128 * g.val + b.val) / 128 = g.val; omega)
  have e3 : (⟨(128 * k.val + a.val) % 128, by omega⟩ : Fin 128) = a := Fin.ext (by show (128 * k.val + a.val) % 128 = a.val; omega)
  have e4 : (⟨(128 * g.val + b.val) % 128, by omega⟩ : Fin 128) = b := Fin.ext (by show (128 * g.val + b.val) % 128 = b.val; omega)
  exact congr (congrArg₂ (uT x1 x2 x3 x4 x6 (mixB x5)) e1 e2) (congrArg₂ ix2 e3 e4)

theorem D7_v (k : Fin 8) (a : Fin 128) (g : Fin 8) (b : Fin 128) :
    D7 x1 x2 x3 x4 x5 x6 (vIx k a g b) = vT x1 x2 x3 (mixB x5) k g (ix2 a b) := by
  refine (dif_neg (show ¬(1024 + 128 * g.val + b.val < 1024) by omega)).trans ?_
  have e1 : (⟨(128 * k.val + a.val) / 128, by omega⟩ : Fin 8) = k := Fin.ext (by show (128 * k.val + a.val) / 128 = k.val; omega)
  have e2 : (⟨(1024 + 128 * g.val + b.val - 1024) / 128, by omega⟩ : Fin 8) = g :=
    Fin.ext (by show (1024 + 128 * g.val + b.val - 1024) / 128 = g.val; omega)
  have e3 : (⟨(128 * k.val + a.val) % 128, by omega⟩ : Fin 128) = a := Fin.ext (by show (128 * k.val + a.val) % 128 = a.val; omega)
  have e4 : (⟨(1024 + 128 * g.val + b.val - 1024) % 128, by omega⟩ : Fin 128) = b :=
    Fin.ext (by show (1024 + 128 * g.val + b.val - 1024) % 128 = b.val; omega)
  exact congr (congrArg₂ (vT x1 x2 x3 (mixB x5)) e1 e2) (congrArg₂ ix2 e3 e4)

/-- Every entry of the block lies in one half, block and group. -/
theorem uv_cases (j : S1024x2048.Idx) : (∃ k a g b, j = uIx k a g b) ∨ ∃ k a g b, j = vIx k a g b := by
  idx_vars j
  by_cases h : j1.val < 1024
  · refine .inl ⟨⟨j0.val / 128, by omega⟩, ⟨j0.val % 128, by omega⟩, ⟨j1.val / 128, by omega⟩, ⟨j1.val % 128, by omega⟩, ?_⟩
    exact congrArg₂ ix2 (Fin.ext (Nat.div_add_mod _ _).symm) (Fin.ext (Nat.div_add_mod _ _).symm)
  · refine .inr ⟨⟨j0.val / 128, by omega⟩, ⟨j0.val % 128, by omega⟩, ⟨(j1.val - 1024) / 128, by omega⟩, ⟨(j1.val - 1024) % 128, by omega⟩, ?_⟩
    exact congrArg₂ ix2 (Fin.ext (Nat.div_add_mod _ _).symm) (Fin.ext (by
      show j1.val = 1024 + 128 * ((j1.val - 1024) / 128) + (j1.val - 1024) % 128
      omega))

/-- The four accumulators after the point, over what they held before it. -/
def A8 (o : Vec Bits S8x128 .f32) : Vec Bits S8x128 .f32 := steps (fun k => u8 x1 x2 (mixB x5) k) o 8
def A9 (o : Vec Bits S8x128 .f32) : Vec Bits S8x128 .f32 := steps (fun k => u9 x1 x2 (mixB x5) k) o 8
def A10 (o : Vec Bits S8x128x128 .f32) : Vec Bits S8x128x128 .f32 := steps (fun k => u10 x1 x2 x3 x4 maskK k) o 8
def A11 (o : Vec Bits S8x128x1 .f32) : Vec Bits S8x128x1 .f32 := steps (fun k => u11 x1 x2 k) o 8

end Blocks

section Zero

variable {sig : RefSig} {κ : Kind} {sp : Space}

theorem read_zero2 (v : View sig κ sp S8x128 .f32) (f : v.ty.Contents (Elt Bits)) (inb) (w : Vec Bits S8x128 .f32) :
    v.read (Elt Bits) (v.writes (Elt Bits) f [⟨Rect.unit (s := S8x128) ![0, 0] S8x128.size inb, w⟩]) = w := by
  funext j
  exact View.read_writes_cons_unit_of_mem v f inb w [] j j rfl fun a => by fin_cases a <;> exact (Nat.zero_add _).symm

theorem read_zero3 (v : View sig κ sp S8x128x128 .f32) (f : v.ty.Contents (Elt Bits)) (inb) (w : Vec Bits S8x128x128 .f32) :
    v.read (Elt Bits) (v.writes (Elt Bits) f [⟨Rect.unit (s := S8x128x128) ![0, 0, 0] S8x128x128.size inb, w⟩]) = w := by
  funext j
  exact View.read_writes_cons_unit_of_mem v f inb w [] j j rfl fun a => by fin_cases a <;> exact (Nat.zero_add _).symm

theorem read_zero1 (v : View sig κ sp S8x128x1 .f32) (f : v.ty.Contents (Elt Bits)) (inb) (w : Vec Bits S8x128x1 .f32) :
    v.read (Elt Bits) (v.writes (Elt Bits) f [⟨Rect.unit (s := S8x128x1) ![0, 0, 0] S8x128x1.size inb, w⟩]) = w := by
  funext j
  exact View.read_writes_cons_unit_of_mem v f inb w [] j j rfl fun a => by fin_cases a <;> exact (Nat.zero_add _).symm

/-- Eight stores of a masked matrix each: the whole table under the mask. -/
theorem read_mix (v : View sig κ sp S8x128x128 .bf16) (f : v.ty.Contents (Elt Bits)) (x5 : Vec Bits S8x128x128 .f32)
    (i0 i1 i2 i3 i4 i5 i6 i7) :
    v.read (Elt Bits) (v.writes (Elt Bits) f
      [⟨Rect.unit (s := S8x128x128) ![7, 0, 0] S1x128x128.size i7, k0_pay1 maskK (matB x5 7)⟩,
       ⟨Rect.unit (s := S8x128x128) ![6, 0, 0] S1x128x128.size i6, k0_pay1 maskK (matB x5 6)⟩,
       ⟨Rect.unit (s := S8x128x128) ![5, 0, 0] S1x128x128.size i5, k0_pay1 maskK (matB x5 5)⟩,
       ⟨Rect.unit (s := S8x128x128) ![4, 0, 0] S1x128x128.size i4, k0_pay1 maskK (matB x5 4)⟩,
       ⟨Rect.unit (s := S8x128x128) ![3, 0, 0] S1x128x128.size i3, k0_pay1 maskK (matB x5 3)⟩,
       ⟨Rect.unit (s := S8x128x128) ![2, 0, 0] S1x128x128.size i2, k0_pay1 maskK (matB x5 2)⟩,
       ⟨Rect.unit (s := S8x128x128) ![1, 0, 0] S1x128x128.size i1, k0_pay1 maskK (matB x5 1)⟩,
       ⟨Rect.unit (s := S8x128x128) ![0, 0, 0] S1x128x128.size i0, k0_pay1 maskK (matB x5 0)⟩]) = mixB x5 := by
  funext j
  idx_vars j
  exact read_mats v f (fun g => k0_pay1 maskK (matB x5 g)) i0 i1 i2 i3 i4 i5 i6 i7 j0 j1 j2

end Zero

section Final

variable (𝒱 : Variants) (c : Dev nD) (bd : Option 𝒱.V) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (X_arg1 : BufTy.Contents (Elt Bits) arg1.view.ty) (X_arg2 : BufTy.Contents (Elt Bits) arg2.view.ty) (X_arg3 : BufTy.Contents (Elt Bits) arg3.view.ty) (X_arg4 : BufTy.Contents (Elt Bits) arg4.view.ty) (X_arg6 : BufTy.Contents (Elt Bits) arg6.view.ty) (X_arg12 : BufTy.Contents (Elt Bits) arg12.view.ty) (G_arg7 : BufTy.Contents (Elt Bits) arg7.view.ty) (G_arg8 : BufTy.Contents (Elt Bits) arg8.view.ty) (G_arg9 : BufTy.Contents (Elt Bits) arg9.view.ty) (G_arg10 : BufTy.Contents (Elt Bits) arg10.view.ty) (G_arg11 : BufTy.Contents (Elt Bits) arg11.view.ty)
  (x1 : Vec Bits S1024x2048 .bf16) (x2 : Vec Bits S1024x1024 .bf16) (x3 x4 : Vec Bits S8x128 .f32)
  (x5 : Vec Bits S8x128x128 .f32) (x6 : Vec Bits S8x128x1 .f32)
  (h1 : arg1.view.read (Elt Bits) X_arg1 = x1) (h2 : arg2.view.read (Elt Bits) X_arg2 = x2)
  (h3 : arg3.view.read (Elt Bits) X_arg3 = x3) (h4 : arg4.view.read (Elt Bits) X_arg4 = x4)
  (h6 : arg6.view.read (Elt Bits) X_arg6 = x6) (h12 : arg12.view.read (Elt Bits) X_arg12 = mixB x5)

include h1 h2 h3 h4 h6 h12 in
theorem fin7 :
    arg7.view.read (Elt Bits) (arg7.view.writes (Elt Bits) G_arg7 (pb_k0_t1 (F := Bits) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).1)
      = D7 x1 x2 x3 x4 x5 x6 := by
  subst h1 h2 h3 h4 h6
  funext j
  rcases uv_cases j with ⟨k, a, g, b, rfl⟩ | ⟨k, a, g, b, rfl⟩
  · rw [D7_u, ← h12]
    exact loop7u_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k a g b
  · rw [D7_v, ← h12]
    exact loop7v_all 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k a g b

include h1 h2 h12 in
theorem fin8 (o) (ho : arg8.view.read (Elt Bits) G_arg8 = o) :
    arg8.view.read (Elt Bits) (arg8.view.writes (Elt Bits) G_arg8 (pb_k0_t1 (F := Bits) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.1)
      = A8 x1 x2 x5 o := by
  subst h1 h2 ho
  refine (loop8 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 8 le_rfl).trans ?_
  rw [h12]; rfl

include h1 h2 h12 in
theorem fin9 (o) (ho : arg9.view.read (Elt Bits) G_arg9 = o) :
    arg9.view.read (Elt Bits) (arg9.view.writes (Elt Bits) G_arg9 (pb_k0_t1 (F := Bits) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.1)
      = A9 x1 x2 x5 o := by
  subst h1 h2 ho
  refine (loop9 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 8 le_rfl).trans ?_
  rw [h12]; rfl

include h1 h2 h3 h4 in
theorem fin10 (o) (ho : arg10.view.read (Elt Bits) G_arg10 = o) :
    arg10.view.read (Elt Bits) (arg10.view.writes (Elt Bits) G_arg10 (pb_k0_t1 (F := Bits) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.2.1)
      = A10 x1 x2 x3 x4 o := by
  subst h1 h2 h3 h4 ho
  refine (loop10 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 8 le_rfl).trans ?_
  rfl

include h1 h2 in
theorem fin11 (o) (ho : arg11.view.read (Elt Bits) G_arg11 = o) :
    arg11.view.read (Elt Bits) (arg11.view.writes (Elt Bits) G_arg11 (pb_k0_t1 (F := Bits) 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 k0_t1_loop.trips).2.2.2.2)
      = A11 x1 x2 o := by
  subst h1 h2 ho
  refine (loop11 𝒱 c bd i arg1 harg1 arg2 harg2 arg3 harg3 arg4 harg4 arg5 harg5 arg6 harg6 arg7 harg7 arg8 harg8 arg9 harg9 arg10 harg10 arg11 harg11 arg12 harg12 maskK X_arg1 X_arg2 X_arg3 X_arg4 X_arg6 X_arg12 G_arg7 G_arg8 G_arg9 G_arg10 G_arg11 8 le_rfl).trans ?_
  rfl

end Final

end Cert.Kernel.Gmlp
-- ==== Proof.GmlpBits.RunA.lean ====
module

public import proofs.«01_k».proof.Proof.GmlpBits.Blocks
public import proofs.«01_k».proof.Proof.Gen.Kernel.Frame.Runs

/-! The body run at the first grid point. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Bits) ℕ (UR sig nD τ) ℕ

set_option maxHeartbeats 4000000 in
theorem run_A (c : Dev nD) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (hc0 : cond0_0 i)
    (x1 : Vec Bits S1024x2048 .bf16) (x2 : Vec Bits S1024x1024 .bf16) (x3 x4 : Vec Bits S8x128 .f32)
    (x5 : Vec Bits S8x128x128 .f32) (x6 : Vec Bits S8x128x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (D7 x1 x2 x3 x4 x5 x6) ∗ owns (c : Thread nD τ) arg8 fullShare (A8 x1 x2 x5 (k0_pay2 (F := Bits))) ∗ owns (c : Thread nD τ) arg9 fullShare (A9 x1 x2 x5 (k0_pay3 (F := Bits))) ∗ owns (c : Thread nD τ) arg10 fullShare (A10 x1 x2 x3 x4 (k0_pay4 (F := Bits))) ∗ owns (c : Thread nD τ) arg11 fullShare (A11 x1 x2 (k0_pay5 (F := Bits))) ∗ (∃ d, owns (c : Thread nD τ) arg12 fullShare d)) -∗ K ⟨⟩))
      ⊢ wp frame (wpE (defs₀ (F := Bits)) Variants.none c none) E (cc0_gmlp_bwd i arg1 harg1 arg2 harg2 arg3 harg3 arg4 harg4 arg5 harg5 arg6 harg6 arg7 harg7 arg8 harg8 arg9 harg9 arg10 harg10 arg11 harg11 arg12 harg12) K := by
  simp only [cc0_gmlp_bwd_eq_skeleton]; unfold cc0_gmlp_bwd_skel
  simp only [k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0)
  sl_step
  have r5 : arg5.view.read (Elt Bits) (harg5.unread x5) = x5 := harg5.read_unread _
  have h12 : arg12.view.read (Elt Bits) (arg12.view.writes (Elt Bits) arg12.view.junk (run_A.sl.H12_8 c arg5 harg5 x5)) = mixB x5 := by
    sl_unfold_run_names
    simp only [ld_mat arg5.view (harg5.unread x5) 0 (off := ![0, 0, 0]) rfl, ld_mat arg5.view (harg5.unread x5) 1 (off := ![1, 0, 0]) rfl, ld_mat arg5.view (harg5.unread x5) 2 (off := ![2, 0, 0]) rfl, ld_mat arg5.view (harg5.unread x5) 3 (off := ![3, 0, 0]) rfl, ld_mat arg5.view (harg5.unread x5) 4 (off := ![4, 0, 0]) rfl, ld_mat arg5.view (harg5.unread x5) 5 (off := ![5, 0, 0]) rfl, ld_mat arg5.view (harg5.unread x5) 6 (off := ![6, 0, 0]) rfl, ld_mat arg5.view (harg5.unread x5) 7 (off := ![7, 0, 0]) rfl, r5]
    exact read_mix arg12.view _ x5 (by decide) (by decide) (by decide) (by decide) (by decide) (by decide) (by decide) (by decide)
  have z8 : arg8.view.read (Elt Bits) (arg8.view.writes (Elt Bits) arg8.view.junk (run_A.sl.H8_1)) = k0_pay2 (F := Bits) := by
    sl_unfold_run_names
    exact read_zero2 arg8.view _ _ _
  have z9 : arg9.view.read (Elt Bits) (arg9.view.writes (Elt Bits) arg9.view.junk (run_A.sl.H9_1)) = k0_pay3 (F := Bits) := by
    sl_unfold_run_names
    exact read_zero2 arg9.view _ _ _
  have z10 : arg10.view.read (Elt Bits) (arg10.view.writes (Elt Bits) arg10.view.junk (run_A.sl.H10_1)) = k0_pay4 (F := Bits) := by
    sl_unfold_run_names
    exact read_zero3 arg10.view _ _ _
  have z11 : arg11.view.read (Elt Bits) (arg11.view.writes (Elt Bits) arg11.view.junk (run_A.sl.H11_1)) = k0_pay5 (F := Bits) := by
    sl_unfold_run_names
    exact read_zero1 arg11.view _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    skip
    exact fin7 (h1 := harg1.read_unread _) (h2 := harg2.read_unread _) (h3 := harg3.read_unread _) (h4 := harg4.read_unread _) (h6 := harg6.read_unread _) (h12 := h12) ..
  isplitl [H8]
  · iexists _; isplitr; swap; · iexact H8
    ipureintro
    rw [View.writes_append]
    exact fin8 (h1 := harg1.read_unread _) (h2 := harg2.read_unread _) (h12 := h12) (ho := z8) ..
  isplitl [H9]
  · iexists _; isplitr; swap; · iexact H9
    ipureintro
    rw [View.writes_append]
    exact fin9 (h1 := harg1.read_unread _) (h2 := harg2.read_unread _) (h12 := h12) (ho := z9) ..
  isplitl [H10]
  · iexists _; isplitr; swap; · iexact H10
    ipureintro
    rw [View.writes_append]
    exact fin10 (h1 := harg1.read_unread _) (h2 := harg2.read_unread _) (h3 := harg3.read_unread _) (h4 := harg4.read_unread _) (ho := z10) ..
  isplitl [H11]
  · iexists _; isplitr; swap; · iexact H11
    ipureintro
    rw [View.writes_append]
    exact fin11 (h1 := harg1.read_unread _) (h2 := harg2.read_unread _) (ho := z11) ..
  iexists _, _; isplitr; swap; · iexact H12
  ipureintro; rfl

end Cert.Kernel.Gmlp
-- ==== Proof.GmlpBits.RunB.lean ====
module

public import proofs.«01_k».proof.Proof.GmlpBits.Blocks
public import proofs.«01_k».proof.Proof.Gen.Kernel.Frame.Runs

/-! The body run at a grid point past the first. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Bits) ℕ (UR sig nD τ) ℕ

set_option maxHeartbeats 4000000 in
theorem run_B (c : Dev nD) (i : grid0.Coords) (arg1 : Memref sig .tc .vmem S1024x2048 .bf16) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S1024x2048 .bf16) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S8x128x128 .bf16) (harg12 : arg12.IsWhole) (hc0 : ¬cond0_0 i)
    (x1 : Vec Bits S1024x2048 .bf16) (x2 : Vec Bits S1024x1024 .bf16) (x3 x4 : Vec Bits S8x128 .f32)
    (x5 : Vec Bits S8x128x128 .f32) (x6 : Vec Bits S8x128x1 .f32)
    (o8 o9 : Vec Bits S8x128 .f32) (o10 : Vec Bits S8x128x128 .f32) (o11 : Vec Bits S8x128x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare o8 ∗ owns (c : Thread nD τ) arg9 fullShare o9 ∗ owns (c : Thread nD τ) arg10 fullShare o10 ∗ owns (c : Thread nD τ) arg11 fullShare o11 ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (D7 x1 x2 x3 x4 x5 x6) ∗ owns (c : Thread nD τ) arg8 fullShare (A8 x1 x2 x5 o8) ∗ owns (c : Thread nD τ) arg9 fullShare (A9 x1 x2 x5 o9) ∗ owns (c : Thread nD τ) arg10 fullShare (A10 x1 x2 x3 x4 o10) ∗ owns (c : Thread nD τ) arg11 fullShare (A11 x1 x2 o11) ∗ (∃ d, owns (c : Thread nD τ) arg12 fullShare d)) -∗ K ⟨⟩))
      ⊢ wp frame (wpE (defs₀ (F := Bits)) Variants.none c none) E (cc0_gmlp_bwd i arg1 harg1 arg2 harg2 arg3 harg3 arg4 harg4 arg5 harg5 arg6 harg6 arg7 harg7 arg8 harg8 arg9 harg9 arg10 harg10 arg11 harg11 arg12 harg12) K := by
  simp only [cc0_gmlp_bwd_eq_skeleton]; unfold cc0_gmlp_bwd_skel
  simp only [k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
  sl_exec (disch := first | sl_exact hc0)
  sl_step
  have r5 : arg5.view.read (Elt Bits) (harg5.unread x5) = x5 := harg5.read_unread _
  have h12 : arg12.view.read (Elt Bits) (arg12.view.writes (Elt Bits) arg12.view.junk (run_B.sl.H12_8 c arg5 harg5 x5)) = mixB x5 := by
    sl_unfold_run_names
    simp only [ld_mat arg5.view (harg5.unread x5) 0 (off := ![0, 0, 0]) rfl, ld_mat arg5.view (harg5.unread x5) 1 (off := ![1, 0, 0]) rfl, ld_mat arg5.view (harg5.unread x5) 2 (off := ![2, 0, 0]) rfl, ld_mat arg5.view (harg5.unread x5) 3 (off := ![3, 0, 0]) rfl, ld_mat arg5.view (harg5.unread x5) 4 (off := ![4, 0, 0]) rfl, ld_mat arg5.view (harg5.unread x5) 5 (off := ![5, 0, 0]) rfl, ld_mat arg5.view (harg5.unread x5) 6 (off := ![6, 0, 0]) rfl, ld_mat arg5.view (harg5.unread x5) 7 (off := ![7, 0, 0]) rfl, r5]
    exact read_mix arg12.view _ x5 (by decide) (by decide) (by decide) (by decide) (by decide) (by decide) (by decide) (by decide)
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    skip
    exact fin7 (h1 := harg1.read_unread _) (h2 := harg2.read_unread _) (h3 := harg3.read_unread _) (h4 := harg4.read_unread _) (h6 := harg6.read_unread _) (h12 := h12) ..
  isplitl [H8]
  · iexists _; isplitr; swap; · iexact H8
    ipureintro
    skip
    exact fin8 (h1 := harg1.read_unread _) (h2 := harg2.read_unread _) (h12 := h12) (ho := (harg8.read_unread _)) ..
  isplitl [H9]
  · iexists _; isplitr; swap; · iexact H9
    ipureintro
    skip
    exact fin9 (h1 := harg1.read_unread _) (h2 := harg2.read_unread _) (h12 := h12) (ho := (harg9.read_unread _)) ..
  isplitl [H10]
  · iexists _; isplitr; swap; · iexact H10
    ipureintro
    skip
    exact fin10 (h1 := harg1.read_unread _) (h2 := harg2.read_unread _) (h3 := harg3.read_unread _) (h4 := harg4.read_unread _) (ho := (harg10.read_unread _)) ..
  isplitl [H11]
  · iexists _; isplitr; swap; · iexact H11
    ipureintro
    skip
    exact fin11 (h1 := harg1.read_unread _) (h2 := harg2.read_unread _) (ho := (harg11.read_unread _)) ..
  iexists _, _; isplitr; swap; · iexact H12
  ipureintro; rfl

end Cert.Kernel.Gmlp
-- ==== Proof.GmlpBits.Frame.lean ====
module

public import proofs.«01_k».proof.Proof.GmlpBits.RunA
public import proofs.«01_k».proof.Proof.GmlpBits.RunB
public import Idealize.ShloMosaic.Lib.Claim

/-! The pipeline around the body: what each staged block holds after each grid point, the body at a point, and the whole run. -/

@[expose] public section

set_option maxRecDepth 16384

noncomputable section

namespace Cert.Kernel.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Bits) ℕ (UR sig nD τ) ℕ

/-- A block carried from point to point: `A t` of what the point before left, `z` before the first. -/
def carry {V : Type} {N : ℕ} (A : Fin N → V → V) (z : V) : (n : ℕ) → n < N → V
  | 0, h => A ⟨0, h⟩ z
  | n + 1, h => A ⟨n + 1, h⟩ (carry A z n (Nat.lt_of_succ_lt h))

theorem carry_first {V : Type} {N : ℕ} (hN : N = 8) (A : Fin N → V → V) (z : V) (t : Fin N) (h : t.val % 8 = 0) :
    carry A z t.val t.isLt = A t z := by
  obtain ⟨n, hn⟩ := t
  dsimp only at h
  obtain rfl : n = 0 := by omega
  rfl

theorem carry_next {V : Type} {N : ℕ} (A : Fin N → V → V) (z : V) (t : Fin N) (h : ¬t.val % 8 = 0) :
    carry A z t.val t.isLt = A t (carry A z (t.val - 1) (Nat.lt_of_le_of_lt (Nat.sub_le _ _) t.isLt)) := by
  obtain ⟨n, hn⟩ := t
  cases n with
  | zero => exact absurd rfl h
  | succ n => rfl

variable (m : (ℓ : Loc nD τ sig) → Buf (Elt Bits) ℓ) (ρ : Dev nD → PrngReg)

def c8 (c : Dev nD) : (n : ℕ) → n < cfg0.N → Vec Bits S8x128 .f32 :=
  carry (fun t => A8 (iblk m c 0 t) (iblk m c 1 t) (iblk m c 4 t)) (k0_pay2 (F := Bits))
def c9 (c : Dev nD) : (n : ℕ) → n < cfg0.N → Vec Bits S8x128 .f32 :=
  carry (fun t => A9 (iblk m c 0 t) (iblk m c 1 t) (iblk m c 4 t)) (k0_pay3 (F := Bits))
def c10 (c : Dev nD) : (n : ℕ) → n < cfg0.N → Vec Bits S8x128x128 .f32 :=
  carry (fun t => A10 (iblk m c 0 t) (iblk m c 1 t) (iblk m c 2 t) (iblk m c 3 t)) (k0_pay4 (F := Bits))
def c11 (c : Dev nD) : (n : ℕ) → n < cfg0.N → Vec Bits S8x128x1 .f32 :=
  carry (fun t => A11 (iblk m c 0 t) (iblk m c 1 t)) (k0_pay5 (F := Bits))

/-- What every window's block holds after each point. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => D7 (iblk m c 0 t) (iblk m c 1 t) (iblk m c 2 t) (iblk m c 3 t) (iblk m c 4 t) (iblk m c 5 t)
    | ⟨7, _⟩ => c8 m c t.val t.isLt
    | ⟨8, _⟩ => c9 m c t.val t.isLt
    | ⟨9, _⟩ => c10 m c t.val t.isLt
    | ⟨10, _⟩ => c11 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = D7 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = c8 m c t.val t.isLt := by dsimp only [dats]
theorem after0_8 (c : Dev nD) (t : Fin cfg0.N) : (dats m 0 c).after 8 t = c9 m c t.val t.isLt := by dsimp only [dats]
theorem after0_9 (c : Dev nD) (t : Fin cfg0.N) : (dats m 0 c).after 9 t = c10 m c t.val t.isLt := by dsimp only [dats]
theorem after0_10 (c : Dev nD) (t : Fin cfg0.N) : (dats m 0 c).after 10 t = c11 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7_next (c : Dev nD) (t : Fin cfg0.N) (h0 : ¬t.val % 8 = 0) (d) :
    (dats m 0 c).before 7 t d = c8 m c (t.val - 1) (Nat.lt_of_le_of_lt (Nat.sub_le _ _) t.isLt) := by
  have hN : t.val < 8 := lt_of_lt_of_eq t.isLt (show cfg0.N = 8 from N_0)
  rw [Dat.before_out_kept _ 7 rfl t (by omega) (Bool.eq_false_iff.mpr fun h => by
    have := (flush0_7 _).mp h; dsimp only at this; omega) (fun _ => rfl) (fun _ _ => rfl)]
  dsimp only [dats]
theorem before0_8_next (c : Dev nD) (t : Fin cfg0.N) (h0 : ¬t.val % 8 = 0) (d) :
    (dats m 0 c).before 8 t d = c9 m c (t.val - 1) (Nat.lt_of_le_of_lt (Nat.sub_le _ _) t.isLt) := by
  have hN : t.val < 8 := lt_of_lt_of_eq t.isLt (show cfg0.N = 8 from N_0)
  rw [Dat.before_out_kept _ 8 rfl t (by omega) (Bool.eq_false_iff.mpr fun h => by
    have := (flush0_8 _).mp h; dsimp only at this; omega) (fun _ => rfl) (fun _ _ => rfl)]
  dsimp only [dats]
theorem before0_9_next (c : Dev nD) (t : Fin cfg0.N) (h0 : ¬t.val % 8 = 0) (d) :
    (dats m 0 c).before 9 t d = c10 m c (t.val - 1) (Nat.lt_of_le_of_lt (Nat.sub_le _ _) t.isLt) := by
  have hN : t.val < 8 := lt_of_lt_of_eq t.isLt (show cfg0.N = 8 from N_0)
  rw [Dat.before_out_kept _ 9 rfl t (by omega) (Bool.eq_false_iff.mpr fun h => by
    have := (flush0_9 _).mp h; dsimp only at this; omega) (fun _ => rfl) (fun _ _ => rfl)]
  dsimp only [dats]
theorem before0_10_next (c : Dev nD) (t : Fin cfg0.N) (h0 : ¬t.val % 8 = 0) (d) :
    (dats m 0 c).before 10 t d = c11 m c (t.val - 1) (Nat.lt_of_le_of_lt (Nat.sub_le _ _) t.isLt) := by
  have hN : t.val < 8 := lt_of_lt_of_eq t.isLt (show cfg0.N = 8 from N_0)
  rw [Dat.before_out_kept _ 10 rfl t (by omega) (Bool.eq_false_iff.mpr fun h => by
    have := (flush0_10 _).mp h; dsimp only at this; omega) (fun _ => rfl) (fun _ _ => rfl)]
  dsimp only [dats]

/-- What the body finds at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  by_cases h0 : t.val % 8 = 0
  · rw [show c8 m c t.val t.isLt = _ from carry_first (show cfg0.N = 8 from N_0) _ _ t h0, show c9 m c t.val t.isLt = _ from carry_first (show cfg0.N = 8 from N_0) _ _ t h0, show c10 m c t.val t.isLt = _ from carry_first (show cfg0.N = 8 from N_0) _ _ t h0, show c11 m c t.val t.isLt = _ from carry_first (show cfg0.N = 8 from N_0) _ _ t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show c8 m c t.val t.isLt = _ from carry_next _ _ t h0, show c9 m c t.val t.isLt = _ from carry_next _ _ t h0, show c10 m c t.val t.isLt = _ from carry_next _ _ t h0, show c11 m c t.val t.isLt = _ from carry_next _ _ t h0]
    simp only [before0_7_next m c t h0, before0_8_next m c t h0, before0_9_next m c t h0, before0_10_next m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ := fun t => by
  rw [bigSep_W0, bigSep_W0, defs₀_row]
  exact triple_restated (sound_body m c t) rfl .rfl fun _ => .rfl

set_option backward.isDefEq.respectTransparency.types false in
/-- The whole run: every array at what the pipeline's contents say, every semaphore at zero. -/
theorem run_zero : θ_run defs (onTc (τ := τ) (main (F := Bits))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Bits))) (s₀ m ρ) (Pipeline.FramePost cfgs (dats m) 0 (V m)) :=
  (θ_run defs _ _).mono (fun _ h => h.1) (run_zero m ρ)

theorem quiet : θ_run defs (onTc (τ := τ) (main (F := Bits))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_zero m ρ))

end Cert.Kernel.Gmlp
-- ==== Proof.Gmlp.Reals.lean ====
module

public import Idealize.ShloMosaic.PureOps.Ideal
public import Idealize.ShloMosaic.Lib.IdealHost
public import Idealize.ShloMosaic.Lib.Pointwise

/-! The mixer and its gradient over the reals, for one block of 128 tokens and one group of 128
channels, and the facts that carry real arithmetic through the extended reals. -/

@[expose] public section

noncomputable section

namespace Cert.Gmlp

open Idealize.ShloMosaic

/-! ## Constants -/

def cA : ℝ := 8943 / 200000
def cG : ℝ := 13386282 / 16777216
def cE : ℝ := 10995116 / 1099511627776

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num
theorem word_gelu : Ideal.ofBits .f32 0x3F4C422A#32 = ((cG : ℝ) : EReal) := by
  simp [Ideal.ofBits, Ideal.ieee, cG, -EReal.coe_mul]; norm_num
theorem word_eps : Ideal.ofBits .f32 0x3727C5AC#32 = ((cE : ℝ) : EReal) := by
  simp [Ideal.ofBits, Ideal.ieee, cE, -EReal.coe_mul]; norm_num
theorem word_inf : Ideal.ofBits .f32 0x7F800000#32 = ⊤ := by
  simp [Ideal.ofBits, Ideal.ieee, -EReal.coe_mul]

/-! ## Carrying -/

theorem sum_up {ι : Type} [Fintype ι] (f : ι → ℝ) : (∑ i, ((f i : ℝ) : EReal)) = ((∑ i, f i : ℝ) : EReal) := by
  classical
  refine Finset.induction_on (Finset.univ : Finset ι) ?_ fun a s ha ih => ?_
  · simp
  · rw [Finset.sum_insert ha, Finset.sum_insert ha, ih, EReal.coe_add]

theorem div_128 (x : ℝ) : Ideal.div (x : EReal) ((128 : ℝ) : EReal) = ((x / 128 : ℝ) : EReal) := by
  rw [Ideal.div_coe (by norm_num : (128 : ℝ) ≠ 0), ← EReal.coe_mul]; congr 1; ring

theorem div_pos_up (x : ℝ) {y : ℝ} (h : 0 < y) : Ideal.div (x : EReal) (y : EReal) = ((x / y : ℝ) : EReal) := by
  rw [Ideal.div_coe h.ne', ← EReal.coe_mul]; congr 1; ring

theorem ratio_A : Ideal.div ((44715 : ℝ) : EReal) ((1000000 : ℝ) : EReal) = ((cA : ℝ) : EReal) := by
  rw [Ideal.div_coe (by norm_num : (1000000 : ℝ) ≠ 0), ← EReal.coe_mul]; congr 1; unfold cA; norm_num

theorem rsqrt_up {x : ℝ} (h : 0 < x) : Ideal.rsqrt (x : EReal) = (((Real.sqrt x)⁻¹ : ℝ) : EReal) := by
  rw [Ideal.rsqrt_coe, if_neg h.not_gt, if_neg h.ne']

/-! ## One block and one group -/

/-- `tanh` inside the activation, -/
def th (x : ℝ) : ℝ := Real.tanh (cG * (x + cA * (x * x * x)))
/-- its factor, -/
def hf (x : ℝ) : ℝ := 1 / 2 * (1 + th x)
/-- the activation, -/
def ge (x : ℝ) : ℝ := x * hf x
/-- and its derivative. -/
def sl (x : ℝ) : ℝ := hf x + 1 / 2 * x * (1 - th x * th x) * (cG * (1 + 3 * cA * (x * x)))

abbrev Blk := Fin 128 → Fin 128 → ℝ

variable (xu xv y wm : Blk) (w b bs : Fin 128 → ℝ)

def mu (a : Fin 128) : ℝ := (∑ d, ge (xv a d)) / 128
def cen (a d : Fin 128) : ℝ := ge (xv a d) - mu xv a
def va (a : Fin 128) : ℝ := (∑ d, cen xv a d * cen xv a d) / 128 + cE
def rs (a : Fin 128) : ℝ := (Real.sqrt (va xv a))⁻¹
def vh (a d : Fin 128) : ℝ := cen xv a d * rs xv a
def vn (a d : Fin 128) : ℝ := vh xv a d * w d + b d
/-- The gated mixture. -/
def sv (a d : Fin 128) : ℝ := (∑ c, wm a c * vn xv w b c d) + bs a
/-- Its cotangent, -/
def ds (a d : Fin 128) : ℝ := y a d * ge (xu a d)
/-- that of the normalised channels, -/
def dn (c d : Fin 128) : ℝ := ∑ a, wm a c * ds xu y a d
def dh (a d : Fin 128) : ℝ := dn xu y wm a d * w d
def m1 (a : Fin 128) : ℝ := (∑ d, dh xu y wm w a d) / 128
def m2 (a : Fin 128) : ℝ := (∑ d, dh xu y wm w a d * vh xv a d) / 128
/-- and that of the activated channels. -/
def dv (a d : Fin 128) : ℝ := rs xv a * (dh xu y wm w a d - m1 xu y wm w a - vh xv a d * m2 xu xv y wm w a)

/-- What one block of tokens gives: both halves of the input's gradient, -/
def gu (a d : Fin 128) : ℝ := y a d * sv xv wm w b bs a d * sl (xu a d)
def gv (a d : Fin 128) : ℝ := dv xu xv y wm w a d * sl (xv a d)
/-- and its part of the four weights' gradients. -/
def pw (d : Fin 128) : ℝ := ∑ a, dn xu y wm a d * vh xv a d
def pb (d : Fin 128) : ℝ := ∑ a, dn xu y wm a d
def pm (a c : Fin 128) : ℝ := ∑ d, ds xu y a d * vn xv w b c d
def ps (a : Fin 128) : ℝ := ∑ d, ds xu y a d

theorem cE_pos : 0 < cE := by unfold cE; norm_num
theorem va_pos (a : Fin 128) : 0 < va xv a := by
  have h : 0 ≤ ∑ d, cen xv a d * cen xv a d := Finset.sum_nonneg fun d _ => mul_self_nonneg _
  have := cE_pos
  unfold va; positivity

end Cert.Gmlp

end
-- ==== Proof.Gmlp.PayReal.lean ====
module

public import proofs.«01_k».proof.Proof.Gmlp.Trip
public import proofs.«01_k».proof.Proof.Gmlp.Reals

/-! The kernel's terms for one block of tokens and one group, at real blocks: the real ones. -/

@[expose] public section

set_option maxRecDepth 16384

noncomputable section

namespace Cert.KernelIdeal.Gmlp

open Idealize.ShloMosaic Idealize.ShloMosaic.TcCoe
open Cert.KernelIdeal Cert.KernelIdeal.Gen Cert.Gmlp

theorem name_A : (Named.named (F := Ideal) Cert.KernelIdeal.κ (φ := .f32) "gelu_a" 0x3D372713#32 : EReal) = ((cA : ℝ) : EReal) :=
  (IdealRules.named_const.ideal_named_scalar _ _ _ _ rfl).trans (by unfold cA; norm_num)
theorem name_3A : (Named.named (F := Ideal) Cert.KernelIdeal.κ (φ := .f32) "three_gelu_a" 0x3E095D4F#32 : EReal) = ((3 * cA : ℝ) : EReal) :=
  (IdealRules.named_const.ideal_named_scalar _ _ _ _ rfl).trans (by unfold cA; norm_num)

/-- A real block, row, matrix and column as the kernel holds them. -/
def up (f : Blk) : S128x128.Idx → EReal := fun j => ((f (j 0) (j 1) : ℝ) : EReal)
def upR (f : Fin 128 → ℝ) : S1x128.Idx → EReal := fun j => ((f (j 1) : ℝ) : EReal)
def upC (f : Fin 128 → ℝ) : S128x1.Idx → EReal := fun j => ((f (j 0) : ℝ) : EReal)
def upM (f : Blk) : S1x128x128.Idx → EReal := fun j => ((f (j 1) (j 2) : ℝ) : EReal)
def upB (f : Fin 128 → ℝ) : S1x128x1.Idx → EReal := fun j => ((f (j 1) : ℝ) : EReal)

variable (xu xv y wm : Blk) (w b bs : Fin 128 → ℝ)

theorem th_of (x : ℝ) : Ideal.tanh (((cG * x * (1 + cA * (x * x)) : ℝ)) : EReal) = ((th x : ℝ) : EReal) := by
  rw [Ideal.tanh_coe]; unfold th; congr 2; ring

theorem pay10_up : k0_pay10 (F := Ideal) (up xu) = up fun a d => th (xu a d) := by
  funext j
  pointwise [k0_pay10, k0_pay9, k0_pay8, up]
  simp only [word_gelu, name_A, ← EReal.coe_one, ← EReal.coe_mul, ← EReal.coe_add, th_of]

theorem pay11_up : k0_pay11 (F := Ideal) (up xu) = up fun a d => hf (xu a d) := by
  funext j
  pointwise [k0_pay11]
  rw [pay10_up]
  simp only [up, word_half, ← EReal.coe_one, ← EReal.coe_mul, ← EReal.coe_add]
  rfl

/-- The derivative on the first half. -/
theorem pay12_up : k0_pay12 (F := Ideal) (up xu) = up fun a d => sl (xu a d) := by
  funext j
  pointwise [k0_pay12, k0_pay9, k0_pay8]
  rw [pay10_up, pay11_up]
  simp only [up, word_half, word_gelu, name_3A, ← EReal.coe_one, ← EReal.coe_mul, ← EReal.coe_add, ← EReal.coe_sub]
  rfl

theorem pay13_up : k0_pay13 (F := Ideal) (up xu) = up fun a d => ge (xu a d) := by
  funext j
  pointwise [k0_pay13, k0_pay8]
  rw [pay11_up]
  simp only [up, ← EReal.coe_mul]
  rfl

theorem pay18_up : k0_pay18 (F := Ideal) (k0_pay16 (up xv)) (k0_pay17 (up xv)) = up fun a d => th (xv a d) := by
  funext j
  pointwise [k0_pay18, k0_pay16, k0_pay17, k0_pay15, k0_pay14, up]
  simp only [word_gelu, name_A, ← EReal.coe_one, ← EReal.coe_mul, ← EReal.coe_add, th_of]

theorem pay19_up : k0_pay19 (F := Ideal) (k0_pay16 (up xv)) (k0_pay17 (up xv)) = up fun a d => hf (xv a d) := by
  funext j
  pointwise [k0_pay19]
  rw [pay18_up]
  simp only [up, word_half, ← EReal.coe_one, ← EReal.coe_mul, ← EReal.coe_add]
  rfl

/-- The derivative on the second half. -/
theorem pay20_up : k0_pay20 (F := Ideal) (k0_pay14 (up xv)) (k0_pay15 (up xv)) (k0_pay16 (up xv)) (k0_pay17 (up xv))
    = up fun a d => sl (xv a d) := by
  funext j
  pointwise [k0_pay20, k0_pay15, k0_pay14]
  rw [pay18_up, pay19_up]
  simp only [up, word_half, word_gelu, name_3A, ← EReal.coe_one, ← EReal.coe_mul, ← EReal.coe_add, ← EReal.coe_sub]
  rfl

theorem pay21_up : k0_pay21 (F := Ideal) (k0_pay14 (up xv)) (k0_pay16 (up xv)) (k0_pay17 (up xv)) = up (cen xv) := by
  funext j
  unfold k0_pay21
  simp only [pay19_up]
  pointwise [k0_pay14, up]
  simp only [word_128, ← EReal.coe_mul, sum_up, div_128, ← EReal.coe_sub]
  rfl

theorem rs_up : rsG (up xv) = upC (rs xv) := by
  funext j
  unfold rsG k0_pay22
  simp only [pay21_up]
  pointwise [up]
  simp only [word_128, word_eps, ← EReal.coe_mul, sum_up, div_128, ← EReal.coe_add]
  exact rsqrt_up (va_pos xv (j 0))

theorem vh_up : vhG (up xv) = up (vh xv) := by
  funext j
  unfold vhG k0_pay23
  have h := rs_up xv
  unfold rsG at h
  simp only [pay21_up, h]
  pointwise [up, upC]
  simp only [← EReal.coe_mul]
  rfl

theorem vn_up : vnG (up xv) (upR w) (upR b) = up (vn xv w b) := by
  funext j
  unfold vnG k0_pay24
  have h := vh_up xv
  unfold vhG at h
  simp only [h]
  pointwise [up, upR]
  simp only [← EReal.coe_mul, ← EReal.coe_add]
  rfl

theorem du_up : duG (up xu) (up xv) (up y) (upR w) (upR b) (upM wm) (upB bs) = up (gu xu xv y wm w b bs) := by
  funext j
  unfold duG k0_pay33 k0_pay25 k0_pay26
  simp only [pay12_up, vn_up]
  pointwise [up, upM, upB]
  simp only [← EReal.coe_mul, sum_up, ← EReal.coe_add]
  rfl

theorem bs_up : bsG (up xu) (up y) = up (ds xu y) := by
  funext j
  unfold bsG k0_pay27 k0_pay26
  simp only [pay13_up]
  pointwise [up]
  simp only [← EReal.coe_mul]
  rfl

theorem ws_up : wsG (up xu) (up xv) (up y) (upR w) (upR b) = up (pm xu xv y w b) := by
  funext j
  unfold wsG k0_pay28
  have h := bs_up xu y
  unfold bsG at h
  simp only [h, vn_up]
  pointwise [up]
  simp only [← EReal.coe_mul, sum_up]
  rfl

theorem pay29_up : k0_pay29 (F := Ideal) (k0_pay13 (up xu)) (up y) (upM wm) = up (dn xu y wm) := by
  funext j
  unfold k0_pay29
  have h := bs_up xu y
  unfold bsG at h
  simp only [h]
  pointwise [up, upM]
  simp only [← EReal.coe_mul, sum_up]
  rfl

theorem lnw_up : lnwG (up xu) (up xv) (up y) (upM wm) = upR (pw xu xv y wm) := by
  funext j
  unfold lnwG k0_pay31
  simp only [pay29_up, vh_up]
  pointwise [up]
  simp only [← EReal.coe_mul, sum_up]
  rfl

theorem lnb_up : lnbG (up xu) (up y) (upM wm) = upR (pb xu y wm) := by
  funext j
  unfold lnbG k0_pay32
  simp only [pay29_up]
  pointwise [up]
  simp only [sum_up]
  rfl

theorem pay30_up : k0_pay30 (F := Ideal) (k0_pay13 (up xu)) (upR w) (rsG (up xv)) (vhG (up xv)) (up y) (upM wm)
    = up (dv xu xv y wm w) := by
  funext j
  unfold k0_pay30
  simp only [pay29_up, vh_up, rs_up]
  pointwise [up, upR, upC]
  simp only [word_128, ← EReal.coe_mul, sum_up, div_128, ← EReal.coe_sub]
  rfl

theorem dv_up : dvG (up xu) (up xv) (up y) (upR w) (upM wm) = up (gv xu xv y wm w) := by
  funext j
  unfold dvG k0_pay34
  simp only [pay20_up, pay30_up]
  pointwise [up]
  simp only [← EReal.coe_mul]
  rfl

end Cert.KernelIdeal.Gmlp

end
-- ==== Proof.Gmlp.Whole.lean ====
module

public import proofs.«01_k».proof.Proof.Gmlp.Reals

/-! The five gradients of the whole call over the reals: 64 blocks of tokens and 8 groups of channels. -/

@[expose] public section

noncomputable section

namespace Cert.Gmlp

/-- Token `a` of block `n`, -/
def tok (n : Fin 64) (a : Fin 128) : Fin 8192 := ⟨128 * n.val + a.val, by omega⟩
/-- channel `d` of group `g` in the first half -/
def chU (g : Fin 8) (d : Fin 128) : Fin 2048 := ⟨128 * g.val + d.val, by omega⟩
/-- and in the second, -/
def chV (g : Fin 8) (d : Fin 128) : Fin 2048 := ⟨1024 + 128 * g.val + d.val, by omega⟩
/-- and in the output. -/
def chY (g : Fin 8) (d : Fin 128) : Fin 1024 := ⟨128 * g.val + d.val, by omega⟩
/-- Block `k` of step `t`. -/
def blkOf (t k : Fin 8) : Fin 64 := ⟨t.val * 8 + k.val, by omega⟩

variable (Z : Fin 8192 → Fin 2048 → ℝ) (Y : Fin 8192 → Fin 1024 → ℝ) (lw lb : Fin 8 → Fin 128 → ℝ)
  (W : Fin 8 → Fin 128 → Fin 128 → ℝ) (B : Fin 8 → Fin 128 → ℝ)

def tu (n : Fin 64) (g : Fin 8) : Blk := fun a d => Z (tok n a) (chU g d)
def tv (n : Fin 64) (g : Fin 8) : Blk := fun a d => Z (tok n a) (chV g d)
def ty (n : Fin 64) (g : Fin 8) : Blk := fun a d => Y (tok n a) (chY g d)
/-- The mixing matrix, which looks no further than its own chunk of 64 tokens. -/
def wx (g : Fin 8) : Blk := fun a c => if c.val / 64 ≤ a.val / 64 then W g a c else 0

/-- The first half of the inputs' gradient, -/
def DU (n : Fin 64) (g : Fin 8) : Blk := gu (tu Z n g) (tv Z n g) (ty Y n g) (wx W g) (lw g) (lb g) (B g)
/-- the second, -/
def DV (n : Fin 64) (g : Fin 8) : Blk := gv (tu Z n g) (tv Z n g) (ty Y n g) (wx W g) (lw g)
/-- both in one array; -/
def DZ (i : Fin 8192) (j : Fin 2048) : ℝ :=
  if h : j.val < 1024 then
    DU Z Y lw lb W B ⟨i.val / 128, by omega⟩ ⟨j.val / 128, by omega⟩ ⟨i.val % 128, by omega⟩ ⟨j.val % 128, by omega⟩
  else
    DV Z Y lw W ⟨i.val / 128, by omega⟩ ⟨(j.val - 1024) / 128, by omega⟩ ⟨i.val % 128, by omega⟩ ⟨(j.val - 1024) % 128, by omega⟩
/-- the scale's, -/
def DLW (g : Fin 8) (d : Fin 128) : ℝ := ∑ n : Fin 64, pw (tu Z n g) (tv Z n g) (ty Y n g) (wx W g) d
/-- the offset's, -/
def DLB (g : Fin 8) (d : Fin 128) : ℝ := ∑ n : Fin 64, pb (tu Z n g) (ty Y n g) (wx W g) d
/-- the mixing matrices' -/
def DW (g : Fin 8) (a c : Fin 128) : ℝ :=
  if c.val / 64 ≤ a.val / 64 then ∑ n : Fin 64, pm (tu Z n g) (tv Z n g) (ty Y n g) (lw g) (lb g) a c else 0
/-- and the biases'. -/
def DB (g : Fin 8) (a : Fin 128) : ℝ := ∑ n : Fin 64, ps (tu Z n g) (ty Y n g) a

theorem DZ_u (n : Fin 64) (a : Fin 128) (g : Fin 8) (d : Fin 128) :
    DZ Z Y lw lb W B (tok n a) (chU g d) = DU Z Y lw lb W B n g a d := by
  refine (dif_pos (show 128 * g.val + d.val < 1024 by omega)).trans ?_
  have e1 : (⟨(128 * n.val + a.val) / 128, by omega⟩ : Fin 64) = n := Fin.ext (by show (128 * n.val + a.val) / 128 = n.val; omega)
  have e2 : (⟨(128 * g.val + d.val) / 128, by omega⟩ : Fin 8) = g := Fin.ext (by show (128 * g.val + d.val) / 128 = g.val; omega)
  have e3 : (⟨(128 * n.val + a.val) % 128, by omega⟩ : Fin 128) = a := Fin.ext (by show (128 * n.val + a.val) % 128 = a.val; omega)
  have e4 : (⟨(128 * g.val + d.val) % 128, by omega⟩ : Fin 128) = d := Fin.ext (by show (128 * g.val + d.val) % 128 = d.val; omega)
  exact congr (congr (congrArg₂ (DU Z Y lw lb W B) e1 e2) e3) e4

theorem DZ_v (n : Fin 64) (a : Fin 128) (g : Fin 8) (d : Fin 128) :
    DZ Z Y lw lb W B (tok n a) (chV g d) = DV Z Y lw W n g a d := by
  refine (dif_neg (show ¬(1024 + 128 * g.val + d.val < 1024) by omega)).trans ?_
  have e1 : (⟨(128 * n.val + a.val) / 128, by omega⟩ : Fin 64) = n := Fin.ext (by show (128 * n.val + a.val) / 128 = n.val; omega)
  have e2 : (⟨(1024 + 128 * g.val + d.val - 1024) / 128, by omega⟩ : Fin 8) = g :=
    Fin.ext (by show (1024 + 128 * g.val + d.val - 1024) / 128 = g.val; omega)
  have e3 : (⟨(128 * n.val + a.val) % 128, by omega⟩ : Fin 128) = a := Fin.ext (by show (128 * n.val + a.val) % 128 = a.val; omega)
  have e4 : (⟨(1024 + 128 * g.val + d.val - 1024) % 128, by omega⟩ : Fin 128) = d :=
    Fin.ext (by show (1024 + 128 * g.val + d.val - 1024) % 128 = d.val; omega)
  exact congr (congr (congrArg₂ (DV Z Y lw W) e1 e2) e3) e4

/-- Every token and every channel has its block and its group. -/
theorem tok_cases (i : Fin 8192) : ∃ n a, i = tok n a :=
  ⟨⟨i.val / 128, by omega⟩, ⟨i.val % 128, by omega⟩, Fin.ext (Nat.div_add_mod _ _).symm⟩
theorem ch_cases (j : Fin 2048) : (∃ g d, j = chU g d) ∨ ∃ g d, j = chV g d := by
  by_cases h : j.val < 1024
  · exact .inl ⟨⟨j.val / 128, by omega⟩, ⟨j.val % 128, by omega⟩, Fin.ext (Nat.div_add_mod _ _).symm⟩
  · exact .inr ⟨⟨(j.val - 1024) / 128, by omega⟩, ⟨(j.val - 1024) % 128, by omega⟩,
      Fin.ext (by show j.val = 1024 + 128 * ((j.val - 1024) / 128) + (j.val - 1024) % 128; omega)⟩
theorem chY_cases (j : Fin 1024) : ∃ g d, j = chY g d :=
  ⟨⟨j.val / 128, by omega⟩, ⟨j.val % 128, by omega⟩, Fin.ext (Nat.div_add_mod _ _).symm⟩

end Cert.Gmlp

end
-- ==== Proof.Gmlp.Final.lean ====
module

public import proofs.«01_k».proof.Proof.Gmlp.Frame
public import proofs.«01_k».proof.Proof.Gmlp.PayReal
public import proofs.«01_k».proof.Proof.Gmlp.Whole
public import Idealize.ShloMosaic.Lib.Pipeline.ValueKit

/-! What the kernel's five result arrays hold when its arguments are real. -/

@[expose] public section

set_option maxRecDepth 16384

noncomputable section

namespace Cert.KernelIdeal.Gmlp

open Idealize.ShloMosaic Idealize.ShloMosaic.TcCoe Idealize.SL.Sem
open Idealize.ShloMosaic.Pipeline (Dat)
open Gen Cert.Gmlp

/-! ## The mask -/

theorem row64 (a c : Fin 128) : k0_pay250 (ix2 a c) = BitVec.ofNat 32 (a.val / 64) := by
  pointwise [k0_pay250]
  revert a
  decide +kernel

theorem col64 (a c : Fin 128) :
    Scalar.select (k0_pay252 (ix2 a c) &&& k0_pay253 (ix2 a c)) (k0_pay251 (ix2 a c) - 1#32) (k0_pay251 (ix2 a c)) = BitVec.ofNat 32 (c.val / 64) := by
  pointwise [k0_pay251, k0_pay252, k0_pay253]
  revert c
  decide +kernel

theorem mask_at (a c : Fin 128) : maskK (ix2 a c) = if c.val / 64 ≤ a.val / 64 then 1#1 else 0#1 := by
  have e : maskK (ix2 a c) = Scalar.cmpi .sle (BitVec.ofNat 32 (c.val / 64)) (BitVec.ofNat 32 (a.val / 64)) := by
    unfold maskK
    pointwise [k0_pay254]
    exact congrArg₂ (Scalar.cmpi .sle) (col64 a c) (row64 a c)
  rw [e]
  have ha : a.val / 64 < 2 := by omega
  have hc : c.val / 64 < 2 := by omega
  generalize a.val / 64 = x at *
  generalize c.val / 64 = y at *
  interval_cases x <;> interval_cases y <;> rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![0, 0] ∧ win0_8.index t = ![0, 0] ∧ win0_9.index t = ![0, 0, 0] ∧ win0_10.index t = ![0, 0, 0] :=
  (by decide +kernel : ∀ t : Fin grid0.N, _)

theorem blk0 (t : Fin cfg0.N) (i : Fin 1024) (j : Fin 2048) : iblk m c 0 t (ix2 i j)
    = m ((c : Thread nD τ).loc main_arg0) (ix2 (⟨1024 * t.val + i.val, by have := lt_of_lt_of_eq t.isLt (show cfg0.N = 8 from N_0); omega⟩ : Fin 8192) j) := by
  blk_point [iblk, V, idx t]

theorem blk1 (t : Fin cfg0.N) (i : Fin 1024) (j : Fin 1024) : iblk m c 1 t (ix2 i j)
    = m ((c : Thread nD τ).loc main_arg1) (ix2 (⟨1024 * t.val + i.val, by have := lt_of_lt_of_eq t.isLt (show cfg0.N = 8 from N_0); omega⟩ : Fin 8192) j) := by
  blk_point [iblk, V, idx t]

theorem blk2 (t : Fin cfg0.N) : iblk m c 2 t = m ((c : Thread nD τ).loc main_arg2) := by
  funext j; idx_vars j; blk_point [iblk, V, idx t]
theorem blk3 (t : Fin cfg0.N) : iblk m c 3 t = m ((c : Thread nD τ).loc main_arg3) := by
  funext j; idx_vars j; blk_point [iblk, V, idx t]
theorem blk4 (t : Fin cfg0.N) : iblk m c 4 t = m ((c : Thread nD τ).loc main_arg4) := by
  funext j; idx_vars j; blk_point [iblk, V, idx t]
theorem blk5 (t : Fin cfg0.N) : iblk m c 5 t = m ((c : Thread nD τ).loc main_arg5) := by
  funext j; idx_vars j; blk_point [iblk, V, idx t]

/-! ## Real arguments -/

variable (Z : Fin 8192 → Fin 2048 → ℝ) (Y : Fin 8192 → Fin 1024 → ℝ) (lw lb : Fin 8 → Fin 128 → ℝ)
  (W : Fin 8 → Fin 128 → Fin 128 → ℝ) (B : Fin 8 → Fin 128 → ℝ)

def upZ : S8192x2048.Idx → EReal := fun j => ((Z (j 0) (j 1) : ℝ) : EReal)
def upY : S8192x1024.Idx → EReal := fun j => ((Y (j 0) (j 1) : ℝ) : EReal)
def upW : S8x128x128.Idx → EReal := fun j => ((W (j 0) (j 1) (j 2) : ℝ) : EReal)
def upT (w : Fin 8 → Fin 128 → ℝ) : S8x128.Idx → EReal := fun j => ((w (j 0) (j 1) : ℝ) : EReal)
def upK (w : Fin 8 → Fin 128 → ℝ) : S8x128x1.Idx → EReal := fun j => ((w (j 0) (j 1) : ℝ) : EReal)

/-- The six arguments are the given real arrays. -/
structure Real6 : Prop where
  h0 : m ((c : Thread nD τ).loc main_arg0) = upZ Z
  h1 : m ((c : Thread nD τ).loc main_arg1) = upY Y
  h2 : m ((c : Thread nD τ).loc main_arg2) = upT lw
  h3 : m ((c : Thread nD τ).loc main_arg3) = upT lb
  h4 : m ((c : Thread nD τ).loc main_arg4) = upW W
  h5 : m ((c : Thread nD τ).loc main_arg5) = upK B

/-- Grid point `t` among eight. -/
def pt (t : Fin cfg0.N) : Fin 8 := ⟨t.val, lt_of_lt_of_eq t.isLt (show cfg0.N = 8 from N_0)⟩

variable {m c Z Y lw lb W B} (H : Real6 m c Z Y lw lb W B) (t : Fin cfg0.N) (k g : Fin 8)

include H in
theorem zu_up : zuB (iblk m c 0 t) k g = up (tu Z (blkOf (pt t) k) g) := by
  funext j
  refine (blk0 m c t _ _).trans ?_
  rw [H.h0]
  exact congrArg (fun i => ((Z i _ : ℝ) : EReal)) (Fin.ext (by
    show 1024 * t.val + (128 * k.val + (j 0).val) = 128 * (t.val * 8 + k.val) + (j 0).val; omega))

include H in
theorem zv_up : zvB (iblk m c 0 t) k g = up (tv Z (blkOf (pt t) k) g) := by
  funext j
  refine (blk0 m c t _ _).trans ?_
  rw [H.h0]
  exact congrArg (fun i => ((Z i _ : ℝ) : EReal)) (Fin.ext (by
    show 1024 * t.val + (128 * k.val + (j 0).val) = 128 * (t.val * 8 + k.val) + (j 0).val; omega))

include H in
theorem do_up : doB (iblk m c 1 t) k g = up (ty Y (blkOf (pt t) k) g) := by
  funext j
  refine (blk1 m c t _ _).trans ?_
  rw [H.h1]
  exact congrArg (fun i => ((Y i _ : ℝ) : EReal)) (Fin.ext (by
    show 1024 * t.val + (128 * k.val + (j 0).val) = 128 * (t.val * 8 + k.val) + (j 0).val; omega))

include H in
theorem w_up : rowB (iblk m c 2 t) g = upR (lw g) := by
  rw [blk2, H.h2]; rfl
include H in
theorem b_up : rowB (iblk m c 3 t) g = upR (lb g) := by
  rw [blk3, H.h3]; rfl
include H in
theorem bias_up : colB (iblk m c 5 t) g = upB (B g) := by
  rw [blk5, H.h5]; rfl
include H in
theorem mix_up : matB (mixB (iblk m c 4 t)) g = upM (wx W g) := by
  rw [blk4, H.h4]
  funext j
  idx_vars j
  show Scalar.select (maskK (ix2 j1 j2)) ((W g j1 j2 : ℝ) : EReal) (0 : EReal) = ((wx W g j1 j2 : ℝ) : EReal)
  rw [mask_at]
  unfold wx
  split_ifs
  · exact if_pos rfl
  · exact (if_neg (by decide)).trans EReal.coe_zero.symm

/-! ## The inputs' gradient -/

include H in
theorem point6 (y : S1024x2048.Idx) :
    D7 (iblk m c 0 t) (iblk m c 1 t) (iblk m c 2 t) (iblk m c 3 t) (iblk m c 4 t) (iblk m c 5 t) y
      = upZ (DZ Z Y lw lb W B) (ix2 (⟨1024 * t.val + (y 0).val, by have := lt_of_lt_of_eq t.isLt (show cfg0.N = 8 from N_0); have := (y 0).isLt; simp at this; omega⟩ : Fin 8192) (y 1)) := by
  rcases uv_cases y with ⟨k, a, g, b, rfl⟩ | ⟨k, a, g, b, rfl⟩
  · rw [D7_u]
    unfold uT
    rw [zu_up H, zv_up H, do_up H, w_up H, b_up H, mix_up H, bias_up H, du_up]
    refine (congrArg (fun x : ℝ => (x : EReal)) (DZ_u Z Y lw lb W B (blkOf (pt t) k) a g b)).symm.trans ?_
    exact congrArg (fun i => ((DZ Z Y lw lb W B i _ : ℝ) : EReal)) (Fin.ext (by
      show 128 * (t.val * 8 + k.val) + a.val = 1024 * t.val + (128 * k.val + a.val); omega))
  · rw [D7_v]
    unfold vT
    rw [zu_up H, zv_up H, do_up H, w_up H, mix_up H, dv_up]
    refine (congrArg (fun x : ℝ => (x : EReal)) (DZ_v Z Y lw lb W B (blkOf (pt t) k) a g b)).symm.trans ?_
    exact congrArg (fun i => ((DZ Z Y lw lb W B i _ : ℝ) : EReal)) (Fin.ext (by
      show 128 * (t.val * 8 + k.val) + a.val = 1024 * t.val + (128 * k.val + a.val); omega))

include H in
theorem final6 : (dats m 0 c).arrAt 6 (cfgs 0).N = upZ (DZ Z Y lw lb W B) := by
  refine (dats m 0 c).arrAt_eq_of_covers 6 _ (by decide +kernel) fun t _ y => ?_
  blk_simp
  rw [after0_6]
  refine (point6 H t y).trans ?_
  blk_point [idx t]

/-! ## The weights' gradients -/

theorem carry_sum {I : Type} {N : ℕ} (A : Fin N → (I → EReal) → I → EReal) (term : Fin N → I → EReal)
    (hA : ∀ t o i, A t o i = o i + term t i) (n : ℕ) (h : n < N) (i : I) :
    carry A (fun _ => (0 : EReal)) n h i = ∑ p : Fin (n + 1), term ⟨p.val, by omega⟩ i := by
  induction n with
  | zero =>
    rw [Fin.sum_univ_one]
    exact (hA _ _ _).trans (zero_add _)
  | succ n ih =>
    rw [Fin.sum_univ_castSucc]
    exact (hA _ _ _).trans (congrArg (· + _) (ih (by omega)))

/-- The 64 blocks, eight at a time. -/
theorem sum_blks (f : Fin 64 → ℝ) : ∑ t : Fin 8, ∑ k : Fin 8, ((f (blkOf t k) : ℝ) : EReal) = ((∑ n, f n : ℝ) : EReal) := by
  simp only [sum_up]
  congr 1
  exact Fin.sum_mul_add_congr fun s k hl => rfl

theorem last8 : (7 : ℕ) < cfg0.N := by rw [show cfg0.N = 8 from N_0]; omega

/-- An accumulator after the last point is its eight points' sum. -/
theorem acc_sum {I : Type} (A : Fin cfg0.N → (I → EReal) → I → EReal) (term : Fin 8 → Fin 8 → I → ℝ)
    (hA : ∀ t o i, A t o i = o i + ∑ k : Fin 8, ((term (pt t) k i : ℝ) : EReal)) (i : I) (f : Fin 64 → ℝ)
    (hf : ∀ t k, term t k i = f (blkOf t k)) :
    carry A (fun _ => (0 : EReal)) 7 last8 i = ((∑ n, f n : ℝ) : EReal) := by
  refine (carry_sum A (fun t i => ∑ k : Fin 8, ((term (pt t) k i : ℝ) : EReal)) hA 7 last8 i).trans ?_
  refine Eq.trans ?_ (sum_blks f)
  exact Finset.sum_congr rfl fun t _ => Finset.sum_congr rfl fun k _ => congrArg _ (hf _ _)

include H in
theorem t8_up (a : Fin 128) : t8 (iblk m c 0 t) (iblk m c 1 t) (mixB (iblk m c 4 t)) k g a
    = ((pw (tu Z (blkOf (pt t) k) g) (tv Z (blkOf (pt t) k) g) (ty Y (blkOf (pt t) k) g) (wx W g) a : ℝ) : EReal) := by
  unfold t8
  rw [zu_up H, zv_up H, do_up H, mix_up H, lnw_up]; rfl
include H in
theorem t9_up (a : Fin 128) : t9 (iblk m c 0 t) (iblk m c 1 t) (mixB (iblk m c 4 t)) k g a
    = ((pb (tu Z (blkOf (pt t) k) g) (ty Y (blkOf (pt t) k) g) (wx W g) a : ℝ) : EReal) := by
  unfold t9
  rw [zu_up H, do_up H, mix_up H, lnb_up]; rfl
include H in
theorem t10_up (a b : Fin 128) : t10 (iblk m c 0 t) (iblk m c 1 t) (iblk m c 2 t) (iblk m c 3 t) maskK k g a b
    = ((if b.val / 64 ≤ a.val / 64 then
        pm (tu Z (blkOf (pt t) k) g) (tv Z (blkOf (pt t) k) g) (ty Y (blkOf (pt t) k) g) (lw g) (lb g) a b else 0 : ℝ) : EReal) := by
  unfold t10
  rw [zu_up H, zv_up H, do_up H, w_up H, b_up H, ws_up, mask_at]
  split_ifs
  · exact if_pos rfl
  · exact (if_neg (by decide)).trans EReal.coe_zero.symm
include H in
theorem t11_up (a : Fin 128) : t11 (iblk m c 0 t) (iblk m c 1 t) k g a
    = ((ps (tu Z (blkOf (pt t) k) g) (ty Y (blkOf (pt t) k) g) a : ℝ) : EReal) := by
  unfold t11
  rw [zu_up H, do_up H, bs_up]
  exact sum_up _

include H in
theorem c8_up (j : S8x128.Idx) : c8 m c 7 last8 j = upT (DLW Z Y W) j := by
  unfold c8
  exact acc_sum (I := S8x128.Idx) _ (fun t k j => pw (tu Z (blkOf t k) (j 0)) (tv Z (blkOf t k) (j 0)) (ty Y (blkOf t k) (j 0)) (wx W (j 0)) (j 1))
    (fun t o j => congrArg (o j + ·) (Finset.sum_congr rfl fun k _ => t8_up H t k (j 0) (j 1))) j _ fun t k => rfl

include H in
theorem c9_up (j : S8x128.Idx) : c9 m c 7 last8 j = upT (DLB Z Y W) j := by
  unfold c9
  exact acc_sum (I := S8x128.Idx) _ (fun t k j => pb (tu Z (blkOf t k) (j 0)) (ty Y (blkOf t k) (j 0)) (wx W (j 0)) (j 1))
    (fun t o j => congrArg (o j + ·) (Finset.sum_congr rfl fun k _ => t9_up H t k (j 0) (j 1))) j _ fun t k => rfl

include H in
theorem c10_up (j : S8x128x128.Idx) : c10 m c 7 last8 j = upW (DW Z Y lw lb) j := by
  unfold c10
  refine (acc_sum (I := S8x128x128.Idx) _ (fun t k j => if (j 2).val / 64 ≤ (j 1).val / 64 then
      pm (tu Z (blkOf t k) (j 0)) (tv Z (blkOf t k) (j 0)) (ty Y (blkOf t k) (j 0)) (lw (j 0)) (lb (j 0)) (j 1) (j 2) else 0)
    (fun t o j => congrArg (o j + ·) (Finset.sum_congr rfl fun k _ => t10_up H t k (j 0) (j 1) (j 2))) j
    (fun n => if (j 2).val / 64 ≤ (j 1).val / 64 then
      pm (tu Z n (j 0)) (tv Z n (j 0)) (ty Y n (j 0)) (lw (j 0)) (lb (j 0)) (j 1) (j 2) else 0) fun t k => rfl).trans ?_
  show _ = ((DW Z Y lw lb (j 0) (j 1) (j 2) : ℝ) : EReal)
  unfold DW
  split_ifs
  · rfl
  · rw [Finset.sum_const_zero]

include H in
theorem c11_up (j : S8x128x1.Idx) : c11 m c 7 last8 j = upK (DB Z Y) j := by
  unfold c11
  exact acc_sum (I := S8x128x1.Idx) _ (fun t k j => ps (tu Z (blkOf t k) (j 0)) (ty Y (blkOf t k) (j 0)) (j 1))
    (fun t o j => congrArg (o j + ·) (Finset.sum_congr rfl fun k _ => t11_up H t k (j 0) (j 1))) j _ fun t k => rfl

include H in
theorem final7 : (dats m 0 c).arrAt 7 (cfgs 0).N = upT (DLW Z Y W) := by
  refine (dats m 0 c).arrAt_eq_of_after_last 7 t0_7 (by decide +kernel) _ fun j => ?_
  blk_simp
  rw [after0_7]
  refine (c8_up H j).trans ?_
  blk_point [idx t0_7]

include H in
theorem final8 : (dats m 0 c).arrAt 8 (cfgs 0).N = upT (DLB Z Y W) := by
  refine (dats m 0 c).arrAt_eq_of_after_last 8 t0_7 (by decide +kernel) _ fun j => ?_
  blk_simp
  rw [after0_8]
  refine (c9_up H j).trans ?_
  blk_point [idx t0_7]

include H in
theorem final9 : (dats m 0 c).arrAt 9 (cfgs 0).N = upW (DW Z Y lw lb) := by
  refine (dats m 0 c).arrAt_eq_of_after_last 9 t0_7 (by decide +kernel) _ fun j => ?_
  blk_simp
  rw [after0_9]
  refine (c10_up H j).trans ?_
  blk_point [idx t0_7]

include H in
theorem final10 : (dats m 0 c).arrAt 10 (cfgs 0).N = upK (DB Z Y) := by
  refine (dats m 0 c).arrAt_eq_of_after_last 10 t0_7 (by decide +kernel) _ fun j => ?_
  blk_simp
  rw [after0_10]
  refine (c11_up H j).trans ?_
  blk_point [idx t0_7]

end Cert.KernelIdeal.Gmlp

end
-- ==== Proof.Gmlp.RefA.lean ====
module

public import proofs.«01_k».proof.Proof.Gen.ReferenceIdeal.Read
public import proofs.«01_k».proof.Proof.Gmlp.Whole
public import Idealize.ShloMosaic.Lib.Pipeline.ValueKit

/-! The reference at real arguments, stage by stage: the activation, the normalised channels and the gated mixture. -/

@[expose] public section

set_option maxRecDepth 16384

noncomputable section

namespace Cert.ReferenceIdeal.Gmlp

open Idealize.ShloMosaic Idealize.ShloMosaic.TcCoe Idealize.SL.Sem
open Gen Read Cert.Gmlp

/-- Real arrays in the reference's shapes. -/
def rZ (f : Fin 8192 → Fin 2048 → ℝ) : S8192x2048.Idx → EReal := fun j => ((f (j 0) (j 1) : ℝ) : EReal)
def rY (f : Fin 8192 → Fin 1024 → ℝ) : S8192x1024.Idx → EReal := fun j => ((f (j 0) (j 1) : ℝ) : EReal)
def rT (f : Fin 8 → Fin 128 → ℝ) : S8x128.Idx → EReal := fun j => ((f (j 0) (j 1) : ℝ) : EReal)
def rM (f : Fin 8 → Fin 128 → Fin 128 → ℝ) : S8x128x128.Idx → EReal := fun j => ((f (j 0) (j 1) (j 2) : ℝ) : EReal)
def rK (f : Fin 8 → Fin 128 → ℝ) : S8x128x1.Idx → EReal := fun j => ((f (j 0) (j 1) : ℝ) : EReal)
def rX (f : Fin 8192 → Fin 2048 → ℝ) : S1x8192x2048.Idx → EReal := fun j => ((f (j 1) (j 2) : ℝ) : EReal)
def rH (f : Fin 8192 → Fin 1024 → ℝ) : S1x8192x1024.Idx → EReal := fun j => ((f (j 1) (j 2) : ℝ) : EReal)
/-- Block, group, token, channel. -/
def r5 (f : Fin 64 → Fin 8 → Blk) : S1x64x128x8x128.Idx → EReal := fun j => ((f (j 1) (j 3) (j 2) (j 4) : ℝ) : EReal)
def r4 (f : Fin 64 → Fin 8 → Fin 128 → ℝ) : S1x64x128x8x1.Idx → EReal := fun j => ((f (j 1) (j 3) (j 2) : ℝ) : EReal)

variable (Z : Fin 8192 → Fin 2048 → ℝ) (Y : Fin 8192 → Fin 1024 → ℝ) (lw lb : Fin 8 → Fin 128 → ℝ)
  (W : Fin 8 → Fin 128 → Fin 128 → ℝ) (B : Fin 8 → Fin 128 → ℝ)

theorem v2_up : val_main_v2 (F := Ideal) (rZ Z) = rX Z := by
  funext i
  pointwise [val_main_v2, val_main_v1, rZ, rX]

theorem v3_at (i) : val_main_v3 (F := Ideal) i = ((cA : ℝ) : EReal) := by
  pointwise [val_main_v3, val_main_cst, val_main_cst_0]
  rw [word_44715, word_million, ratio_A]

theorem v14_up : val_main_v14 (F := Ideal) (rZ Z) = rX fun i j => th (Z i j) := by
  funext i
  unfold val_main_v14 val_main_v13 val_main_v11 val_main_v10 val_main_v5 val_main_v4
  simp only [v2_up]
  pointwise [val_main_v12, val_main_v9, val_main_cst_2, rX]
  simp only [v3_at, word_gelu, ← EReal.coe_mul, ← EReal.coe_add, Ideal.tanh_coe, th]

theorem v23_up : val_main_v23 (F := Ideal) (rZ Z) = rX fun i j => hf (Z i j) := by
  funext i
  unfold val_main_v23 val_main_v21
  simp only [v14_up]
  pointwise [val_main_v22, val_main_v20, val_main_cst_5, val_main_cst_6, rX]
  simp only [word_half, ← EReal.coe_one, ← EReal.coe_mul, ← EReal.coe_add, hf]

theorem v24_up : val_main_v24 (F := Ideal) (rZ Z) = rX fun i j => ge (Z i j) := by
  funext i
  unfold val_main_v24
  simp only [v2_up, v23_up]
  pointwise [rX]
  simp only [← EReal.coe_mul, ge]

theorem idx27 (n : Fin 64) (a : Fin 128) (g : Fin 8) (d : Fin 128) :
    idx_main_v27 (ix5 0 n a g d) = ix3 0 (tok n a) (chY g d) := by
  funext x
  match x with
  | ⟨0, _⟩ => rfl
  | ⟨1, _⟩ => exact Fin.ext (by
      show (((((0 * 64 + n.val) * 128 + a.val) * 8 + g.val) * 128 + d.val) / 1024 % 8192) = 128 * n.val + a.val; omega)
  | ⟨2, _⟩ => exact Fin.ext (by
      show (((((0 * 64 + n.val) * 128 + a.val) * 8 + g.val) * 128 + d.val) % 1024) = 128 * g.val + d.val; omega)

theorem v25_at (i : Fin 8192) (g : Fin 8) (d : Fin 128) :
    val_main_v25 (F := Ideal) (rZ Z) (ix3 0 i (chY g d)) = ((ge (Z i (chU g d)) : ℝ) : EReal) := by
  rw [val_main_v25_apply, v24_up]
  exact congrArg (fun k => ((ge (Z _ k) : ℝ) : EReal)) (Fin.ext (by simp [chY, chU]))

theorem v26_at (i : Fin 8192) (g : Fin 8) (d : Fin 128) :
    val_main_v26 (F := Ideal) (rZ Z) (ix3 0 i (chY g d)) = ((ge (Z i (chV g d)) : ℝ) : EReal) := by
  rw [val_main_v26_apply, v24_up]
  exact congrArg (fun k => ((ge (Z _ k) : ℝ) : EReal)) (Fin.ext (by simp [chY, chV]; omega))

theorem v27_up : val_main_v27 (F := Ideal) (rZ Z) = r5 fun n g a d => ge (tv Z n g a d) := by
  funext i
  idx_vars i
  obtain rfl : i0 = 0 := Subsingleton.elim _ _
  rw [val_main_v27_apply, idx27, v26_at]
  rfl

/-- The mean over the channels of a group. -/
theorem v31_up : val_main_v31 (F := Ideal) (rZ Z) = r4 fun n g a => mu (tv Z n g) a := by
  funext i
  unfold val_main_v31 val_main_v29 val_main_v28
  simp only [v27_up]
  pointwise [val_main_v30, val_main_cst_7, val_main_cst_8, r5, r4]
  rw [sum_up, word_128]
  simp only [zero_add, div_128, mu]

theorem v33_up : val_main_v33 (F := Ideal) (rZ Z) = r5 fun n g => cen (tv Z n g) := by
  funext i
  unfold val_main_v33 val_main_v32
  simp only [v27_up, v31_up]
  pointwise [r5, r4]
  rw [← EReal.coe_sub]
  rfl

theorem v42_up : val_main_v42 (F := Ideal) (rZ Z) = r5 fun n g => cen (tv Z n g) := by
  funext i
  unfold val_main_v42 val_main_v41
  simp only [v27_up, v31_up]
  pointwise [r5, r4]
  rw [← EReal.coe_sub]
  rfl

theorem v44_up : val_main_v44 (F := Ideal) (rZ Z) = r4 fun n g => va (tv Z n g) := by
  funext i
  unfold val_main_v44 val_main_v40 val_main_v38 val_main_v37 val_main_v34
  simp only [v33_up]
  pointwise [val_main_v39, val_main_v43, val_main_cst_10, val_main_cst_11, val_main_cst_12, r5, r4]
  simp only [← EReal.coe_mul]
  rw [sum_up, word_128, word_eps]
  simp only [zero_add, div_128, va, ← EReal.coe_add]

theorem v45_up : val_main_v45 (F := Ideal) (rZ Z) = r4 fun n g => rs (tv Z n g) := by
  funext i
  unfold val_main_v45
  simp only [v44_up]
  idx_vars i
  pointwise [r4]
  rw [rsqrt_up (va_pos _ _)]
  rfl

theorem v48_up : val_main_v48 (F := Ideal) (rZ Z) = r4 fun n g a => -(1 / 2) * (rs (tv Z n g) a / va (tv Z n g) a) := by
  funext i
  unfold val_main_v48 val_main_v46
  simp only [v44_up, v45_up]
  idx_vars i
  pointwise [val_main_v47, val_main_cst_13, r4]
  rw [div_pos_up _ (va_pos _ _), word_neg_half, ← EReal.coe_mul]

theorem v50_up : val_main_v50 (F := Ideal) (rZ Z) = r5 fun n g => vh (tv Z n g) := by
  funext i
  unfold val_main_v50 val_main_v49
  simp only [v42_up, v45_up]
  pointwise [r5, r4]
  rw [← EReal.coe_mul]
  rfl

theorem v56_up : val_main_v56 (F := Ideal) (rZ Z) (rT lw) (rT lb) = r5 fun n g => vn (tv Z n g) (lw g) (lb g) := by
  funext i
  unfold val_main_v56 val_main_v53
  simp only [v50_up]
  pointwise [val_main_v52, val_main_v51, val_main_v54, val_main_v55, r5, rT]
  rw [← EReal.coe_mul, ← EReal.coe_add]
  rfl

/-! ## The mask -/

theorem v58_at (a : Fin 128) : val_main_v58 (F := Ideal) (ix1 a) = BitVec.ofNat 32 (a.val / 64) := by
  pointwise [val_main_v58, val_main_call0_v11, val_main_call0_v13, val_main_call0_v2, val_main_call0_v6, val_main_call0_v10,
    val_main_call0_v3, val_main_call0_v5, val_main_call0_v8, val_main_call0_v9, val_main_call0_v12, val_main_call0_v1,
    val_main_call0_v4, val_main_call0_v7, val_main_call0_v0, val_main_call0_c, val_main_call0_c_0, val_main_c, val_main_v57]
  revert a
  decide +kernel

theorem v65_1_at (g : Fin 8) (a c : Fin 128) :
    val_main_v65_1 (F := Ideal) (ix3 g a c) = if c.val / 64 ≤ a.val / 64 then 1#1 else 0#1 := by
  pointwise [val_main_v65_1, val_main_v64, val_main_v63, val_main_v61, val_main_v62, val_main_v59, val_main_v60]
  rw [v58_at, v58_at]
  have ha : a.val / 64 < 2 := by omega
  have hc : c.val / 64 < 2 := by omega
  generalize a.val / 64 = x at *
  generalize c.val / 64 = y at *
  interval_cases x <;> interval_cases y <;> rfl

theorem v65_0_up : val_main_v65_0 (F := Ideal) (rM W) = rM (wx W) := by
  funext i
  idx_vars i
  unfold val_main_v65_0
  pointwise [val_main_call1_v2, val_main_call1_v0, val_main_c_14, rM]
  rw [v65_1_at]
  unfold wx
  split_ifs
  · exact if_pos rfl
  · refine (if_neg (by decide)).trans ?_
    show (((0#32 : BitVec 32).toInt : ℝ) : EReal) = _
    simp

/-! ## The gated mixture -/

theorem v71_up : val_main_v71 (F := Ideal) (rZ Z) (rT lw) (rT lb) (rM W) (rK B)
    = r5 fun n g => sv (tv Z n g) (wx W g) (lw g) (lb g) (B g) := by
  funext i
  idx_vars i
  unfold val_main_v71 val_main_v67 val_main_v66
  simp only [v56_up, v65_0_up]
  pointwise [val_main_v70, val_main_v69, val_main_v68, val_main_v0, r5, rM, rK]
  simp only [← EReal.coe_mul]
  rw [sum_up, ← EReal.coe_add]
  refine congrArg (fun x : ℝ => (x : EReal)) (congrArg (· + _) (Finset.sum_congr rfl fun c _ => mul_comm _ _))

theorem idx72 (n : Fin 64) (a : Fin 128) (g : Fin 8) (d : Fin 128) :
    idx_main_v72 (ix3 0 (tok n a) (chY g d)) = ix5 0 n a g d := by
  funext x
  match x with
  | ⟨0, _⟩ => rfl
  | ⟨1, _⟩ => exact Fin.ext (by
      show ((0 * 8192 + (128 * n.val + a.val)) * 1024 + (128 * g.val + d.val)) / 131072 % 64 = n.val; omega)
  | ⟨2, _⟩ => exact Fin.ext (by
      show ((0 * 8192 + (128 * n.val + a.val)) * 1024 + (128 * g.val + d.val)) / 1024 % 128 = a.val; omega)
  | ⟨3, _⟩ => exact Fin.ext (by
      show ((0 * 8192 + (128 * n.val + a.val)) * 1024 + (128 * g.val + d.val)) / 128 % 8 = g.val; omega)
  | ⟨4, _⟩ => exact Fin.ext (by
      show ((0 * 8192 + (128 * n.val + a.val)) * 1024 + (128 * g.val + d.val)) % 128 = d.val; omega)

theorem v72_at (n : Fin 64) (a : Fin 128) (g : Fin 8) (d : Fin 128) :
    val_main_v72 (F := Ideal) (rZ Z) (rT lw) (rT lb) (rM W) (rK B) (ix3 0 (tok n a) (chY g d))
      = ((sv (tv Z n g) (wx W g) (lw g) (lb g) (B g) a d : ℝ) : EReal) := by
  rw [val_main_v72_apply, idx72, v71_up]
  rfl

theorem v75_at (n : Fin 64) (a : Fin 128) (g : Fin 8) (d : Fin 128) :
    val_main_v75 (F := Ideal) (rY Y) (ix3 0 (tok n a) (chY g d)) = ((ty Y n g a d : ℝ) : EReal) := by
  pointwise [val_main_v75, val_main_v74, rY]
  rfl

theorem v77_at (n : Fin 64) (a : Fin 128) (g : Fin 8) (d : Fin 128) :
    val_main_v77 (F := Ideal) (rZ Z) (rY Y) (rT lw) (rT lb) (rM W) (rK B) (ix3 0 (tok n a) (chY g d))
      = ((ty Y n g a d * sv (tv Z n g) (wx W g) (lw g) (lb g) (B g) a d : ℝ) : EReal) := by
  rw [val_main_v77_apply, v75_at, v72_at]
  exact (EReal.coe_mul _ _).symm

/-- The mixture's cotangent. -/
theorem v78_up : val_main_v78 (F := Ideal) (rZ Z) (rY Y) = r5 fun n g => ds (tu Z n g) (ty Y n g) := by
  funext i
  idx_vars i
  obtain rfl : i0 = 0 := Subsingleton.elim _ _
  rw [val_main_v78_apply, show idx_main_v78 (ix5 0 i1 i2 i3 i4) = _ from idx27 i1 i2 i3 i4, val_main_v76_apply, v25_at, v75_at]
  refine (EReal.coe_mul _ _).symm.trans ?_
  exact congrArg _ (mul_comm _ _)

/-! ## The cotangents of the matrices and of the normalised channels -/

theorem v83_at (g : Fin 8) (n : Fin 64) (d a : Fin 128) :
    val_main_v83 (F := Ideal) (rZ Z) (rY Y) (ix5 g 0 n d a) = ((ds (tu Z n g) (ty Y n g) a d : ℝ) : EReal) := by
  unfold val_main_v83
  simp only [v78_up]
  pointwise [r5]

theorem v86_up : val_main_v86 (F := Ideal) (rZ Z) (rY Y) (rM W) = r5 fun n g => dn (tu Z n g) (ty Y n g) (wx W g) := by
  funext i
  idx_vars i
  obtain rfl : i0 = 0 := Subsingleton.elim _ _
  unfold val_main_v86 val_main_v85
  simp only [v65_0_up]
  pointwise [rM, r5]
  simp only [v83_at, ← EReal.coe_mul]
  rw [sum_up]
  exact congrArg (fun x : ℝ => (x : EReal)) (Finset.sum_congr rfl fun c _ => mul_comm _ _)

/-- The product that sums over every token's block and channel. -/
abbrev D84 := dot_S8x1x64x128x128_S1x64x128x8x128_S8x128x128_123_014_4_2_0_3

/-- Its contracted positions are the blocks and the channels. -/
def contr84 : D84.contr.Idx ≃ Fin 64 × Fin 128 where
  toFun q := (q ⟨1, by decide⟩, q ⟨2, by decide⟩)
  invFun k := fun x => match x with
    | ⟨0, _⟩ => (0 : Fin 1)
    | ⟨1, _⟩ => k.1
    | ⟨2, _⟩ => k.2
  left_inv q := funext fun x => match x with
    | ⟨0, _⟩ => Subsingleton.elim (α := Fin 1) _ _
    | ⟨1, _⟩ => rfl
    | ⟨2, _⟩ => rfl
  right_inv k := rfl

theorem lhs84 (g : Fin 8) (a c : Fin 128) (n : Fin 64) (d : Fin 128) :
    D84.lhsIdx (ix3 g a c) (contr84.symm (n, d)) = ix5 g 0 n d a := funext fun x => match x with
  | ⟨0, _⟩ => rfl
  | ⟨1, _⟩ => rfl
  | ⟨2, _⟩ => rfl
  | ⟨3, _⟩ => rfl
  | ⟨4, _⟩ => rfl

theorem rhs84 (g : Fin 8) (a c : Fin 128) (n : Fin 64) (d : Fin 128) :
    D84.rhsIdx (ix3 g a c) (contr84.symm (n, d)) = ix5 0 n c g d := funext fun x => match x with
  | ⟨0, _⟩ => rfl
  | ⟨1, _⟩ => rfl
  | ⟨2, _⟩ => rfl
  | ⟨3, _⟩ => rfl
  | ⟨4, _⟩ => rfl

theorem v84_at (g : Fin 8) (a c : Fin 128) :
    val_main_v84 (F := Ideal) (rZ Z) (rY Y) (rT lw) (rT lb) (ix3 g a c)
      = ((∑ n : Fin 64, pm (tu Z n g) (tv Z n g) (ty Y n g) (lw g) (lb g) a c : ℝ) : EReal) := by
  unfold val_main_v84
  simp only [v56_up]
  refine (Ideal.dotGeneral_apply ..).trans ?_
  rw [← Equiv.sum_comp contr84.symm, Fintype.sum_prod_type]
  simp only [lhs84, rhs84, v83_at]
  simp only [r5, ← EReal.coe_mul, sum_up]
  rfl

theorem v87_up : val_main_v87 (F := Ideal) (rZ Z) (rY Y) (rT lw) (rT lb) = rM (DW Z Y lw lb) := by
  funext i
  idx_vars i
  unfold val_main_v87
  pointwise [val_main_call2_v0, val_main_call2_cst, rM]
  rw [v65_1_at, v84_at]
  unfold DW
  split_ifs
  · exact if_pos rfl
  · exact (if_neg (by decide)).trans EReal.coe_zero.symm

/-! ## Sums over several axes -/

theorem red_fiber {s t : Shape} {axes : List (Fin s.rank)} (h : s.ReducesTo axes t) (v : s.Idx → EReal) (init : EReal) (j : t.Idx)
    {ι : Type} [Fintype ι] (e : ι → s.Idx) (inj : Function.Injective e) (hf : ∀ i, h.drop i = j ↔ ∃ k, e k = i) :
    Ideal.hostReduceAdd h v init j = init + ∑ k, v (e k) := by
  classical
  unfold Ideal.hostReduceAdd
  congr 1
  rw [← Finset.sum_image (s := Finset.univ) (g := e) fun _ _ _ _ h => inj h]
  refine Finset.sum_congr (Finset.ext fun i => ?_) fun _ _ => rfl
  simp [hf]

theorem red12 (v : S1x64x128x8x128.Idx → EReal) (init : EReal) (g : Fin 8) (d : Fin 128) :
    Ideal.hostReduceAdd reducesTo_S1x64x128x8x128_S1x8x128_d1_2 v init (ix3 0 g d)
      = init + ∑ k : Fin 64 × Fin 128, v (ix5 0 k.1 k.2 g d) :=
  red_fiber _ v init _ (fun k : Fin 64 × Fin 128 => ix5 0 k.1 k.2 g d)
    (fun _ _ e => Prod.ext (congrFun e 1) (congrFun e 2)) fun i => ⟨fun e => by
      have h1 := congrFun e 1
      have h2 := congrFun e 2
      idx_vars i
      obtain rfl : i0 = 0 := Subsingleton.elim _ _
      obtain rfl : i3 = g := h1
      obtain rfl : i4 = d := h2
      exact ⟨(i1, i2), rfl⟩, fun ⟨k, e⟩ => by
      subst e
      funext b
      match b with
      | ⟨0, _⟩ => rfl
      | ⟨1, _⟩ => rfl
      | ⟨2, _⟩ => rfl⟩

theorem red14 (v : S1x64x128x8x128.Idx → EReal) (init : EReal) (a : Fin 128) (g : Fin 8) :
    Ideal.hostReduceAdd reducesTo_S1x64x128x8x128_S1x128x8_d1_4 v init (ix3 0 a g)
      = init + ∑ k : Fin 64 × Fin 128, v (ix5 0 k.1 a g k.2) :=
  red_fiber _ v init _ (fun k : Fin 64 × Fin 128 => ix5 0 k.1 a g k.2)
    (fun _ _ e => Prod.ext (congrFun e 1) (congrFun e 4)) fun i => ⟨fun e => by
      have h1 := congrFun e 1
      have h2 := congrFun e 2
      idx_vars i
      obtain rfl : i0 = 0 := Subsingleton.elim _ _
      obtain rfl : i2 = a := h1
      obtain rfl : i3 = g := h2
      exact ⟨(i1, i4), rfl⟩, fun ⟨k, e⟩ => by
      subst e
      funext b
      match b with
      | ⟨0, _⟩ => rfl
      | ⟨1, _⟩ => rfl
      | ⟨2, _⟩ => rfl⟩

theorem red012 (v : S1x1x1x8x128.Idx → EReal) (init : EReal) (g : Fin 8) (d : Fin 128) :
    Ideal.hostReduceAdd reducesTo_S1x1x1x8x128_S8x128_d0_1_2 v init (ix2 g d) = init + v (ix5 0 0 0 g d) :=
  (red_fiber _ v init _ (fun _ : Unit => ix5 0 0 0 g d) (fun _ _ _ => rfl) fun i => ⟨fun e => by
      have h1 := congrFun e 0
      have h2 := congrFun e 1
      idx_vars i
      obtain rfl : i0 = 0 := Subsingleton.elim _ _
      obtain rfl : i1 = 0 := Subsingleton.elim _ _
      obtain rfl : i2 = 0 := Subsingleton.elim _ _
      obtain rfl : i3 = g := h1
      obtain rfl : i4 = d := h2
      exact ⟨(), rfl⟩, fun ⟨k, e⟩ => by
      subst e
      funext b
      match b with
      | ⟨0, _⟩ => rfl
      | ⟨1, _⟩ => rfl⟩).trans (congrArg _ (Fintype.sum_unique _))

theorem red014 (v : S1x1x128x8x1.Idx → EReal) (init : EReal) (a : Fin 128) (g : Fin 8) :
    Ideal.hostReduceAdd reducesTo_S1x1x128x8x1_S128x8_d0_1_4 v init (ix2 a g) = init + v (ix5 0 0 a g 0) :=
  (red_fiber _ v init _ (fun _ : Unit => ix5 0 0 a g 0) (fun _ _ _ => rfl) fun i => ⟨fun e => by
      have h1 := congrFun e 0
      have h2 := congrFun e 1
      idx_vars i
      obtain rfl : i0 = 0 := Subsingleton.elim _ _
      obtain rfl : i1 = 0 := Subsingleton.elim _ _
      obtain rfl : i4 = 0 := Subsingleton.elim _ _
      obtain rfl : i2 = a := h1
      obtain rfl : i3 = g := h2
      exact ⟨(), rfl⟩, fun ⟨k, e⟩ => by
      subst e
      funext b
      match b with
      | ⟨0, _⟩ => rfl
      | ⟨1, _⟩ => rfl⟩).trans (congrArg _ (Fintype.sum_unique _))

theorem red04 (v : S1x64x128x8x1.Idx → EReal) (init : EReal) (n : Fin 64) (a : Fin 128) (g : Fin 8) :
    Ideal.hostReduceAdd reducesTo_S1x64x128x8x1_S64x128x8_d0_4 v init (ix3 n a g) = init + v (ix5 0 n a g 0) :=
  (red_fiber _ v init _ (fun _ : Unit => ix5 0 n a g 0) (fun _ _ _ => rfl) fun i => ⟨fun e => by
      have h1 := congrFun e 0
      have h2 := congrFun e 1
      have h3 := congrFun e 2
      idx_vars i
      obtain rfl : i0 = 0 := Subsingleton.elim _ _
      obtain rfl : i4 = 0 := Subsingleton.elim _ _
      obtain rfl : i1 = n := h1
      obtain rfl : i2 = a := h2
      obtain rfl : i3 = g := h3
      exact ⟨(), rfl⟩, fun ⟨k, e⟩ => by
      subst e
      funext b
      match b with
      | ⟨0, _⟩ => rfl
      | ⟨1, _⟩ => rfl
      | ⟨2, _⟩ => rfl⟩).trans (congrArg _ (Fintype.sum_unique _))

end Cert.ReferenceIdeal.Gmlp

end
-- ==== Proof.Gmlp.RefB.lean ====
module

public import proofs.«01_k».proof.Proof.Gmlp.RefA

/-! The reference's five results at real arguments. -/

@[expose] public section

set_option maxRecDepth 16384

noncomputable section

namespace Cert.Gmlp

variable (xu xv y wm : Blk) (w b bs : Fin 128 → ℝ)

theorem cen_sum (a : Fin 128) : ∑ d, cen xv a d = 0 := by
  unfold cen mu
  rw [Finset.sum_sub_distrib, Finset.sum_const, Finset.card_univ, Fintype.card_fin, nsmul_eq_mul]
  push_cast
  ring

theorem rs_sq (a : Fin 128) : rs xv a * rs xv a = (va xv a)⁻¹ := by
  unfold rs
  rw [← mul_inv, Real.mul_self_sqrt (va_pos xv a).le]

/-- The gradient along the channels' spread, -/
def q1 (a : Fin 128) : ℝ := (∑ d, cen xv a d * dh xu y wm w a d) * (-(1 / 2) * (rs xv a / va xv a)) / 128
def q2 (a d : Fin 128) : ℝ := q1 xu xv y wm w a * (2 * cen xv a d)
/-- and along their mean. -/
def q3 (a : Fin 128) : ℝ :=
  ((∑ d, -(dh xu y wm w a d * rs xv a)) + ∑ d, -(q2 xu xv y wm w a d)) / 128

/-- The chain of cotangents through the normalisation is its closed form. -/
theorem chain (a d : Fin 128) : dh xu y wm w a d * rs xv a + q2 xu xv y wm w a d + q3 xu xv y wm w a = dv xu xv y wm w a d := by
  have h2 : ∑ d, -(q2 xu xv y wm w a d) = 0 := by
    unfold q2
    rw [Finset.sum_neg_distrib, ← Finset.mul_sum, ← Finset.mul_sum, cen_sum]
    ring
  have h3 : ∑ d, -(dh xu y wm w a d * rs xv a) = -((∑ d, dh xu y wm w a d) * rs xv a) := by
    rw [Finset.sum_neg_distrib, Finset.sum_mul]
  have h4 : ∑ d, dh xu y wm w a d * vh xv a d = (∑ d, cen xv a d * dh xu y wm w a d) * rs xv a := by
    rw [Finset.sum_mul]
    exact Finset.sum_congr rfl fun d _ => by unfold vh; ring
  unfold q3 dv m1 m2
  rw [h2, h3, h4]
  unfold q2 q1 vh
  rw [div_eq_mul_inv (rs xv a), ← rs_sq]
  ring

end Cert.Gmlp

namespace Cert.ReferenceIdeal.Gmlp

open Idealize.ShloMosaic Idealize.ShloMosaic.TcCoe Idealize.SL.Sem
open Gen Read Cert.Gmlp

variable (Z : Fin 8192 → Fin 2048 → ℝ) (Y : Fin 8192 → Fin 1024 → ℝ) (lw lb : Fin 8 → Fin 128 → ℝ)
  (W : Fin 8 → Fin 128 → Fin 128 → ℝ) (B : Fin 8 → Fin 128 → ℝ)

/-! ## The offset's and the scale's gradients -/

theorem v88_at (g : Fin 8) (d : Fin 128) :
    val_main_v88 (F := Ideal) (rZ Z) (rY Y) (rM W) (ix3 0 g d) = ((DLB Z Y W g d : ℝ) : EReal) := by
  unfold val_main_v88
  simp only [v86_up]
  refine (Host.reduceAdd_apply ..).trans ((red12 ..).trans ?_)
  pointwise [val_main_cst_17, r5]
  rw [sum_up, Fintype.sum_prod_type]
  rfl

theorem v90_up : val_main_v90 (F := Ideal) (rZ Z) (rY Y) (rM W) = rT (DLB Z Y W) := by
  funext i
  idx_vars i
  unfold val_main_v90
  refine (Host.reduceAdd_apply ..).trans ((red012 ..).trans ?_)
  rw [val_main_v89_apply, show idx_main_v89 (ix5 0 0 0 i0 i1) = ix3 0 i0 i1 from funext fun x => match x with
    | ⟨0, _⟩ => rfl
    | ⟨1, _⟩ => Fin.ext (by show ((((0 * 1 + 0) * 1 + 0) * 8 + i0.val) * 128 + i1.val) / 128 % 8 = i0.val; omega)
    | ⟨2, _⟩ => Fin.ext (by show ((((0 * 1 + 0) * 1 + 0) * 8 + i0.val) * 128 + i1.val) % 128 = i1.val; omega), v88_at]
  pointwise [val_main_cst_18, rT]

theorem v91_up : val_main_v91 (F := Ideal) (rZ Z) (rY Y) (rM W)
    = r5 fun n g a d => dn (tu Z n g) (ty Y n g) (wx W g) a d * vh (tv Z n g) a d := by
  funext i
  unfold val_main_v91
  simp only [v50_up, v86_up]
  pointwise [r5]
  rw [← EReal.coe_mul, mul_comm]

theorem v92_at (g : Fin 8) (d : Fin 128) :
    val_main_v92 (F := Ideal) (rZ Z) (rY Y) (rM W) (ix3 0 g d) = ((DLW Z Y W g d : ℝ) : EReal) := by
  unfold val_main_v92
  simp only [v91_up]
  refine (Host.reduceAdd_apply ..).trans ((red12 ..).trans ?_)
  pointwise [val_main_cst_19, r5]
  rw [sum_up, Fintype.sum_prod_type]
  rfl

theorem v96_up : val_main_v96 (F := Ideal) (rZ Z) (rY Y) (rM W) = rT (DLW Z Y W) := by
  funext i
  idx_vars i
  unfold val_main_v96
  refine (Host.reduceAdd_apply ..).trans ((red012 ..).trans ?_)
  rw [val_main_v93_apply, show idx_main_v93 (ix5 0 0 0 i0 i1) = ix3 0 i0 i1 from funext fun x => match x with
    | ⟨0, _⟩ => rfl
    | ⟨1, _⟩ => Fin.ext (by show ((((0 * 1 + 0) * 1 + 0) * 8 + i0.val) * 128 + i1.val) / 128 % 8 = i0.val; omega)
    | ⟨2, _⟩ => Fin.ext (by show ((((0 * 1 + 0) * 1 + 0) * 8 + i0.val) * 128 + i1.val) % 128 = i1.val; omega), v92_at]
  pointwise [val_main_cst_20, rT]

/-! ## The biases' gradient -/

theorem v79_at (a : Fin 128) (g : Fin 8) :
    val_main_v79 (F := Ideal) (rZ Z) (rY Y) (ix3 0 a g) = ((DB Z Y g a : ℝ) : EReal) := by
  unfold val_main_v79
  simp only [v78_up]
  refine (Host.reduceAdd_apply ..).trans ((red14 ..).trans ?_)
  pointwise [val_main_cst_15, r5]
  rw [sum_up, Fintype.sum_prod_type]
  rfl

theorem v81_at (a : Fin 128) (g : Fin 8) :
    val_main_v81 (F := Ideal) (rZ Z) (rY Y) (ix2 a g) = ((DB Z Y g a : ℝ) : EReal) := by
  unfold val_main_v81
  refine (Host.reduceAdd_apply ..).trans ((red014 ..).trans ?_)
  rw [val_main_v80_apply, show idx_main_v80 (ix5 0 0 a g 0) = ix3 0 a g from funext fun x => match x with
    | ⟨0, _⟩ => rfl
    | ⟨1, _⟩ => Fin.ext (by show ((((0 * 1 + 0) * 128 + a.val) * 8 + g.val) * 1 + 0) / 8 % 128 = a.val; omega)
    | ⟨2, _⟩ => Fin.ext (by show ((((0 * 1 + 0) * 128 + a.val) * 8 + g.val) * 1 + 0) % 8 = g.val; omega), v79_at]
  pointwise [val_main_cst_16]

theorem v139_up : val_main_v139 (F := Ideal) (rZ Z) (rY Y) = rK (DB Z Y) := by
  funext i
  idx_vars i
  obtain rfl : i2 = 0 := Subsingleton.elim _ _
  rw [val_main_v139_apply, show idx_main_v139 (ix3 i0 i1 0) = ix2 i0 i1 from funext fun x => match x with
    | ⟨0, _⟩ => Fin.ext (by show ((i0.val * 128 + i1.val) * 1 + 0) / 128 = i0.val; omega)
    | ⟨1, _⟩ => Fin.ext (by show ((i0.val * 128 + i1.val) * 1 + 0) % 128 = i1.val; omega)]
  unfold val_main_v82
  pointwise []
  exact v81_at Z Y i1 i0

/-! ## Back through the normalisation -/

theorem v95_up : val_main_v95 (F := Ideal) (rZ Z) (rY Y) (rT lw) (rM W)
    = r5 fun n g => dh (tu Z n g) (ty Y n g) (wx W g) (lw g) := by
  funext i
  unfold val_main_v95
  simp only [v86_up]
  pointwise [val_main_v94, val_main_v51, r5, rT]
  rw [← EReal.coe_mul]
  rfl

theorem v99_up : val_main_v99 (F := Ideal) (rZ Z) (rY Y) (rT lw) (rM W)
    = r4 fun n g a => ∑ d, cen (tv Z n g) a d * dh (tu Z n g) (ty Y n g) (wx W g) (lw g) a d := by
  funext i
  unfold val_main_v99 val_main_v98 val_main_v97
  simp only [v95_up, v42_up]
  pointwise [val_main_cst_21, r5, r4]
  simp only [← EReal.coe_mul]
  rw [sum_up]

theorem v101_up : val_main_v101 (F := Ideal) (rZ Z) (rY Y) (rT lw) (rM W)
    = r5 fun n g a d => dh (tu Z n g) (ty Y n g) (wx W g) (lw g) a d * rs (tv Z n g) a := by
  funext i
  unfold val_main_v101 val_main_v100
  simp only [v95_up, v45_up]
  pointwise [r5, r4]
  rw [← EReal.coe_mul]

theorem v105_up : val_main_v105 (F := Ideal) (rZ Z) (rY Y) (rT lw) (rM W)
    = r4 fun n g a => ∑ d, -(dh (tu Z n g) (ty Y n g) (wx W g) (lw g) a d * rs (tv Z n g) a) := by
  funext i
  unfold val_main_v105 val_main_v104 val_main_v103
  simp only [v101_up]
  pointwise [val_main_cst_22, r5, r4]
  simp only [← EReal.coe_neg]
  rw [sum_up]

theorem v107_up : val_main_v107 (F := Ideal) (rZ Z) (rY Y) (rT lw) (rM W)
    = r4 fun n g => q1 (tu Z n g) (tv Z n g) (ty Y n g) (wx W g) (lw g) := by
  funext i
  unfold val_main_v107 val_main_v102
  simp only [v99_up, v48_up]
  pointwise [val_main_v106, val_main_cst_23, r4]
  rw [word_128, ← EReal.coe_mul, div_128]
  rfl

theorem v108_at (n : Fin 64) (a : Fin 128) (g : Fin 8) : val_main_v108 (F := Ideal) (rZ Z) (rY Y) (rT lw) (rM W) (ix3 n a g)
    = ((q1 (tu Z n g) (tv Z n g) (ty Y n g) (wx W g) (lw g) a : ℝ) : EReal) := by
  unfold val_main_v108
  simp only [v107_up]
  refine (Host.reduceAdd_apply ..).trans ((red04 ..).trans ?_)
  pointwise [val_main_cst_24, r4]

theorem v111_up : val_main_v111 (F := Ideal) (rZ Z) (rY Y) (rT lw) (rM W)
    = r5 fun n g => q2 (tu Z n g) (tv Z n g) (ty Y n g) (wx W g) (lw g) := by
  funext i
  idx_vars i
  unfold val_main_v111 val_main_v110 val_main_v109 val_main_v36
  simp only [v33_up]
  pointwise [val_main_v35, val_main_cst_9, r5]
  rw [v108_at, word_two, ← EReal.coe_mul, ← EReal.coe_mul]
  rfl

theorem v114_up : val_main_v114 (F := Ideal) (rZ Z) (rY Y) (rT lw) (rM W)
    = r4 fun n g a => ∑ d, -(q2 (tu Z n g) (tv Z n g) (ty Y n g) (wx W g) (lw g) a d) := by
  funext i
  unfold val_main_v114 val_main_v113 val_main_v112
  simp only [v111_up]
  pointwise [val_main_cst_25, r5, r4]
  simp only [← EReal.coe_neg]
  rw [sum_up]

theorem v118_up : val_main_v118 (F := Ideal) (rZ Z) (rY Y) (rT lw) (rM W)
    = r4 fun n g => q3 (tu Z n g) (tv Z n g) (ty Y n g) (wx W g) (lw g) := by
  funext i
  unfold val_main_v118 val_main_v116
  simp only [v105_up, v114_up]
  pointwise [val_main_v117, val_main_cst_26, r4]
  rw [word_128, ← EReal.coe_add, div_128]
  rfl

theorem v119_at (n : Fin 64) (a : Fin 128) (g : Fin 8) : val_main_v119 (F := Ideal) (rZ Z) (rY Y) (rT lw) (rM W) (ix3 n a g)
    = ((q3 (tu Z n g) (tv Z n g) (ty Y n g) (wx W g) (lw g) a : ℝ) : EReal) := by
  unfold val_main_v119
  simp only [v118_up]
  refine (Host.reduceAdd_apply ..).trans ((red04 ..).trans ?_)
  pointwise [val_main_cst_27, r4]

theorem v122_up : val_main_v122 (F := Ideal) (rZ Z) (rY Y) (rT lw) (rM W)
    = r5 fun n g => dv (tu Z n g) (tv Z n g) (ty Y n g) (wx W g) (lw g) := by
  funext i
  idx_vars i
  unfold val_main_v122 val_main_v121 val_main_v120 val_main_v115
  simp only [v101_up, v111_up]
  pointwise [r5]
  rw [v119_at, ← EReal.coe_add, ← EReal.coe_add, chain]

/-! ## Back through the activation -/

theorem v123_at (n : Fin 64) (a : Fin 128) (g : Fin 8) (d : Fin 128) :
    val_main_v123 (F := Ideal) (rZ Z) (rY Y) (rT lw) (rM W) (ix3 0 (tok n a) (chY g d))
      = ((dv (tu Z n g) (tv Z n g) (ty Y n g) (wx W g) (lw g) a d : ℝ) : EReal) := by
  rw [val_main_v123_apply, show idx_main_v123 (ix3 0 (tok n a) (chY g d)) = _ from idx72 n a g d, v122_up]
  rfl

theorem v124_u (n : Fin 64) (a : Fin 128) (g : Fin 8) (d : Fin 128) :
    val_main_v124 (F := Ideal) (rZ Z) (rY Y) (rT lw) (rT lb) (rM W) (rK B) (ix3 0 (tok n a) (chU g d))
      = ((ty Y n g a d * sv (tv Z n g) (wx W g) (lw g) (lb g) (B g) a d : ℝ) : EReal) := by
  unfold val_main_v124
  refine (concatenate_pair_apply_left (t := S1x8192x2048) (s₁ := S1x8192x1024) (s₂ := S1x8192x1024) 2 _ _
    concatenates_S1x8192x1024_S1x8192x1024_S1x8192x2048_d2 (ix3 0 (tok n a) (chU g d)) rfl (ix3 0 (tok n a) (chY g d)) ?_).trans (v77_at ..)
  intro b
  match b with
  | ⟨0, _⟩ => rfl
  | ⟨1, _⟩ => rfl
  | ⟨2, _⟩ => rfl

theorem v124_v (n : Fin 64) (a : Fin 128) (g : Fin 8) (d : Fin 128) :
    val_main_v124 (F := Ideal) (rZ Z) (rY Y) (rT lw) (rT lb) (rM W) (rK B) (ix3 0 (tok n a) (chV g d))
      = ((dv (tu Z n g) (tv Z n g) (ty Y n g) (wx W g) (lw g) a d : ℝ) : EReal) := by
  unfold val_main_v124
  refine (concatenate_pair_apply_right (t := S1x8192x2048) (s₁ := S1x8192x1024) (s₂ := S1x8192x1024) 2 _ _
    concatenates_S1x8192x1024_S1x8192x1024_S1x8192x2048_d2 (ix3 0 (tok n a) (chV g d)) rfl rfl (ix3 0 (tok n a) (chY g d)) ?_ ?_).trans
    (v123_at ..)
  · intro b hb
    match b with
    | ⟨0, _⟩ => rfl
    | ⟨1, _⟩ => rfl
    | ⟨2, _⟩ => exact absurd rfl hb
  · show 128 * g.val + d.val + 1024 = 1024 + 128 * g.val + d.val
    omega

theorem v136_at (i : Fin 8192) (j : Fin 2048) (γ : ℝ)
    (h : val_main_v124 (F := Ideal) (rZ Z) (rY Y) (rT lw) (rT lb) (rM W) (rK B) (ix3 0 i j) = (γ : EReal)) :
    val_main_v136 (F := Ideal) (rZ Z) (rY Y) (rT lw) (rT lb) (rM W) (rK B) (ix3 0 i j) = ((γ * sl (Z i j) : ℝ) : EReal) := by
  unfold val_main_v136 val_main_v135 val_main_v134 val_main_v132 val_main_v131 val_main_v129 val_main_v128 val_main_v126
    val_main_v125 val_main_v8 val_main_v6 val_main_v19 val_main_v18 val_main_v16
  simp only [v2_up, v14_up, v23_up]
  pointwise [val_main_v133, val_main_v130, val_main_v127, val_main_v7, val_main_v15, val_main_v17, val_main_cst_1, val_main_cst_3,
    val_main_cst_4, val_main_cst_28, val_main_cst_29, rX]
  simp only [h, v3_at, word_half, word_three, word_gelu, ← EReal.coe_one, ← EReal.coe_mul, ← EReal.coe_add, ← EReal.coe_sub]
  refine congrArg (fun x : ℝ => (x : EReal)) ?_
  unfold sl hf
  ring

theorem v138_up : val_main_v138 (F := Ideal) (rZ Z) (rY Y) (rT lw) (rT lb) (rM W) (rK B) = rZ (DZ Z Y lw lb W B) := by
  funext i
  idx_vars i
  refine Eq.trans (b := val_main_v136 (F := Ideal) (rZ Z) (rY Y) (rT lw) (rT lb) (rM W) (rK B) (ix3 0 i0 i1)) ?_ ?_
  · rw [val_main_v138_apply, val_main_v137_apply, show idx_main_v137 (ix2 i0 i1) = ix3 0 i0 i1 from funext fun x => match x with
      | ⟨0, _⟩ => rfl
      | ⟨1, _⟩ => Fin.ext (by show (i0.val * 2048 + i1.val) / 2048 % 8192 = i0.val; omega)
      | ⟨2, _⟩ => Fin.ext (by show (i0.val * 2048 + i1.val) % 2048 = i1.val; omega)]
    rfl
  · show _ = ((DZ Z Y lw lb W B i0 i1 : ℝ) : EReal)
    obtain ⟨n, a, rfl⟩ := tok_cases i0
    obtain ⟨g, d, rfl⟩ | ⟨g, d, rfl⟩ := ch_cases i1
    · rw [v136_at Z Y lw lb W B _ _ _ (v124_u Z Y lw lb W B n a g d), DZ_u]
      rfl
    · rw [v136_at Z Y lw lb W B _ _ _ (v124_v Z Y lw lb W B n a g d), DZ_v]
      rfl

end Cert.ReferenceIdeal.Gmlp

end
-- ==== Proof.Gmlp.Meet.lean ====
module

public import proofs.«01_k».proof.Defs
public import proofs.«01_k».proof.Proof.Gen.ReferenceIdeal.Run
public import proofs.«01_k».proof.Proof.Gmlp.Final
public import proofs.«01_k».proof.Proof.Gmlp.RefB
public import Idealize.ShloMosaic.Lib.Quiescent

/-! The kernel and the reference, from the same finite arguments, end with the same five arrays. -/

@[expose] public section

set_option maxRecDepth 16384

noncomputable section

namespace Cert.Meet

open Idealize.ShloMosaic Idealize.ShloMosaic.TcCoe Idealize.SL.Sem
open Cert.Gmlp

/-- The side conditions of the precondition. -/
theorem preFacts : Cert.Pre_finite.Facts where
  bitsLt_bf16_f32 := by decide
  bcast_S_S8192x2048 := by decide
  bcast_S_S8192x1024 := by decide
  bcast_S_S8x128 := by decide
  bcast_S_S8x128x128 := by decide
  bcast_S_S8x128x1 := by decide

/-! ## A finite array is an array of reals -/

theorem real_of_lt {x : EReal} (h : max x (-x) < ⊤) : ((x.toReal : ℝ) : EReal) = x := by
  refine EReal.coe_toReal (fun e => ?_) fun e => ?_
  · rw [e] at h; simp at h
  · rw [e] at h; simp at h

theorem real_of_test {s : Shape} (hb : (⟨0, ![]⟩ : Shape).BroadcastsInDim s (![] : Fin 0 → Fin s.rank)) (a : FVec Ideal s .f32)
    (h : cmpf .olt (Host.absf a) (broadcastInDim s ![] hb (constant ⟨0, ![]⟩ .f32 0x7F800000#32)) = fun _ => 1#1) (j : s.Idx) :
    (((a j : EReal).toReal : ℝ) : EReal) = a j := by
  have e : BitVec.ofBool (decide (max (a j : EReal) (-(a j : EReal)) < Ideal.ofBits .f32 0x7F800000#32)) = 1#1 := congrFun h j
  rw [word_inf] at e
  refine real_of_lt ?_
  by_contra hn
  rw [decide_eq_false hn] at e
  exact absurd e (by decide)

section

variable (m : (ℓ : Loc Cert.KernelIdeal.nD Cert.KernelIdeal.τ Cert.KernelIdeal.sig) → Buf (Elt Ideal) ℓ) (c : Dev Cert.KernelIdeal.nD)

open Cert.KernelIdeal Cert.KernelIdeal.Gmlp

abbrev aZ : Fin 8192 → Fin 2048 → ℝ := fun i j => EReal.toReal (m ((c : Thread nD τ).loc main_arg0) (ix2 i j))
abbrev aY : Fin 8192 → Fin 1024 → ℝ := fun i j => EReal.toReal (m ((c : Thread nD τ).loc main_arg1) (ix2 i j))
abbrev aw : Fin 8 → Fin 128 → ℝ := fun i j => EReal.toReal (m ((c : Thread nD τ).loc main_arg2) (ix2 i j))
abbrev ab : Fin 8 → Fin 128 → ℝ := fun i j => EReal.toReal (m ((c : Thread nD τ).loc main_arg3) (ix2 i j))
abbrev aW : Fin 8 → Fin 128 → Fin 128 → ℝ := fun i j k => EReal.toReal (m ((c : Thread nD τ).loc main_arg4) (ix3 i j k))
abbrev aB : Fin 8 → Fin 128 → ℝ := fun i j => EReal.toReal (m ((c : Thread nD τ).loc main_arg5) (ix3 i j 0))

theorem real6 (h : Cert.Pre_KernelIdeal_finite (hPre_finite := preFacts) m) :
    Real6 m c (aZ m c) (aY m c) (aw m c) (ab m c) (aW m c) (aB m c) := by
  obtain ⟨h0, h1, h2, h3, h4, h5⟩ := h c
  refine ⟨?_, ?_, ?_, ?_, ?_, ?_⟩
  · funext j; idx_vars j; exact (real_of_test preFacts.bcast_S_S8192x2048 _ h0 _).symm
  · funext j; idx_vars j; exact (real_of_test preFacts.bcast_S_S8192x1024 _ h1 _).symm
  · funext j; idx_vars j; exact (real_of_test preFacts.bcast_S_S8x128 _ h2 _).symm
  · funext j; idx_vars j; exact (real_of_test preFacts.bcast_S_S8x128 _ h3 _).symm
  · funext j; idx_vars j; exact (real_of_test preFacts.bcast_S_S8x128x128 _ h4 _).symm
  · funext j; idx_vars j
    obtain rfl : j2 = 0 := Subsingleton.elim _ _
    exact (real_of_test preFacts.bcast_S_S8x128x1 _ h5 _).symm

end

/-! ## The claims -/

theorem quiet_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2.2.2.2.2, sem_eq_zero_of_no_sems (by decide) r.2⟩) (Cert.ReferenceIdeal.Value.run m g)

open Cert.ReferenceIdeal.Read Cert.ReferenceIdeal.Gmlp in
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  refine ⟨fun c => Cert.KernelIdeal.Gmlp.upZ (DZ (aZ m c) (aY m c) (aw m c) (ab m c) (aW m c) (aB m c)),
    fun c => Cert.KernelIdeal.Gmlp.upT (DLW (aZ m c) (aY m c) (aW m c)), fun c => Cert.KernelIdeal.Gmlp.upT (DLB (aZ m c) (aY m c) (aW m c)),
    fun c => Cert.KernelIdeal.Gmlp.upW (DW (aZ m c) (aY m c) (aw m c) (ab m c)), fun c => Cert.KernelIdeal.Gmlp.upK (DB (aZ m c) (aY m c)), ?_, ?_⟩
  · refine (θ_run _ _ _).mono (fun r h c => ?_) (θ_run_and (Cert.KernelIdeal.Gmlp.run_main m g) (Cert.KernelIdeal.Gmlp.quiet m g))
    have H := real6 m c hpre
    exact ⟨((h.1 c).1 6).trans (Cert.KernelIdeal.Gmlp.final6 H), ((h.1 c).1 7).trans (Cert.KernelIdeal.Gmlp.final7 H),
      ((h.1 c).1 8).trans (Cert.KernelIdeal.Gmlp.final8 H), ((h.1 c).1 9).trans (Cert.KernelIdeal.Gmlp.final9 H),
      ((h.1 c).1 10).trans (Cert.KernelIdeal.Gmlp.final10 H), h.2.1 c⟩
  · refine (θ_run _ _ _).mono (fun r h c => ?_) (Cert.ReferenceIdeal.Value.run m' g')
    have H := real6 m c hpre
    obtain ⟨e0, e1, e2, e3, e4, e5⟩ := hagree c
    have a0 : m' ((c.tc : Thread Cert.ReferenceIdeal.nD Cert.ReferenceIdeal.τ).loc Cert.ReferenceIdeal.main_arg0) = rZ (aZ m c) := e0.trans H.h0
    have a1 : m' ((c.tc : Thread Cert.ReferenceIdeal.nD Cert.ReferenceIdeal.τ).loc Cert.ReferenceIdeal.main_arg1) = rY (aY m c) := e1.trans H.h1
    have a2 : m' ((c.tc : Thread Cert.ReferenceIdeal.nD Cert.ReferenceIdeal.τ).loc Cert.ReferenceIdeal.main_arg2) = rT (aw m c) := e2.trans H.h2
    have a3 : m' ((c.tc : Thread Cert.ReferenceIdeal.nD Cert.ReferenceIdeal.τ).loc Cert.ReferenceIdeal.main_arg3) = rT (ab m c) := e3.trans H.h3
    have a4 : m' ((c.tc : Thread Cert.ReferenceIdeal.nD Cert.ReferenceIdeal.τ).loc Cert.ReferenceIdeal.main_arg4) = rM (aW m c) := e4.trans H.h4
    have a5 : m' ((c.tc : Thread Cert.ReferenceIdeal.nD Cert.ReferenceIdeal.τ).loc Cert.ReferenceIdeal.main_arg5) = rK (aB m c) := e5.trans H.h5
    obtain ⟨r0, r1, r2, r3, r4, rest⟩ := h c
    refine ⟨r0.trans ((val_main_v138_eq _).trans ?_), r1.trans ((val_main_v96_eq _).trans ?_), r2.trans ((val_main_v90_eq _).trans ?_),
      r3.trans ((val_main_v87_eq _).trans ?_), r4.trans ((val_main_v139_eq _).trans ?_), rest⟩
    · simp only [StableHlo.launchContents_devRef, a0, a1, a2, a3, a4, a5]
      exact v138_up ..
    · simp only [StableHlo.launchContents_devRef, a0, a1, a2, a3, a4, a5]
      exact v96_up ..
    · simp only [StableHlo.launchContents_devRef, a0, a1, a2, a3, a4, a5]
      exact v90_up ..
    · simp only [StableHlo.launchContents_devRef, a0, a1, a2, a3, a4, a5]
      exact v87_up ..
    · simp only [StableHlo.launchContents_devRef, a0, a1, a2, a3, a4, a5]
      exact v139_up ..

end Cert.Meet

end
-- ==== Proof.Prod.Sums.lean ====
module

public import Idealize.ShloMosaic.Lib.Pipeline.ValueKit

/-! Sums over all tokens by blocks of them. -/

@[expose] public section

noncomputable section

namespace Cert.Prod

open Idealize.ShloMosaic

/-- Row `a` of block `q` among blocks of `n` rows. -/
def row {N : ℕ} (n q : ℕ) (a : Fin n) (h : n * q + n ≤ N) : Fin N := ⟨n * q + a.val, by omega⟩

/-- A sum by `p` blocks of `n` is the whole sum. -/
theorem sum_blocks {N : ℕ} (p n : ℕ) (hN : N = p * n) (f : Fin N → EReal) :
    ∑ q : Fin p, ∑ k : Fin n, f (row n q.val k (by subst hN; have := Nat.mul_le_mul_right n q.isLt; rw [Nat.succ_mul] at this; rw [Nat.mul_comm n]; exact this)) = ∑ k : Fin N, f k := by
  subst hN
  rw [← Equiv.sum_comp finProdFinEquiv, Fintype.sum_prod_type]
  refine Finset.sum_congr rfl fun q _ => Finset.sum_congr rfl fun k _ => congrArg f (Fin.ext ?_)
  show n * q.val + k.val = k.val + n * q.val
  omega

/-- Four blocks of 2048 in the order they are added. -/
theorem sum_four (f : Fin 8192 → EReal) :
    (∑ k : Fin 2048, f (row 2048 0 k (by decide)) + ∑ k : Fin 2048, f (row 2048 1 k (by decide)))
      + ∑ k : Fin 2048, f (row 2048 2 k (by decide)) + ∑ k : Fin 2048, f (row 2048 3 k (by decide)) = ∑ k : Fin 8192, f k := by
  rw [← sum_blocks 4 2048 rfl f, Fin.sum_univ_four]
  rfl

/-! ## Products of two arrays -/

/-- Rows by columns, -/
def mulNN {M N K : ℕ} (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))
/-- rows by rows -/
def mulNT {M N K : ℕ} (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)
/-- and columns by columns. -/
def mulTN {M N K : ℕ} (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

/-- A block of a product is the product of the blocks. -/
theorem mulNN_block {M N K m n : ℕ} {A : (⟨2, ![M, K]⟩ : Shape).Idx → EReal} {B : (⟨2, ![K, N]⟩ : Shape).Idx → EReal}
    {a : (⟨2, ![m, K]⟩ : Shape).Idx → EReal} {b : (⟨2, ![K, n]⟩ : Shape).Idx → EReal} {y : (⟨2, ![m, n]⟩ : Shape).Idx}
    {i : (⟨2, ![M, N]⟩ : Shape).Idx} (ha : ∀ k, a (ix2 (y 0) k) = A (ix2 (i 0) k)) (hb : ∀ k, b (ix2 k (y 1)) = B (ix2 k (i 1))) :
    mulNN a b y = mulNN A B i :=
  Finset.sum_congr rfl fun k _ => congrArg₂ (· * ·) (ha k) (hb k)
theorem mulNT_block {M N K m n : ℕ} {A : (⟨2, ![M, K]⟩ : Shape).Idx → EReal} {B : (⟨2, ![N, K]⟩ : Shape).Idx → EReal}
    {a : (⟨2, ![m, K]⟩ : Shape).Idx → EReal} {b : (⟨2, ![n, K]⟩ : Shape).Idx → EReal} {y : (⟨2, ![m, n]⟩ : Shape).Idx}
    {i : (⟨2, ![M, N]⟩ : Shape).Idx} (ha : ∀ k, a (ix2 (y 0) k) = A (ix2 (i 0) k)) (hb : ∀ k, b (ix2 (y 1) k) = B (ix2 (i 1) k)) :
    mulNT a b y = mulNT A B i :=
  Finset.sum_congr rfl fun k _ => congrArg₂ (· * ·) (ha k) (hb k)

/-- A sum of products read at indices that are the product's, is the product. -/
theorem mulNN_of {M N K : ℕ} {a : (⟨2, ![M, K]⟩ : Shape).Idx → EReal} {b : (⟨2, ![K, N]⟩ : Shape).Idx → EReal} {i : (⟨2, ![M, N]⟩ : Shape).Idx}
    {l : Fin K → (⟨2, ![M, K]⟩ : Shape).Idx} {r : Fin K → (⟨2, ![K, N]⟩ : Shape).Idx} (hl : ∀ k, l k = ix2 (i 0) k) (hr : ∀ k, r k = ix2 k (i 1)) :
    ∑ k, a (l k) * b (r k) = mulNN a b i :=
  Finset.sum_congr rfl fun k _ => congrArg₂ (· * ·) (congrArg a (hl k)) (congrArg b (hr k))
theorem mulNT_of {M N K : ℕ} {a : (⟨2, ![M, K]⟩ : Shape).Idx → EReal} {b : (⟨2, ![N, K]⟩ : Shape).Idx → EReal} {i : (⟨2, ![M, N]⟩ : Shape).Idx}
    {l : Fin K → (⟨2, ![M, K]⟩ : Shape).Idx} {r : Fin K → (⟨2, ![N, K]⟩ : Shape).Idx} (hl : ∀ k, l k = ix2 (i 0) k) (hr : ∀ k, r k = ix2 (i 1) k) :
    ∑ k, a (l k) * b (r k) = mulNT a b i :=
  Finset.sum_congr rfl fun k _ => congrArg₂ (· * ·) (congrArg a (hl k)) (congrArg b (hr k))
/-- The same with the factors the other way round, for a product along the rows of both. -/
theorem mulTN_of {M N K : ℕ} {a : (⟨2, ![K, M]⟩ : Shape).Idx → EReal} {b : (⟨2, ![K, N]⟩ : Shape).Idx → EReal} {i : (⟨2, ![M, N]⟩ : Shape).Idx}
    {l : Fin K → (⟨2, ![K, M]⟩ : Shape).Idx} {r : Fin K → (⟨2, ![K, N]⟩ : Shape).Idx} (hl : ∀ k, l k = ix2 k (i 0)) (hr : ∀ k, r k = ix2 k (i 1)) :
    ∑ k, b (r k) * a (l k) = mulTN a b i :=
  Finset.sum_congr rfl fun k _ => (mul_comm _ _).trans (congrArg₂ (· * ·) (congrArg a (hl k)) (congrArg b (hr k)))
/-- A sum of two arrays. -/
def plus {S : Shape} (a r : S.Idx → EReal) : S.Idx → EReal := fun i => a i + r i
theorem plus_block {S s : Shape} {A R : S.Idx → EReal} {a r : s.Idx → EReal} {y : s.Idx} {i : S.Idx} (ha : a y = A i) (hr : r y = R i) :
    plus a r y = plus A R i := congrArg₂ (· + ·) ha hr

theorem plus_comm {S : Shape} (a b : S.Idx → EReal) : plus a b = plus b a := funext fun i => add_comm (a i) (b i)
theorem plus_assoc {S : Shape} (a b d : S.Idx → EReal) : plus (plus a b) d = plus a (plus b d) := funext fun i => add_assoc (a i) (b i) (d i)

/-- Four arrays in the order they are added. -/
def four {S : Shape} (p : Fin 4 → S.Idx → EReal) : S.Idx → EReal := plus (plus (plus (p 0) (p 1)) (p 2)) (p 3)

/-- A sum over four blocks of 2048 tokens, each a product of blocks, is the product of the whole. -/
theorem mulTN_four {M N m n : ℕ} {A : (⟨2, ![8192, M]⟩ : Shape).Idx → EReal} {B : (⟨2, ![8192, N]⟩ : Shape).Idx → EReal}
    {a : Fin 4 → (⟨2, ![2048, m]⟩ : Shape).Idx → EReal} {b : Fin 4 → (⟨2, ![2048, n]⟩ : Shape).Idx → EReal}
    {y : (⟨2, ![m, n]⟩ : Shape).Idx} {i : (⟨2, ![M, N]⟩ : Shape).Idx}
    (ha : ∀ q k, a q (ix2 k (y 0)) = A (ix2 (row 2048 q.val k (by omega)) (i 0)))
    (hb : ∀ q k, b q (ix2 k (y 1)) = B (ix2 (row 2048 q.val k (by omega)) (i 1))) :
    four (fun q => mulTN (a q) (b q)) y = mulTN A B i := by
  refine Eq.trans ?_ (sum_four fun k => A (ix2 k (i 0)) * B (ix2 k (i 1)))
  exact congrArg₂ (· + ·) (congrArg₂ (· + ·) (congrArg₂ (· + ·)
    (Finset.sum_congr rfl fun k _ => congrArg₂ (· * ·) (ha 0 k) (hb 0 k)) (Finset.sum_congr rfl fun k _ => congrArg₂ (· * ·) (ha 1 k) (hb 1 k)))
    (Finset.sum_congr rfl fun k _ => congrArg₂ (· * ·) (ha 2 k) (hb 2 k))) (Finset.sum_congr rfl fun k _ => congrArg₂ (· * ·) (ha 3 k) (hb 3 k))

/-- Two blocks of 1408 in the order they are added. -/
theorem sum_two (f : Fin 2816 → EReal) :
    ∑ k : Fin 1408, f (row 1408 0 k (by decide)) + ∑ k : Fin 1408, f (row 1408 1 k (by decide)) = ∑ k : Fin 2816, f k := by
  rw [← sum_blocks 2 1408 rfl f, Fin.sum_univ_two]
  rfl

/-- A product along 2816, by two blocks of 1408, -/
theorem mulNN_two {M N m n : ℕ} {A : (⟨2, ![M, 2816]⟩ : Shape).Idx → EReal} {B : (⟨2, ![2816, N]⟩ : Shape).Idx → EReal}
    {a a' : (⟨2, ![m, 1408]⟩ : Shape).Idx → EReal} {b b' : (⟨2, ![1408, n]⟩ : Shape).Idx → EReal} {y : (⟨2, ![m, n]⟩ : Shape).Idx}
    {i : (⟨2, ![M, N]⟩ : Shape).Idx} (ha : ∀ k, a (ix2 (y 0) k) = A (ix2 (i 0) (row 1408 0 k (by decide)))) (hb : ∀ k, b (ix2 k (y 1)) = B (ix2 (row 1408 0 k (by decide)) (i 1)))
    (ha' : ∀ k, a' (ix2 (y 0) k) = A (ix2 (i 0) (row 1408 1 k (by decide)))) (hb' : ∀ k, b' (ix2 k (y 1)) = B (ix2 (row 1408 1 k (by decide)) (i 1))) :
    plus (mulNN a b) (mulNN a' b') y = mulNN A B i := by
  refine Eq.trans ?_ (sum_two fun k => A (ix2 (i 0) k) * B (ix2 k (i 1)))
  exact congrArg₂ (· + ·) (Finset.sum_congr rfl fun k _ => congrArg₂ (· * ·) (ha k) (hb k)) (Finset.sum_congr rfl fun k _ => congrArg₂ (· * ·) (ha' k) (hb' k))
/-- and of rows by rows. -/
theorem mulNT_two {M N m n : ℕ} {A : (⟨2, ![M, 2816]⟩ : Shape).Idx → EReal} {B : (⟨2, ![N, 2816]⟩ : Shape).Idx → EReal}
    {a a' : (⟨2, ![m, 1408]⟩ : Shape).Idx → EReal} {b b' : (⟨2, ![n, 1408]⟩ : Shape).Idx → EReal} {y : (⟨2, ![m, n]⟩ : Shape).Idx}
    {i : (⟨2, ![M, N]⟩ : Shape).Idx} (ha : ∀ k, a (ix2 (y 0) k) = A (ix2 (i 0) (row 1408 0 k (by decide)))) (hb : ∀ k, b (ix2 (y 1) k) = B (ix2 (i 1) (row 1408 0 k (by decide))))
    (ha' : ∀ k, a' (ix2 (y 0) k) = A (ix2 (i 0) (row 1408 1 k (by decide)))) (hb' : ∀ k, b' (ix2 (y 1) k) = B (ix2 (i 1) (row 1408 1 k (by decide)))) :
    plus (mulNT a b) (mulNT a' b') y = mulNT A B i := by
  refine Eq.trans ?_ (sum_two fun k => A (ix2 (i 0) k) * B (ix2 (i 1) k))
  exact congrArg₂ (· + ·) (Finset.sum_congr rfl fun k _ => congrArg₂ (· * ·) (ha k) (hb k)) (Finset.sum_congr rfl fun k _ => congrArg₂ (· * ·) (ha' k) (hb' k))

/-- Point `q` of the four that end with `t`. -/
def pt {N : ℕ} (t : Fin N) (h : t.val % 4 = 3) (q : Fin 4) : Fin N := ⟨t.val - 3 + q.val, by have := t.isLt; omega⟩

/-- A run by fours: the first point leaves its part, the next ones add theirs, and the last one hands over all four. -/
theorem four_of {S : Shape} {N : ℕ} (o : (n : ℕ) → n < N → (S.Idx → EReal) × (S.Idx → EReal)) (p : Fin N → S.Idx → EReal)
    (first : ∀ n hn, n % 4 = 0 → (o n hn).2 = p ⟨n, hn⟩)
    (next : ∀ n hn, ¬n % 4 = 0 → ¬n % 4 = 3 → (o n hn).2 = plus (o (n - 1) (by omega)).2 (p ⟨n, hn⟩))
    (last : ∀ n hn, n % 4 = 3 → (o n hn).1 = plus (o (n - 1) (by omega)).2 (p ⟨n, hn⟩))
    (t : Fin N) (h : t.val % 4 = 3) : (o t.val t.isLt).1 = four fun q => p (pt t h q) := by
  obtain ⟨n, hn⟩ := t
  have h' : n % 4 = 3 := h
  rw [last n hn h', next (n - 1) (by omega) (by omega) (by omega), next (n - 1 - 1) (by omega) (by omega) (by omega),
    first (n - 1 - 1 - 1) (by omega) (by omega)]
  exact congrArg₂ plus (congrArg₂ plus (congrArg₂ plus (congrArg p (Fin.ext (by show n - 1 - 1 - 1 = n - 3 + 0; omega)))
    (congrArg p (Fin.ext (by show n - 1 - 1 = n - 3 + 1; omega)))) (congrArg p (Fin.ext (by show n - 1 = n - 3 + 2; omega))))
    (congrArg p (Fin.ext (by show n = n - 3 + 3; omega)))

/-! ## Buffers stored and loaded whole -/

theorem hz : (![0, 0] : Fin 2 → Nat) = fun _ => 0 := funext fun a => by fin_cases a <;> rfl

/-- A buffer stored whole holds what was stored, -/
theorem stored {Val : EltTy → Type} [∀ e, Nonempty (Val e)] {sig : RefSig} {κ : Kind} {sp : Space} {S : Shape} {e : EltTy} (v : View sig κ sp S e)
    (f : v.ty.Contents Val) {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  exact (View.read_writes_eq_canon v f _ fun y => ⟨_, List.mem_singleton_self _, View.mem_set_unit_zero h inb y⟩).trans (View.canon_unit_zero h inb w)

/-- and a load of the whole reads what it holds. -/
theorem loaded {Val : EltTy → Type} {sig : RefSig} {κ : Kind} {sp : Space} {S : Shape} {e : EltTy} {a : Memref sig κ sp S e} (h : a.IsWhole)
    {off : Fin S.rank → Nat} (h0 : off = fun _ => 0) (inb : ∀ a, off a + S.size a ≤ S.size a) (x : S.Idx → Val e) :
    a.view.readAt Val (Rect.unit off S.size inb).toLoadRect (h.unread x) = x := by
  rw [View.readAt_eq_ld, h.read_unread]
  exact View.ld_unit_zero h0 inb x

/-- An index of two coordinates is given by them. -/
theorem ix2_ext {M N : ℕ} {j : (⟨2, ![M, N]⟩ : Shape).Idx} {a : Fin M} {b : Fin N} (h0 : (j 0).val = a.val) (h1 : (j 1).val = b.val) : j = ix2 a b :=
  funext fun d => match d with
    | ⟨0, _⟩ => Fin.ext h0
    | ⟨1, _⟩ => Fin.ext h1

end Cert.Prod

end
-- ==== Proof.Prod.DwDown.lean ====
module

public import proofs.«01_k».proof.Defs
public import proofs.«01_k».proof.Proof.Prod.Sums
public import proofs.«01_k».proof.Proof.Gen.Kernel2Ideal.Value
public import proofs.«01_k».proof.Proof.Gen.Reference2Ideal.Read
public import Idealize.ShloMosaic.Lib.Pipeline.ValueKit
public import Idealize.ShloMosaic.Lib.Quiescent

/-! The gradient of the second feed-forward matrix: four blocks of tokens added up. -/

@[expose] public section

set_option maxRecDepth 16384

noncomputable section

namespace Cert.Kernel2Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1408 .bf16) (x1 : Vec Ideal S2048x1024 .f32) : S1408x1024.Idx → EReal := mulTN (M := 1408) (N := 1024) (K := 2048) x0 x1

theorem pay (x0 : Vec Ideal S2048x1408 .bf16) (x1 : Vec Ideal S2048x1024 .f32) : k0_pay1 x0 x1 = P x0 x1 := by
  funext i; idx_vars i; pointwise [k0_pay1]; rfl

section
variable (c : Dev nD) (i : grid0.Coords) (arg3 : Memref sig .tc .vmem S2048x1408 .bf16) (harg3 : arg3.IsWhole)
  (arg4 : Memref sig .tc .vmem S2048x1024 .f32) (harg4 : arg4.IsWhole) (arg5 : Memref sig .tc .vmem S1408x1024 .bf16) (harg5 : arg5.IsWhole)
  (arg6 : Memref sig .tc .vmem S1408x1024 .f32) (harg6 : arg6.IsWhole)
  (x0 : Vec Ideal S2048x1408 .bf16) (x1 : Vec Ideal S2048x1024 .f32) (xs : Vec Ideal S1408x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- Point `t`'s product. -/
abbrev part (t : Fin cfg0.N) : S1408x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 2816) (N := 1024) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel2Ideal.Prod

/-! ## The claims -/

namespace Cert.Prod.DwDown

open Idealize.ShloMosaic Idealize.ShloMosaic.TcCoe Idealize.SL.Sem
open Cert.Reference2Ideal Cert.Reference2Ideal.Read

theorem quiet_ref : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨_, (θ_run _ _ _).mono (fun r h c => ⟨(h c).1.trans (Cert.Kernel2Ideal.Prod.arr m c), (h c).2⟩) (Cert.Kernel2Ideal.Value.run_blocks m g), ?_⟩
  refine (θ_run _ _ _).mono (fun r h c => ⟨(h c).1.trans ((val_main_v6_eq _ _).trans ?_), (h c).2⟩) (Cert.Reference2Ideal.Value.run m' g')
  rw [(hagree c).1, (hagree c).2.2]
  exact funext fun i => (val_main_v6_apply _ _ i).trans ((val_main_v4_apply _ _ i).trans ((val_main_v3_apply _ _ _).trans
    (mulTN_of (a := m ((c.tc : Thread Cert.Kernel2Ideal.nD Cert.Kernel2Ideal.τ).loc Cert.Kernel2Ideal.main_arg0))
      (b := m ((c.tc : Thread Cert.Kernel2Ideal.nD Cert.Kernel2Ideal.τ).loc Cert.Kernel2Ideal.main_arg2)) (fun _ => ix2_ext rfl rfl) fun _ => ix2_ext rfl rfl)))

end Cert.Prod.DwDown

end
-- ==== Proof.Prod.Grads.lean ====
module

public import proofs.«01_k».proof.Defs
public import proofs.«01_k».proof.Proof.Prod.Sums
public import proofs.«01_k».proof.Proof.Gen.Kernel3Ideal.Frame
public import proofs.«01_k».proof.Proof.Gen.Reference3Ideal.Read
public import Idealize.ShloMosaic.Lib.Pipeline.ValueKit
public import Idealize.ShloMosaic.Lib.Quiescent

/-! The gradients of four products with respect to their left factors: each block of rows in one step. -/

@[expose] public section

set_option maxRecDepth 16384

noncomputable section

namespace Cert.Kernel3Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen Cert.Prod

theorem hz : (![0, 0] : Fin 2 → Nat) = fun _ => 0 := funext fun a => by fin_cases a <;> rfl

/-! ## A step's product -/

theorem pay0 (x : Vec Ideal S1024x1024 .f32) (y : Vec Ideal S1408x1024 .bf16) : k0_pay1 x y = mulNT (M := 1024) (N := 1408) (K := 1024) x y := by
  funext i; idx_vars i; pointwise [k0_pay1]; rfl
theorem pay1 (x : Vec Ideal S1024x1024 .f32) (y : Vec Ideal S1024x1024 .bf16) : k1_pay1 x y = mulNT (M := 1024) (N := 1024) (K := 1024) x y := by
  funext i; idx_vars i; pointwise [k1_pay1]; rfl
theorem pay2 (x y : Vec Ideal S1024x1024 .bf16) : k2_pay1 x y = mulNT (M := 1024) (N := 1024) (K := 1024) x y := by
  funext i; idx_vars i; pointwise [k2_pay1]; rfl
theorem pay3 (x y : Vec Ideal S1024x1024 .bf16) : k3_pay1 x y = mulNT (M := 1024) (N := 1024) (K := 1024) x y := by
  funext i; idx_vars i; pointwise [k3_pay1]; rfl

/-! ## The arrays -/

section
variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![t.val % 2, 0] ∧ win0_2.index t = ![t.val / 2, t.val % 2] :=
  (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val, 0] ∧ win2_1.index t = ![0, 0] ∧ win2_2.index t = ![t.val, 0] :=
  (by decide +kernel : ∀ t : Fin grid2.N, _)
theorem idx3 : ∀ t : Fin cfg3.N, win3_0.index t = ![t.val / 2, 0] ∧ win3_1.index t = ![t.val % 2, 0] ∧ win3_2.index t = ![t.val / 2, t.val % 2] :=
  (by decide +kernel : ∀ t : Fin grid3.N, _)

theorem arr0 : (dat0 V c).arrAt 2 cfg0.N = mulNT (M := 8192) (N := 2816) (K := 1024) (V c main_arg2) (V c main_arg1) := by
  refine (dat0 V c).arrAt_eq_of_covers 2 _ (by decide +kernel) fun t _ y => ?_
  blk_simp
  rw [after0_2]
  unfold out0_2
  rw [View.canon_unit_zero hz, View.ld_unit_zero (S := S1024x1024) hz, View.ld_unit_zero (S := S1408x1024) hz, pay0]
  refine mulNT_block (fun k => ?_) (fun k => ?_) <;> blk_point [iblk0, idx0 t]
theorem arr1 : (dat1 V c).arrAt 2 cfg1.N = mulNT (M := 8192) (N := 1024) (K := 1024) (V c main_arg5) (V c main_arg4) := by
  refine (dat1 V c).arrAt_eq_of_covers 2 _ (by decide +kernel) fun t _ y => ?_
  blk_simp
  rw [after1_2]
  unfold out1_2
  rw [View.canon_unit_zero hz, View.ld_unit_zero (S := S1024x1024) hz, View.ld_unit_zero (S := S1024x1024) hz, pay1]
  refine mulNT_block (fun k => ?_) (fun k => ?_) <;> blk_point [iblk1, idx1 t]
theorem arr2 : (dat2 V c).arrAt 2 cfg2.N = mulNT (M := 8192) (N := 1024) (K := 1024) (V c main_arg8) (V c main_arg7) := by
  refine (dat2 V c).arrAt_eq_of_covers 2 _ (by decide +kernel) fun t _ y => ?_
  blk_simp
  rw [after2_2]
  unfold out2_2
  rw [View.canon_unit_zero hz, View.ld_unit_zero (S := S1024x1024) hz, View.ld_unit_zero (S := S1024x1024) hz, pay2]
  refine mulNT_block (fun k => ?_) (fun k => ?_) <;> blk_point [iblk2, idx2 t]
theorem arr3 : (dat3 V c).arrAt 2 cfg3.N = mulNT (M := 8192) (N := 2048) (K := 1024) (V c main_arg11) (V c main_arg10) := by
  refine (dat3 V c).arrAt_eq_of_covers 2 _ (by decide +kernel) fun t _ y => ?_
  blk_simp
  rw [after3_2]
  unfold out3_2
  rw [View.canon_unit_zero hz, View.ld_unit_zero (S := S1024x1024) hz, View.ld_unit_zero (S := S1024x1024) hz, pay3]
  refine mulNT_block (fun k => ?_) (fun k => ?_) <;> blk_point [iblk3, idx3 t]

end

/-! ## The run -/

variable (m : (ℓ : Loc nD τ sig) → Buf (Elt Ideal) ℓ) (ρ : Dev nD → PrngReg)

set_option backward.isDefEq.respectTransparency.types false in
/-- What every unscoped buffer holds at the end. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

theorem end0 (c : Dev nD) : W4 m ρ c (Proc.devRef .tc main_v0)
    = mulNT (M := 8192) (N := 2816) (K := 1024) (m ((c : Thread nD τ).loc main_arg2)) (m ((c : Thread nD τ).loc main_arg1)) := by
  refine (W4_of_ne m ρ c main_v0 (by decide)).trans ?_
  refine (W3_of_ne m ρ c main_v0 (by decide)).trans ?_
  refine (W2_of_ne m ρ c main_v0 (by decide)).trans ?_
  refine (W1_arr m ρ c 2).trans ((arr0 (V0 m ρ) c).trans ?_)
  exact congrArg₂ (mulNT (M := 8192) (N := 2816) (K := 1024)) (W0_args m ρ c main_arg2 (by decide)) (W0_args m ρ c main_arg1 (by decide))
theorem end1 (c : Dev nD) : W4 m ρ c (Proc.devRef .tc main_v1)
    = mulNT (M := 8192) (N := 1024) (K := 1024) (m ((c : Thread nD τ).loc main_arg5)) (m ((c : Thread nD τ).loc main_arg4)) := by
  refine (W4_of_ne m ρ c main_v1 (by decide)).trans ?_
  refine (W3_of_ne m ρ c main_v1 (by decide)).trans ?_
  refine (W2_arr m ρ c 2).trans ((arr1 (V1 m ρ) c).trans ?_)
  exact congrArg₂ (mulNT (M := 8192) (N := 1024) (K := 1024)) (W1_args m ρ c main_arg5 (by decide)) (W1_args m ρ c main_arg4 (by decide))
theorem end2 (c : Dev nD) : W4 m ρ c (Proc.devRef .tc main_v2)
    = mulNT (M := 8192) (N := 1024) (K := 1024) (m ((c : Thread nD τ).loc main_arg8)) (m ((c : Thread nD τ).loc main_arg7)) := by
  refine (W4_of_ne m ρ c main_v2 (by decide)).trans ?_
  refine (W3_arr m ρ c 2).trans ((arr2 (V2 m ρ) c).trans ?_)
  exact congrArg₂ (mulNT (M := 8192) (N := 1024) (K := 1024)) (W2_args m ρ c main_arg8 (by decide)) (W2_args m ρ c main_arg7 (by decide))
theorem end3 (c : Dev nD) : W4 m ρ c (Proc.devRef .tc main_v3)
    = mulNT (M := 8192) (N := 2048) (K := 1024) (m ((c : Thread nD τ).loc main_arg11)) (m ((c : Thread nD τ).loc main_arg10)) := by
  refine (W4_arr m ρ c 2).trans ((arr3 (V3 m ρ) c).trans ?_)
  exact congrArg₂ (mulNT (M := 8192) (N := 2048) (K := 1024)) (W3_args m ρ c main_arg11 (by decide)) (W3_args m ρ c main_arg10 (by decide))

/-- The results and the arguments at the end. -/
theorem run : θ_run defs (onTc (τ := τ) (main (F := Ideal))) ⟨m, fun _ => 0, ρ⟩ fun r => ∀ c : Dev nD,
      r.2.mem ((c : Thread nD τ).loc main_v0) = mulNT (M := 8192) (N := 2816) (K := 1024) (m ((c : Thread nD τ).loc main_arg2)) (m ((c : Thread nD τ).loc main_arg1)) ∧
      r.2.mem ((c : Thread nD τ).loc main_v1) = mulNT (M := 8192) (N := 1024) (K := 1024) (m ((c : Thread nD τ).loc main_arg5)) (m ((c : Thread nD τ).loc main_arg4)) ∧
      r.2.mem ((c : Thread nD τ).loc main_v2) = mulNT (M := 8192) (N := 1024) (K := 1024) (m ((c : Thread nD τ).loc main_arg8)) (m ((c : Thread nD τ).loc main_arg7)) ∧
      r.2.mem ((c : Thread nD τ).loc main_v3) = mulNT (M := 8192) (N := 2048) (K := 1024) (m ((c : Thread nD τ).loc main_arg11)) (m ((c : Thread nD τ).loc main_arg10)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) ∧
      r.2.mem ((c : Thread nD τ).loc main_arg9) = m ((c : Thread nD τ).loc main_arg9) ∧
      r.2.mem ((c : Thread nD τ).loc main_arg10) = m ((c : Thread nD τ).loc main_arg10) ∧
      r.2.mem ((c : Thread nD τ).loc main_arg11) = m ((c : Thread nD τ).loc main_arg11) :=
  (θ_run defs _ _).mono (fun r h c =>
    ⟨(h c _ (mem_uc main_v0 (by decide))).trans (end0 m ρ c),
      (h c _ (mem_uc main_v1 (by decide))).trans (end1 m ρ c),
      (h c _ (mem_uc main_v2 (by decide))).trans (end2 m ρ c),
      (h c _ (mem_uc main_v3 (by decide))).trans (end3 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c)⟩) (run_all m ρ)

end Cert.Kernel3Ideal.Prod

/-! ## The claims -/

namespace Cert.Prod.Grads

open Idealize.ShloMosaic Idealize.ShloMosaic.TcCoe Idealize.SL.Sem
open Cert.Reference3Ideal Cert.Reference3Ideal.Read

theorem quiet_ref : Cert.quiescent_Reference3Ideal (hReference3Ideal := Cert.Reference3Ideal.Gen.facts) := fun m g _ =>
  (θ_run _ _ _).mono (fun r h => ⟨fun c => (h c).2.2.2.2, sem_eq_zero_of_no_sems (by decide) r.2⟩) (Cert.Reference3Ideal.Value.run m g)

/-! The reference's products. -/

theorem ref0 (w : (⟨S2816x1024, .bf16⟩ : BufTy).Contents (Elt Ideal)) (ct : (⟨S8192x1024, .f32⟩ : BufTy).Contents (Elt Ideal)) :
    val_main_v6 w ct = mulNT (M := 8192) (N := 2816) (K := 1024) ct w :=
  funext fun i => (val_main_v6_apply w ct i).trans ((val_main_v5_apply w ct i).trans (mulNT_of (a := ct) (b := w) (fun _ => ix2_ext rfl rfl) fun _ => ix2_ext rfl rfl))
theorem ref1 (w : (⟨S1024x1024, .bf16⟩ : BufTy).Contents (Elt Ideal)) (ct : (⟨S8192x1024, .f32⟩ : BufTy).Contents (Elt Ideal)) :
    val_main_v13 w ct = mulNT (M := 8192) (N := 1024) (K := 1024) ct w :=
  funext fun i => (val_main_v13_apply w ct i).trans ((val_main_v12_apply w ct i).trans (mulNT_of (a := ct) (b := w) (fun _ => ix2_ext rfl rfl) fun _ => ix2_ext rfl rfl))
theorem ref2 (w : (⟨S1024x1024, .bf16⟩ : BufTy).Contents (Elt Ideal)) (ct : (⟨S8192x1024, .bf16⟩ : BufTy).Contents (Elt Ideal)) :
    val_main_v21 w ct = mulNT (M := 8192) (N := 1024) (K := 1024) ct w :=
  funext fun i => (val_main_v21_apply w ct i).trans ((val_main_v20_apply w ct i).trans (mulNT_of (a := ct) (b := w) (fun _ => ix2_ext rfl rfl) fun _ => ix2_ext rfl rfl))
theorem ref3 (w : (⟨S2048x1024, .bf16⟩ : BufTy).Contents (Elt Ideal)) (ct : (⟨S8192x1024, .bf16⟩ : BufTy).Contents (Elt Ideal)) :
    val_main_v29 w ct = mulNT (M := 8192) (N := 2048) (K := 1024) ct w :=
  funext fun i => (val_main_v29_apply w ct i).trans ((val_main_v28_apply w ct i).trans (mulNT_of (a := ct) (b := w) (fun _ => ix2_ext rfl rfl) fun _ => ix2_ext rfl rfl))

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨_, _, _, _, Cert.Kernel3Ideal.Prod.run m g, (θ_run _ _ _).mono (fun r h c => ?_) (Cert.Reference3Ideal.Value.run m' g')⟩
  obtain ⟨-, h1, h2, -, h4, h5, -, h7, h8, -, h10, h11⟩ := hagree c
  refine ⟨(h c).1.trans ((val_main_v6_eq _ _).trans ?_), (h c).2.1.trans ((val_main_v13_eq _ _).trans ?_),
    (h c).2.2.1.trans ((val_main_v21_eq _ _).trans ?_), (h c).2.2.2.1.trans ((val_main_v29_eq _ _).trans ?_), (h c).2.2.2.2⟩
  · rw [h1, h2]; exact ref0 _ _
  · rw [h4, h5]; exact ref1 _ _
  · rw [h7, h8]; exact ref2 _ _
  · rw [h10, h11]; exact ref3 _ _

end Cert.Prod.Grads

end
-- ==== Proof.Prod.Forward.lean ====
module

public import proofs.«01_k».proof.Defs
public import proofs.«01_k».proof.Proof.Prod.Sums
public import proofs.«01_k».proof.Proof.Gen.Kernel4Ideal.Frame
public import proofs.«01_k».proof.Proof.Gen.Reference4Ideal.Read
public import Idealize.ShloMosaic.Lib.Pipeline.ValueKit
public import Idealize.ShloMosaic.Lib.Quiescent

/-! The ten products of the forward pass that take each block in one step. -/

@[expose] public section

set_option maxRecDepth 16384

noncomputable section

namespace Cert.Kernel4Ideal.Prod

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen Cert.Prod

theorem hz : (![0, 0] : Fin 2 → Nat) = fun _ => 0 := funext fun a => by fin_cases a <;> rfl

/-! ## A step's product -/

theorem pay0 (x y : Vec Ideal S1024x1024 .bf16) : k0_pay1 x y = mulNN (M := 1024) (N := 1024) (K := 1024) x y := by
  funext i; idx_vars i; pointwise [k0_pay1]; rfl
theorem pay4 (x : Vec Ideal S1024x1024 .bf16) (y : Vec Ideal S1024x32 .bf16) : k4_pay1 x y = mulNN (M := 1024) (N := 32) (K := 1024) x y := by
  funext i; idx_vars i; pointwise [k4_pay1]; rfl
theorem pay5 (x : Vec Ideal S1024x2048 .bf16) (y : Vec Ideal S2048x1024 .bf16) : k5_pay1 x y = mulNN (M := 1024) (N := 1024) (K := 2048) x y := by
  funext i; idx_vars i; pointwise [k5_pay1]; rfl
theorem pay7 (x y : Vec Ideal S1024x1024 .bf16) (r : Vec Ideal S1024x1024 .f32) :
    k7_pay1 x y r = plus (mulNN (M := 1024) (N := 1024) (K := 1024) x y) r := by
  funext i; idx_vars i; pointwise [k7_pay1]; rfl
theorem pay8 (x : Vec Ideal S1024x1024 .bf16) (y : Vec Ideal S1024x1408 .bf16) : k8_pay1 x y = mulNN (M := 1024) (N := 1408) (K := 1024) x y := by
  funext i; idx_vars i; pointwise [k8_pay1]; rfl
/-- Four more calls compute one of these. -/
theorem pay1 (x y : Vec Ideal S1024x1024 .bf16) : k1_pay1 x y = mulNN (M := 1024) (N := 1024) (K := 1024) x y := pay0 x y
theorem pay2 (x y : Vec Ideal S1024x1024 .bf16) : k2_pay1 x y = mulNN (M := 1024) (N := 1024) (K := 1024) x y := pay0 x y
theorem pay3 (x y : Vec Ideal S1024x1024 .bf16) : k3_pay1 x y = mulNN (M := 1024) (N := 1024) (K := 1024) x y := pay0 x y
theorem pay6 (x y : Vec Ideal S1024x1024 .bf16) : k6_pay1 x y = mulNN (M := 1024) (N := 1024) (K := 1024) x y := pay0 x y
theorem pay9 (x : Vec Ideal S1024x1024 .bf16) (y : Vec Ideal S1024x1408 .bf16) : k9_pay1 x y = mulNN (M := 1024) (N := 1408) (K := 1024) x y := pay8 x y

/-! ## The arrays -/

section
variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![0, t.val % 2] ∧ win0_2.index t = ![t.val / 2, t.val % 2] :=
  (by decide +kernel : ∀ t : Fin grid0.N, _)
theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)
theorem idx2 : ∀ t : Fin cfg2.N, win2_0.index t = ![t.val / 2, 0] ∧ win2_1.index t = ![0, t.val % 2] ∧ win2_2.index t = ![t.val / 2, t.val % 2] :=
  (by decide +kernel : ∀ t : Fin grid2.N, _)
theorem idx3 : ∀ t : Fin cfg3.N, win3_0.index t = ![t.val / 3, 0] ∧ win3_1.index t = ![0, t.val % 3] ∧ win3_2.index t = ![t.val / 3, t.val % 3] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)
theorem idx5 : ∀ t : Fin cfg5.N, win5_0.index t = ![t.val, 0] ∧ win5_1.index t = ![0, 0] ∧ win5_2.index t = ![t.val, 0] :=
  (by decide +kernel : ∀ t : Fin grid5.N, _)
theorem idx6 : ∀ t : Fin cfg6.N, win6_0.index t = ![t.val, 0] ∧ win6_1.index t = ![0, 0] ∧ win6_2.index t = ![t.val, 0] :=
  (by decide +kernel : ∀ t : Fin grid6.N, _)
theorem idx7 : ∀ t : Fin cfg7.N, win7_0.index t = ![t.val, 0] ∧ win7_1.index t = ![0, 0] ∧ win7_2.index t = ![t.val, 0] ∧ win7_3.index t = ![t.val, 0] :=
  (by decide +kernel : ∀ t : Fin grid7.N, _)
theorem idx8 : ∀ t : Fin cfg8.N, win8_0.index t = ![t.val / 2, 0] ∧ win8_1.index t = ![0, t.val % 2] ∧ win8_2.index t = ![t.val / 2, t.val % 2] :=
  (by decide +kernel : ∀ t : Fin grid8.N, _)
theorem idx9 : ∀ t : Fin cfg9.N, win9_0.index t = ![t.val / 2, 0] ∧ win9_1.index t = ![0, t.val % 2] ∧ win9_2.index t = ![t.val / 2, t.val % 2] :=
  (by decide +kernel : ∀ t : Fin grid9.N, _)

theorem arr0 : (dat0 V c).arrAt 2 cfg0.N = mulNN (M := 8192) (N := 2048) (K := 1024) (V c main_arg0) (V c main_arg1) := by
  refine (dat0 V c).arrAt_eq_of_covers 2 _ (by decide +kernel) fun t _ y => ?_
  blk_simp
  rw [after0_2]
  unfold out0_2
  rw [View.canon_unit_zero hz, View.ld_unit_zero (S := S1024x1024) hz, View.ld_unit_zero (S := S1024x1024) hz, pay0]
  refine mulNN_block (fun k => ?_) (fun k => ?_) <;> blk_point [iblk0, idx0 t]
theorem arr1 : (dat1 V c).arrAt 2 cfg1.N = mulNN (M := 8192) (N := 2048) (K := 1024) (V c main_arg0) (V c main_arg2) := by
  refine (dat1 V c).arrAt_eq_of_covers 2 _ (by decide +kernel) fun t _ y => ?_
  blk_simp
  rw [after1_2]
  unfold out1_2
  rw [View.canon_unit_zero hz, View.ld_unit_zero (S := S1024x1024) hz, View.ld_unit_zero (S := S1024x1024) hz, pay1]
  refine mulNN_block (fun k => ?_) (fun k => ?_) <;> blk_point [iblk1, idx1 t]
theorem arr2 : (dat2 V c).arrAt 2 cfg2.N = mulNN (M := 8192) (N := 2048) (K := 1024) (V c main_arg0) (V c main_arg3) := by
  refine (dat2 V c).arrAt_eq_of_covers 2 _ (by decide +kernel) fun t _ y => ?_
  blk_simp
  rw [after2_2]
  unfold out2_2
  rw [View.canon_unit_zero hz, View.ld_unit_zero (S := S1024x1024) hz, View.ld_unit_zero (S := S1024x1024) hz, pay2]
  refine mulNN_block (fun k => ?_) (fun k => ?_) <;> blk_point [iblk2, idx2 t]
theorem arr3 : (dat3 V c).arrAt 2 cfg3.N = mulNN (M := 8192) (N := 3072) (K := 1024) (V c main_arg0) (V c main_arg4) := by
  refine (dat3 V c).arrAt_eq_of_covers 2 _ (by decide +kernel) fun t _ y => ?_
  blk_simp
  rw [after3_2]
  unfold out3_2
  rw [View.canon_unit_zero hz, View.ld_unit_zero (S := S1024x1024) hz, View.ld_unit_zero (S := S1024x1024) hz, pay3]
  refine mulNN_block (fun k => ?_) (fun k => ?_) <;> blk_point [iblk3, idx3 t]
theorem arr4 : (dat4 V c).arrAt 2 cfg4.N = mulNN (M := 8192) (N := 32) (K := 1024) (V c main_arg0) (V c main_arg5) := by
  refine (dat4 V c).arrAt_eq_of_covers 2 _ (by decide +kernel) fun t _ y => ?_
  blk_simp
  rw [after4_2]
  unfold out4_2
  rw [View.canon_unit_zero hz, View.ld_unit_zero (S := S1024x1024) hz, View.ld_unit_zero (S := S1024x32) hz, pay4]
  refine mulNN_block (fun k => ?_) (fun k => ?_) <;> blk_point [iblk4, idx4 t]
theorem arr5 : (dat5 V c).arrAt 2 cfg5.N = mulNN (M := 8192) (N := 1024) (K := 2048) (V c main_arg6) (V c main_arg7) := by
  refine (dat5 V c).arrAt_eq_of_covers 2 _ (by decide +kernel) fun t _ y => ?_
  blk_simp
  rw [after5_2]
  unfold out5_2
  rw [View.canon_unit_zero hz, View.ld_unit_zero (S := S1024x2048) hz, View.ld_unit_zero (S := S2048x1024) hz, pay5]
  refine mulNN_block (fun k => ?_) (fun k => ?_) <;> blk_point [iblk5, idx5 t]
theorem arr6 : (dat6 V c).arrAt 2 cfg6.N = mulNN (M := 8192) (N := 1024) (K := 1024) (V c main_arg8) (V c main_arg9) := by
  refine (dat6 V c).arrAt_eq_of_covers 2 _ (by decide +kernel) fun t _ y => ?_
  blk_simp
  rw [after6_2]
  unfold out6_2
  rw [View.canon_unit_zero hz, View.ld_unit_zero (S := S1024x1024) hz, View.ld_unit_zero (S := S1024x1024) hz, pay6]
  refine mulNN_block (fun k => ?_) (fun k => ?_) <;> blk_point [iblk6, idx6 t]
theorem arr7 : (dat7 V c).arrAt 3 cfg7.N = plus (mulNN (M := 8192) (N := 1024) (K := 1024) (V c main_arg10) (V c main_arg11)) (V c main_arg12) := by
  refine (dat7 V c).arrAt_eq_of_covers 3 _ (by decide +kernel) fun t _ y => ?_
  blk_simp
  rw [after7_3]
  unfold out7_3
  rw [View.canon_unit_zero hz, View.ld_unit_zero (S := S1024x1024) hz, View.ld_unit_zero (S := S1024x1024) hz,
    View.ld_unit_zero (S := S1024x1024) hz, pay7]
  refine plus_block (mulNN_block (fun k => ?_) (fun k => ?_)) ?_ <;> blk_point [iblk7, idx7 t]
theorem arr8 : (dat8 V c).arrAt 2 cfg8.N = mulNN (M := 8192) (N := 2816) (K := 1024) (V c main_arg13) (V c main_arg14) := by
  refine (dat8 V c).arrAt_eq_of_covers 2 _ (by decide +kernel) fun t _ y => ?_
  blk_simp
  rw [after8_2]
  unfold out8_2
  rw [View.canon_unit_zero hz, View.ld_unit_zero (S := S1024x1024) hz, View.ld_unit_zero (S := S1024x1408) hz, pay8]
  refine mulNN_block (fun k => ?_) (fun k => ?_) <;> blk_point [iblk8, idx8 t]
theorem arr9 : (dat9 V c).arrAt 2 cfg9.N = mulNN (M := 8192) (N := 2816) (K := 1024) (V c main_arg13) (V c main_arg15) := by
  refine (dat9 V c).arrAt_eq_of_covers 2 _ (by decide +kernel) fun t _ y => ?_
  blk_simp
  rw [after9_2]
  unfold out9_2
  rw [View.canon_unit_zero hz, View.ld_unit_zero (S := S1024x1024) hz, View.ld_unit_zero (S := S1024x1408) hz, pay9]
  refine mulNN_block (fun k => ?_) (fun k => ?_) <;> blk_point [iblk9, idx9 t]

end

/-! ## The run -/

variable (m : (ℓ : Loc nD τ sig) → Buf (Elt Ideal) ℓ) (ρ : Dev nD → PrngReg)

set_option backward.isDefEq.respectTransparency.types false in
/-- What every unscoped buffer holds at the end. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

theorem end0 (c : Dev nD) : W10 m ρ c (Proc.devRef .tc main_v0) = mulNN (M := 8192) (N := 2048) (K := 1024) (m ((c : Thread nD τ).loc main_arg0)) (m ((c : Thread nD τ).loc main_arg1)) := by
  exact (W10_of_ne m ρ c main_v0 (by decide)).trans <| (W9_of_ne m ρ c main_v0 (by decide)).trans <| (W8_of_ne m ρ c main_v0 (by decide)).trans <|
    (W7_of_ne m ρ c main_v0 (by decide)).trans <| (W6_of_ne m ρ c main_v0 (by decide)).trans <| (W5_of_ne m ρ c main_v0 (by decide)).trans <|
    (W4_of_ne m ρ c main_v0 (by decide)).trans <| (W3_of_ne m ρ c main_v0 (by decide)).trans <| (W2_of_ne m ρ c main_v0 (by decide)).trans <|
    (W1_arr m ρ c 2).trans ((arr0 (V0 m ρ) c).trans (congrArg₂ (mulNN (M := 8192) (N := 2048) (K := 1024)) (W0_args m ρ c main_arg0 (by decide)) (W0_args m ρ c main_arg1 (by decide))))
theorem end1 (c : Dev nD) : W10 m ρ c (Proc.devRef .tc main_v1) = mulNN (M := 8192) (N := 2048) (K := 1024) (m ((c : Thread nD τ).loc main_arg0)) (m ((c : Thread nD τ).loc main_arg2)) := by
  exact (W10_of_ne m ρ c main_v1 (by decide)).trans <| (W9_of_ne m ρ c main_v1 (by decide)).trans <| (W8_of_ne m ρ c main_v1 (by decide)).trans <|
    (W7_of_ne m ρ c main_v1 (by decide)).trans <| (W6_of_ne m ρ c main_v1 (by decide)).trans <| (W5_of_ne m ρ c main_v1 (by decide)).trans <|
    (W4_of_ne m ρ c main_v1 (by decide)).trans <| (W3_of_ne m ρ c main_v1 (by decide)).trans <| (W2_arr m ρ c 2).trans ((arr1 (V1 m ρ) c).trans (congrArg₂ (mulNN (M := 8192) (N := 2048) (K := 1024)) (W1_args m ρ c main_arg0 (by decide)) (W1_args m ρ c main_arg2 (by decide))))
theorem end2 (c : Dev nD) : W10 m ρ c (Proc.devRef .tc main_v2) = mulNN (M := 8192) (N := 2048) (K := 1024) (m ((c : Thread nD τ).loc main_arg0)) (m ((c : Thread nD τ).loc main_arg3)) := by
  exact (W10_of_ne m ρ c main_v2 (by decide)).trans <| (W9_of_ne m ρ c main_v2 (by decide)).trans <| (W8_of_ne m ρ c main_v2 (by decide)).trans <|
    (W7_of_ne m ρ c main_v2 (by decide)).trans <| (W6_of_ne m ρ c main_v2 (by decide)).trans <| (W5_of_ne m ρ c main_v2 (by decide)).trans <|
    (W4_of_ne m ρ c main_v2 (by decide)).trans <| (W3_arr m ρ c 2).trans ((arr2 (V2 m ρ) c).trans (congrArg₂ (mulNN (M := 8192) (N := 2048) (K := 1024)) (W2_args m ρ c main_arg0 (by decide)) (W2_args m ρ c main_arg3 (by decide))))
theorem end3 (c : Dev nD) : W10 m ρ c (Proc.devRef .tc main_v3) = mulNN (M := 8192) (N := 3072) (K := 1024) (m ((c : Thread nD τ).loc main_arg0)) (m ((c : Thread nD τ).loc main_arg4)) := by
  exact (W10_of_ne m ρ c main_v3 (by decide)).trans <| (W9_of_ne m ρ c main_v3 (by decide)).trans <| (W8_of_ne m ρ c main_v3 (by decide)).trans <|
    (W7_of_ne m ρ c main_v3 (by decide)).trans <| (W6_of_ne m ρ c main_v3 (by decide)).trans <| (W5_of_ne m ρ c main_v3 (by decide)).trans <|
    (W4_arr m ρ c 2).trans ((arr3 (V3 m ρ) c).trans (congrArg₂ (mulNN (M := 8192) (N := 3072) (K := 1024)) (W3_args m ρ c main_arg0 (by decide)) (W3_args m ρ c main_arg4 (by decide))))
theorem end4 (c : Dev nD) : W10 m ρ c (Proc.devRef .tc main_v4) = mulNN (M := 8192) (N := 32) (K := 1024) (m ((c : Thread nD τ).loc main_arg0)) (m ((c : Thread nD τ).loc main_arg5)) := by
  exact (W10_of_ne m ρ c main_v4 (by decide)).trans <| (W9_of_ne m ρ c main_v4 (by decide)).trans <| (W8_of_ne m ρ c main_v4 (by decide)).trans <|
    (W7_of_ne m ρ c main_v4 (by decide)).trans <| (W6_of_ne m ρ c main_v4 (by decide)).trans <| (W5_arr m ρ c 2).trans ((arr4 (V4 m ρ) c).trans (congrArg₂ (mulNN (M := 8192) (N := 32) (K := 1024)) (W4_args m ρ c main_arg0 (by decide)) (W4_args m ρ c main_arg5 (by decide))))
theorem end5 (c : Dev nD) : W10 m ρ c (Proc.devRef .tc main_v5) = mulNN (M := 8192) (N := 1024) (K := 2048) (m ((c : Thread nD τ).loc main_arg6)) (m ((c : Thread nD τ).loc main_arg7)) := by
  exact (W10_of_ne m ρ c main_v5 (by decide)).trans <| (W9_of_ne m ρ c main_v5 (by decide)).trans <| (W8_of_ne m ρ c main_v5 (by decide)).trans <|
    (W7_of_ne m ρ c main_v5 (by decide)).trans <| (W6_arr m ρ c 2).trans ((arr5 (V5 m ρ) c).trans (congrArg₂ (mulNN (M := 8192) (N := 1024) (K := 2048)) (W5_args m ρ c main_arg6 (by decide)) (W5_args m ρ c main_arg7 (by decide))))
theorem end6 (c : Dev nD) : W10 m ρ c (Proc.devRef .tc main_v6) = mulNN (M := 8192) (N := 1024) (K := 1024) (m ((c : Thread nD τ).loc main_arg8)) (m ((c : Thread nD τ).loc main_arg9)) := by
  exact (W10_of_ne m ρ c main_v6 (by decide)).trans <| (W9_of_ne m ρ c main_v6 (by decide)).trans <| (W8_of_ne m ρ c main_v6 (by decide)).trans <|
    (W7_arr m ρ c 2).trans ((arr6 (V6 m ρ) c).trans (congrArg₂ (mulNN (M := 8192) (N := 1024) (K := 1024)) (W6_args m ρ c main_arg8 (by decide)) (W6_args m ρ c main_arg9 (by decide))))
theorem end7 (c : Dev nD) : W10 m ρ c (Proc.devRef .tc main_v7) = plus (mulNN (M := 8192) (N := 1024) (K := 1024) (m ((c : Thread nD τ).loc main_arg10)) (m ((c : Thread nD τ).loc main_arg11))) (m ((c : Thread nD τ).loc main_arg12)) := by
  exact (W10_of_ne m ρ c main_v7 (by decide)).trans <| (W9_of_ne m ρ c main_v7 (by decide)).trans <| (W8_arr m ρ c 3).trans ((arr7 (V7 m ρ) c).trans (congrArg₂ (plus (S := S8192x1024)) (congrArg₂ (mulNN (M := 8192) (N := 1024) (K := 1024)) (W7_args m ρ c main_arg10 (by decide)) (W7_args m ρ c main_arg11 (by decide))) (W7_args m ρ c main_arg12 (by decide))))
theorem end8 (c : Dev nD) : W10 m ρ c (Proc.devRef .tc main_v8) = mulNN (M := 8192) (N := 2816) (K := 1024) (m ((c : Thread nD τ).loc main_arg13)) (m ((c : Thread nD τ).loc main_arg14)) := by
  exact (W10_of_ne m ρ c main_v8 (by decide)).trans <| (W9_arr m ρ c 2).trans ((arr8 (V8 m ρ) c).trans (congrArg₂ (mulNN (M := 8192) (N := 2816) (K := 1024)) (W8_args m ρ c main_arg13 (by decide)) (W8_args m ρ c main_arg14 (by decide))))
theorem end9 (c : Dev nD) : W10 m ρ c (Proc.devRef .tc main_v9) = mulNN (M := 8192) (N := 2816) (K := 1024) (m ((c : Thread nD τ).loc main_arg13)) (m ((c : Thread nD τ).loc main_arg15)) := by
  exact (W10_arr m ρ c 2).trans ((arr9 (V9 m ρ) c).trans (congrArg₂ (mulNN (M := 8192) (N := 2816) (K := 1024)) (W9_args m ρ c main_arg13 (by decide)) (W9_args m ρ c main_arg15 (by decide))))

/-- The results and the arguments at the end. -/
theorem run : θ_run defs (onTc (τ := τ) (main (F := Ideal))) ⟨m, fun _ => 0, ρ⟩ fun r => ∀ c : Dev nD,
      r.2.mem ((c : Thread nD τ).loc main_v0) = mulNN (M := 8192) (N := 2048) (K := 1024) (m ((c : Thread nD τ).loc main_arg0)) (m ((c : Thread nD τ).loc main_arg1)) ∧
      r.2.mem ((c : Thread nD τ).loc main_v1) = mulNN (M := 8192) (N := 2048) (K := 1024) (m ((c : Thread nD τ).loc main_arg0)) (m ((c : Thread nD τ).loc main_arg2)) ∧
      r.2.mem ((c : Thread nD τ).loc main_v2) = mulNN (M := 8192) (N := 2048) (K := 1024) (m ((c : Thread nD τ).loc main_arg0)) (m ((c : Thread nD τ).loc main_arg3)) ∧
      r.2.mem ((c : Thread nD τ).loc main_v3) = mulNN (M := 8192) (N := 3072) (K := 1024) (m ((c : Thread nD τ).loc main_arg0)) (m ((c : Thread nD τ).loc main_arg4)) ∧
      r.2.mem ((c : Thread nD τ).loc main_v4) = mulNN (M := 8192) (N := 32) (K := 1024) (m ((c : Thread nD τ).loc main_arg0)) (m ((c : Thread nD τ).loc main_arg5)) ∧
      r.2.mem ((c : Thread nD τ).loc main_v5) = mulNN (M := 8192) (N := 1024) (K := 2048) (m ((c : Thread nD τ).loc main_arg6)) (m ((c : Thread nD τ).loc main_arg7)) ∧
      r.2.mem ((c : Thread nD τ).loc main_v6) = mulNN (M := 8192) (N := 1024) (K := 1024) (m ((c : Thread nD τ).loc main_arg8)) (m ((c : Thread nD τ).loc main_arg9)) ∧
      r.2.mem ((c : Thread nD τ).loc main_v7) = plus (mulNN (M := 8192) (N := 1024) (K := 1024) (m ((c : Thread nD τ).loc main_arg10)) (m ((c : Thread nD τ).loc main_arg11))) (m ((c : Thread nD τ).loc main_arg12)) ∧
      r.2.mem ((c : Thread nD τ).loc main_v8) = mulNN (M := 8192) (N := 2816) (K := 1024) (m ((c : Thread nD τ).loc main_arg13)) (m ((c : Thread nD τ).loc main_arg14)) ∧
      r.2.mem ((c : Thread nD τ).loc main_v9) = mulNN (M := 8192) (N := 2816) (K := 1024) (m ((c : Thread nD τ).loc main_arg13)) (m ((c : Thread nD τ).loc main_arg15)) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) ∧
      r.2.mem ((c : Thread nD τ).loc main_arg9) = m ((c : Thread nD τ).loc main_arg9) ∧
      r.2.mem ((c : Thread nD τ).loc main_arg10) = m ((c : Thread nD τ).loc main_arg10) ∧
      r.2.mem ((c : Thread nD τ).loc main_arg11) = m ((c : Thread nD τ).loc main_arg11) ∧
      r.2.mem ((c : Thread nD τ).loc main_arg12) = m ((c : Thread nD τ).loc main_arg12) ∧
      r.2.mem ((c : Thread nD τ).loc main_arg13) = m ((c : Thread nD τ).loc main_arg13) ∧
      r.2.mem ((c : Thread nD τ).loc main_arg14) = m ((c : Thread nD τ).loc main_arg14) ∧
      r.2.mem ((c : Thread nD τ).loc main_arg15) = m ((c : Thread nD τ).loc main_arg15) :=
  (θ_run defs _ _).mono (fun r h c =>
    ⟨(h c _ (mem_uc main_v0 (by decide))).trans (end0 m ρ c),
      (h c _ (mem_uc main_v1 (by decide))).trans (end1 m ρ c),
      (h c _ (mem_uc main_v2 (by decide))).trans (end2 m ρ c),
      (h c _ (mem_uc main_v3 (by decide))).trans (end3 m ρ c),
      (h c _ (mem_uc main_v4 (by decide))).trans (end4 m ρ c),
      (h c _ (mem_uc main_v5 (by decide))).trans (end5 m ρ c),
      (h c _ (mem_uc main_v6 (by decide))).trans (end6 m ρ c),
      (h c _ (mem_uc main_v7 (by decide))).trans (end7 m ρ c),
      (h c _ (mem_uc main_v8 (by decide))).trans (end8 m ρ c),
      (h c _ (mem_uc main_v9 (by decide))).trans (end9 m ρ c),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c)⟩) (run_all m ρ)

end Cert.Kernel4Ideal.Prod

/-! ## The claims -/

namespace Cert.Prod.Forward

open Idealize.ShloMosaic Idealize.ShloMosaic.TcCoe Idealize.SL.Sem
open Cert.Reference4Ideal Cert.Reference4Ideal.Read

theorem quiet_ref : Cert.quiescent_Reference4Ideal (hReference4Ideal := Cert.Reference4Ideal.Gen.facts) := fun m g _ =>
  (θ_run _ _ _).mono (fun r h => ⟨fun c => (h c).2.2.2.2.2.2.2.2.2.2, sem_eq_zero_of_no_sems (by decide) r.2⟩) (Cert.Reference4Ideal.Value.run m g)

/-! The reference's products. -/

theorem ref0 (a : (⟨S8192x1024, .bf16⟩ : BufTy).Contents (Elt Ideal)) (b : (⟨S1024x2048, .bf16⟩ : BufTy).Contents (Elt Ideal)) : val_main_v3 a b = mulNN (M := 8192) (N := 2048) (K := 1024) a b :=
  funext fun i => (val_main_v3_apply a b i).trans ((val_main_v2_apply a b i).trans (mulNN_of (a := a) (b := b) (fun _ => ix2_ext rfl rfl) fun _ => ix2_ext rfl rfl))
theorem ref1 (a : (⟨S8192x1024, .bf16⟩ : BufTy).Contents (Elt Ideal)) (b : (⟨S1024x2048, .bf16⟩ : BufTy).Contents (Elt Ideal)) : val_main_v7 a b = mulNN (M := 8192) (N := 2048) (K := 1024) a b := ref0 a b
theorem ref2 (a : (⟨S8192x1024, .bf16⟩ : BufTy).Contents (Elt Ideal)) (b : (⟨S1024x2048, .bf16⟩ : BufTy).Contents (Elt Ideal)) : val_main_v11 a b = mulNN (M := 8192) (N := 2048) (K := 1024) a b := ref1 a b
theorem ref3 (a : (⟨S8192x1024, .bf16⟩ : BufTy).Contents (Elt Ideal)) (b : (⟨S1024x3072, .bf16⟩ : BufTy).Contents (Elt Ideal)) : val_main_v15 a b = mulNN (M := 8192) (N := 3072) (K := 1024) a b :=
  funext fun i => (val_main_v15_apply a b i).trans ((val_main_v14_apply a b i).trans (mulNN_of (a := a) (b := b) (fun _ => ix2_ext rfl rfl) fun _ => ix2_ext rfl rfl))
theorem ref4 (a : (⟨S8192x1024, .bf16⟩ : BufTy).Contents (Elt Ideal)) (b : (⟨S1024x32, .bf16⟩ : BufTy).Contents (Elt Ideal)) : val_main_v18 a b = mulNN (M := 8192) (N := 32) (K := 1024) a b :=
  funext fun i => ((val_main_v18_apply a b i).trans (mulNN_of (a := a) (b := b) (fun _ => ix2_ext rfl rfl) fun _ => ix2_ext rfl rfl))
theorem ref5 (a : (⟨S8192x2048, .bf16⟩ : BufTy).Contents (Elt Ideal)) (b : (⟨S2048x1024, .bf16⟩ : BufTy).Contents (Elt Ideal)) : val_main_v22 a b = mulNN (M := 8192) (N := 1024) (K := 2048) a b :=
  funext fun i => (val_main_v22_apply a b i).trans ((val_main_v21_apply a b i).trans (mulNN_of (a := a) (b := b) (fun _ => ix2_ext rfl rfl) fun _ => ix2_ext rfl rfl))
theorem ref6 (a : (⟨S8192x1024, .bf16⟩ : BufTy).Contents (Elt Ideal)) (b : (⟨S1024x1024, .bf16⟩ : BufTy).Contents (Elt Ideal)) : val_main_v26 a b = mulNN (M := 8192) (N := 1024) (K := 1024) a b :=
  funext fun i => (val_main_v26_apply a b i).trans ((val_main_v25_apply a b i).trans (mulNN_of (a := a) (b := b) (fun _ => ix2_ext rfl rfl) fun _ => ix2_ext rfl rfl))
theorem ref7 (a : (⟨S8192x1024, .bf16⟩ : BufTy).Contents (Elt Ideal)) (b : (⟨S1024x1024, .bf16⟩ : BufTy).Contents (Elt Ideal)) (r : (⟨S8192x1024, .f32⟩ : BufTy).Contents (Elt Ideal)) : val_main_v30 a b r = plus (mulNN (M := 8192) (N := 1024) (K := 1024) a b) r :=
  funext fun i => (val_main_v30_apply a b r i).trans ((congrArg (fun z : EReal => r i + z) ((val_main_v29_apply a b i).trans (mulNN_of (a := a) (b := b) (fun _ => ix2_ext rfl rfl) fun _ => ix2_ext rfl rfl))).trans (add_comm _ _))
theorem ref8 (a : (⟨S8192x1024, .bf16⟩ : BufTy).Contents (Elt Ideal)) (b : (⟨S1024x2816, .bf16⟩ : BufTy).Contents (Elt Ideal)) : val_main_v34 a b = mulNN (M := 8192) (N := 2816) (K := 1024) a b :=
  funext fun i => (val_main_v34_apply a b i).trans ((val_main_v33_apply a b i).trans (mulNN_of (a := a) (b := b) (fun _ => ix2_ext rfl rfl) fun _ => ix2_ext rfl rfl))
theorem ref9 (a : (⟨S8192x1024, .bf16⟩ : BufTy).Contents (Elt Ideal)) (b : (⟨S1024x2816, .bf16⟩ : BufTy).Contents (Elt Ideal)) : val_main_v38 a b = mulNN (M := 8192) (N := 2816) (K := 1024) a b := ref8 a b

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨_, _, _, _, _, _, _, _, _, _, Cert.Kernel4Ideal.Prod.run m g, (θ_run _ _ _).mono (fun r h c => ?_) (Cert.Reference4Ideal.Value.run m' g')⟩
  obtain ⟨e0, e1, e2, e3, e4, e5, e6, e7, e8, e9, e10, e11, e12, e13, e14, e15⟩ := hagree c
  obtain ⟨h0, h1, h2, h3, h4, h5, h6, h7, h8, h9, hk⟩ := h c
  have q0 := h0.trans (val_main_v3_eq _ _); rw [e0, e1, ref0] at q0
  have q1 := h1.trans (val_main_v7_eq _ _); rw [e0, e2, ref1] at q1
  have q2 := h2.trans (val_main_v11_eq _ _); rw [e0, e3, ref2] at q2
  have q3 := h3.trans (val_main_v15_eq _ _); rw [e0, e4, ref3] at q3
  have q4 := h4.trans (val_main_v18_eq _ _); rw [e0, e5, ref4] at q4
  have q5 := h5.trans (val_main_v22_eq _ _); rw [e6, e7, ref5] at q5
  have q6 := h6.trans (val_main_v26_eq _ _); rw [e8, e9, ref6] at q6
  have q7 := h7.trans (val_main_v30_eq _ _ _); rw [e10, e11, e12, ref7] at q7
  have q8 := h8.trans (val_main_v34_eq _ _); rw [e13, e14, ref8] at q8
  have q9 := h9.trans (val_main_v38_eq _ _); rw [e13, e15, ref9] at q9
  exact ⟨q0, q1, q2, q3, q4, q5, q6, q7, q8, q9, hk⟩

end Cert.Prod.Forward

end
-- ==== Proof.Prod.DwUp.lean ====
module

public import proofs.«01_k».proof.Defs
public import proofs.«01_k».proof.Proof.Prod.Sums
public import proofs.«01_k».proof.Proof.Gen.Kernel5Ideal.Value
public import proofs.«01_k».proof.Proof.Gen.Reference5Ideal.Read
public import Idealize.ShloMosaic.Lib.Pipeline.ValueKit
public import Idealize.ShloMosaic.Lib.Quiescent

/-! The gradient of the first feed-forward matrix, one half: four blocks of tokens added up. -/

@[expose] public section

set_option maxRecDepth 16384

noncomputable section

namespace Cert.Kernel5Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1408 .bf16) : S1024x1408.Idx → EReal := mulTN (M := 1024) (N := 1408) (K := 2048) x0 x1

theorem pay (x0 : Vec Ideal S2048x1024 .bf16) (x1 : Vec Ideal S2048x1408 .bf16) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1408 .bf16) (harg4 : arg4.IsWhole) (arg5 : Memref sig .tc .vmem S1024x1408 .bf16) (harg5 : arg5.IsWhole)
  (arg6 : Memref sig .tc .vmem S1024x1408 .f32) (harg6 : arg6.IsWhole)
  (x0 : Vec Ideal S2048x1024 .bf16) (x1 : Vec Ideal S2048x1408 .bf16) (xs : Vec Ideal S1024x1408 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Point `t`'s product. -/
abbrev part (t : Fin cfg0.N) : S1024x1408.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 1024) (N := 2816) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel5Ideal.Prod

/-! ## The claims -/

namespace Cert.Prod.DwUp

open Idealize.ShloMosaic Idealize.ShloMosaic.TcCoe Idealize.SL.Sem
open Cert.Reference5Ideal Cert.Reference5Ideal.Read

theorem quiet_ref : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨_, (θ_run _ _ _).mono (fun r h c => ⟨(h c).1.trans (Cert.Kernel5Ideal.Prod.arr m c), (h c).2⟩) (Cert.Kernel5Ideal.Value.run_blocks m g), ?_⟩
  refine (θ_run _ _ _).mono (fun r h c => ⟨(h c).1.trans ((val_main_v7_eq _ _).trans ?_), (h c).2⟩) (Cert.Reference5Ideal.Value.run m' g')
  rw [(hagree c).1, (hagree c).2.2]
  exact funext fun i => (val_main_v7_apply _ _ i).trans ((val_main_v5_apply _ _ i).trans ((val_main_v4_apply _ _ _).trans
    (mulTN_of (a := m ((c.tc : Thread Cert.Kernel5Ideal.nD Cert.Kernel5Ideal.τ).loc Cert.Kernel5Ideal.main_arg0))
      (b := m ((c.tc : Thread Cert.Kernel5Ideal.nD Cert.Kernel5Ideal.τ).loc Cert.Kernel5Ideal.main_arg2)) (fun _ => ix2_ext rfl rfl) fun _ => ix2_ext rfl rfl)))

end Cert.Prod.DwUp

end
-- ==== Proof.Prod.DwIn.lean ====
module

public import proofs.«01_k».proof.Defs
public import proofs.«01_k».proof.Proof.Prod.Sums
public import proofs.«01_k».proof.Proof.Gen.Kernel6Ideal.Value
public import proofs.«01_k».proof.Proof.Gen.Reference6Ideal.Read
public import Idealize.ShloMosaic.Lib.Pipeline.ValueKit
public import Idealize.ShloMosaic.Lib.Quiescent

/-! The gradient of a part of the input projection of 2048 columns: four blocks of tokens added up. -/

@[expose] public section

set_option maxRecDepth 16384

noncomputable section

namespace Cert.Kernel6Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1024 .bf16) : S1024x1024.Idx → EReal := mulTN (M := 1024) (N := 1024) (K := 2048) x0 x1

theorem pay (x0 : Vec Ideal S2048x1024 .bf16) (x1 : Vec Ideal S2048x1024 .bf16) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec Ideal S2048x1024 .bf16) (x1 : Vec Ideal S2048x1024 .bf16) (xs : Vec Ideal S1024x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Point `t`'s product. -/
abbrev part (t : Fin cfg0.N) : S1024x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 1024) (N := 2048) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel6Ideal.Prod

/-! ## The claims -/

namespace Cert.Prod.DwIn

open Idealize.ShloMosaic Idealize.ShloMosaic.TcCoe Idealize.SL.Sem
open Cert.Reference6Ideal Cert.Reference6Ideal.Read

theorem quiet_ref : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨_, (θ_run _ _ _).mono (fun r h c => ⟨(h c).1.trans (Cert.Kernel6Ideal.Prod.arr m c), (h c).2⟩) (Cert.Kernel6Ideal.Value.run_blocks m g), ?_⟩
  refine (θ_run _ _ _).mono (fun r h c => ⟨(h c).1.trans ((val_main_v7_eq _ _).trans ?_), (h c).2⟩) (Cert.Reference6Ideal.Value.run m' g')
  rw [(hagree c).1, (hagree c).2.2]
  exact funext fun i => (val_main_v7_apply _ _ i).trans ((val_main_v5_apply _ _ i).trans ((val_main_v4_apply _ _ _).trans
    (mulTN_of (a := m ((c.tc : Thread Cert.Kernel6Ideal.nD Cert.Kernel6Ideal.τ).loc Cert.Kernel6Ideal.main_arg0))
      (b := m ((c.tc : Thread Cert.Kernel6Ideal.nD Cert.Kernel6Ideal.τ).loc Cert.Kernel6Ideal.main_arg2)) (fun _ => ix2_ext rfl rfl) fun _ => ix2_ext rfl rfl)))

end Cert.Prod.DwIn

end
-- ==== Proof.Prod.DHn.lean ====
module

public import proofs.«01_k».proof.Defs
public import proofs.«01_k».proof.Proof.Prod.Sums
public import proofs.«01_k».proof.Proof.Gen.Kernel7Ideal.Frame
public import proofs.«01_k».proof.Proof.Gen.Reference7Ideal.Read
public import Idealize.ShloMosaic.Lib.Pipeline.ValueKit
public import Idealize.ShloMosaic.Lib.Quiescent

/-! The gradient at the first feed-forward product's input: two products, each of two blocks, added up. -/

@[expose] public section

set_option maxRecDepth 16384

noncomputable section

namespace Cert.Kernel7Ideal.Prod

open Idealize.ShloMosaic Idealize.ShloMosaic.TcCoe Idealize.ShloMosaic.Tactic Idealize.SL.Sem
open Gen Cert.Prod

/-! ## What a point leaves -/

/-- A point's product. -/
abbrev P (x0 x1 : Vec Ideal S1024x1408 .bf16) : S1024x1024.Idx → EReal := mulNT (M := 1024) (N := 1024) (K := 1408) x0 x1

theorem pay (x0 x1 : Vec Ideal S1024x1408 .bf16) : k0_pay1 x0 x1 = P x0 x1 := by
  funext i; idx_vars i; pointwise [k0_pay1]; rfl

section
variable (c : Dev nD) (i : grid0.Coords) (arg2 : Memref sig .tc .vmem S1024x1408 .bf16) (harg2 : arg2.IsWhole)
  (arg3 : Memref sig .tc .vmem S1024x1408 .bf16) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1024x1024 .f32) (harg6 : arg6.IsWhole)
  (arg7 : Memref sig .tc .vmem S1024x1024 .f32) (harg7 : arg7.IsWhole)
  (x0 x1 x2 x3 : Vec Ideal S1024x1408 .bf16) (xs : Vec Ideal S1024x1024 .f32)

/-- The first point of four stores the first pair's product, -/
theorem s_A (hc0 : cond0_0 i) (hc1 : cond0_1 i) (hc2 : ¬cond0_2 i) (hc3 : ¬cond0_3 i) (hc4 : ¬cond0_4 i) :
    sout0_A_0 c i arg2 harg2 arg3 harg3 arg4 harg4 arg5 harg5 arg6 harg6 arg7 harg7 hc0 hc1 hc2 hc3 hc4 x0 x1 x2 x3 = P x0 x1 := by
  refine (stored VS0_0 _ hz _ _).trans ((congrArg₂ (k0_pay2 (F := Ideal)) (loaded harg2 hz _ x0) (loaded harg3 hz _ x1)).trans ?_)
  exact (shapeCast_self _ _).trans (pay x0 x1)

/-- the second one adds it, -/
theorem s_B (hc0 : cond0_0 i) (hc1 : ¬cond0_1 i) (hc2 : cond0_2 i) (hc3 : ¬cond0_3 i) (hc4 : ¬cond0_4 i) :
    sout0_B_0 c i arg2 harg2 arg3 harg3 arg4 harg4 arg5 harg5 arg6 harg6 arg7 harg7 hc0 hc1 hc2 hc3 hc4 x0 x1 x2 x3 xs = plus xs (P x0 x1) := by
  refine (stored VS0_0 _ hz _ _).trans ((congr (congrArg₂ (k0_pay3 (F := Ideal)) (loaded harg2 hz _ x0) (loaded harg3 hz _ x1)) (loaded harg7 hz _ xs)).trans ?_)
  exact (shapeCast_self _ _).trans (congrArg (plus xs) (pay x0 x1))

/-- the third one adds the other pair's, -/
theorem s_C (hc0 : ¬cond0_0 i) (hc3 : cond0_3 i) (hc4 : ¬cond0_4 i) :
    sout0_C_0 c i arg2 harg2 arg3 harg3 arg4 harg4 arg5 harg5 arg6 harg6 arg7 harg7 hc0 hc3 hc4 x0 x1 x2 x3 xs = plus xs (P x2 x3) := by
  refine (stored VS0_0 _ hz _ _).trans ((congr (congrArg₂ (k0_pay4 (F := Ideal)) (loaded harg4 hz _ x2) (loaded harg5 hz _ x3)) (loaded harg7 hz _ xs)).trans ?_)
  exact (shapeCast_self _ _).trans (congrArg (plus xs) (pay x2 x3))

/-- and the last one hands the sum over. -/
theorem o_D (hc0 : ¬cond0_0 i) (hc3 : cond0_3 i) (hc4 : cond0_4 i) :
    out0_D_4 c i arg2 harg2 arg3 harg3 arg4 harg4 arg5 harg5 arg6 harg6 arg7 harg7 hc0 hc3 hc4 x0 x1 x2 x3 xs = plus xs (P x2 x3) := by
  refine (stored VO0_4 _ hz _ _).trans ((View.readCov_unit_zero _ hz _ _).trans
    ((congr (congrArg₂ (k0_pay4 (F := Ideal)) (loaded harg4 hz _ x2) (loaded harg5 hz _ x3)) (loaded harg7 hz _ xs)).trans ?_))
  exact (shapeCast_self _ _).trans (congrArg (plus xs) (pay x2 x3))
end

/-! ## The result -/

variable (m : (ℓ : Loc nD τ sig) → Buf (Elt Ideal) ℓ) (c : Dev nD)

theorem idx : ∀ t : Fin cfg0.N, win0_0.index t = ![t.val / 4, min (t.val % 4) 1] ∧ win0_1.index t = ![0, min (t.val % 4) 1]
    ∧ win0_2.index t = ![t.val / 4, t.val % 4 - 2] ∧ win0_3.index t = ![0, t.val % 4 - 2] ∧ win0_4.index t = ![t.val / 4, 0] :=
  (by decide +kernel : ∀ t : Fin grid0.N, _)

/-- Point `t`'s product: the first two points of four take the first pair, the other two the second. -/
def part (t : Fin cfg0.N) : S1024x1024.Idx → EReal :=
  if t.val % 4 ≤ 1 then P (iblk m c 0 t) (iblk m c 1 t) else P (iblk m c 2 t) (iblk m c 3 t)

theorem part_low (t : Fin cfg0.N) (h : t.val % 4 ≤ 1) : part m c t = P (iblk m c 0 t) (iblk m c 1 t) := if_pos h
theorem part_high (t : Fin cfg0.N) (h : ¬t.val % 4 ≤ 1) : part m c t = P (iblk m c 2 t) (iblk m c 3 t) := if_neg h

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ (by dsimp only; omega) h (by dsimp only; omega) (by dsimp only; omega) (by dsimp only; omega)
    rw [s_A] at e; rw [part_low m c ⟨n, hn⟩ (by dsimp only; omega)]; exact congrArg Prod.snd e
  · by_cases h0 : n % 4 ≤ 1
    · have e := outsAt0_B m c ⟨n, hn⟩ h0 h (by dsimp only; omega) (by dsimp only; omega) h'
      rw [s_B] at e; rw [part_low m c ⟨n, hn⟩ h0]; exact congrArg Prod.snd e
    · have e := outsAt0_C m c ⟨n, hn⟩ h0 (by dsimp only; omega) h'
      rw [s_C] at e; rw [part_high m c ⟨n, hn⟩ h0]; exact congrArg Prod.snd e
  · have e := outsAt0_D m c ⟨n, hn⟩ (by dsimp only; omega) (by dsimp only; omega) h
    rw [o_D] at e; rw [part_high m c ⟨n, hn⟩ (by dsimp only; omega)]; exact congrArg Prod.fst e

/-- Both products in full. -/
theorem arr : (dats m 0 c).arrAt 4 cfg0.N
    = plus (mulNT (M := 8192) (N := 1024) (K := 2816) (m ((c : Thread nD τ).loc main_arg3)) (m ((c : Thread nD τ).loc main_arg1)))
        (mulNT (M := 8192) (N := 1024) (K := 2816) (m ((c : Thread nD τ).loc main_arg4)) (m ((c : Thread nD τ).loc main_arg2))) := by
  refine (dats m 0 c).arrAt_eq_of_covers 4 _ (by decide +kernel) fun t hf y => ?_
  have h : t.val % 4 = 3 := (by decide +kernel : ∀ t : Fin cfg0.N, (cfg0.win 4).flush t = true → t.val % 4 = 3) t hf
  blk_simp
  rw [after0_4, outs m c t h]
  unfold four; beta_reduce
  rw [part_low m c (pt t h 0) (by show (t.val - 3 + 0) % 4 ≤ 1; omega), part_low m c (pt t h 1) (by show (t.val - 3 + 1) % 4 ≤ 1; omega),
    part_high m c (pt t h 2) (by show ¬(t.val - 3 + 2) % 4 ≤ 1; omega), part_high m c (pt t h 3) (by show ¬(t.val - 3 + 3) % 4 ≤ 1; omega), plus_assoc]
  refine plus_block (mulNT_two (fun k => ?_) (fun k => ?_) (fun k => ?_) fun k => ?_) (mulNT_two (fun k => ?_) (fun k => ?_) (fun k => ?_) fun k => ?_) <;>
    blk_point [iblk, V, pt, idx, row]

/-- The call's run: its result, and its arguments as they were. -/
theorem run (g : Dev nD → PrngReg) : θ_run defs (onTc (τ := τ) (main (F := Ideal))) ⟨m, fun _ => 0, g⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 4,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 0).trans (((dats m 0 c).arrAt_in 0 rfl _).trans ((A_eq m c 0).trans (V_main_arg3 m c))),
      ((h c).1 2).trans (((dats m 0 c).arrAt_in 2 rfl _).trans ((A_eq m c 2).trans (V_main_arg4 m c)))⟩)
    (run_main m g)

end Cert.Kernel7Ideal.Prod

/-! ## The claims -/

namespace Cert.Prod.DHn

open Idealize.ShloMosaic Idealize.ShloMosaic.TcCoe Idealize.SL.Sem
open Cert.Reference7Ideal Cert.Reference7Ideal.Read

theorem quiet_ref : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The reference: the same two products, the second one first. -/
theorem ref_at (x1 x2 : (⟨S1024x2816, .bf16⟩ : BufTy).Contents (Elt Ideal)) (x3 x4 : (⟨S8192x2816, .bf16⟩ : BufTy).Contents (Elt Ideal)) :
    val_main_v9 x1 x2 x3 x4 = plus (mulNT (M := 8192) (N := 1024) (K := 2816) x3 x1) (mulNT (M := 8192) (N := 1024) (K := 2816) x4 x2) :=
  (funext fun i => (val_main_v9_apply x1 x2 x3 x4 i).trans (congrArg₂ (fun s s' : EReal => s + s')
    ((val_main_v7_apply x2 x4 i).trans (mulNT_of (a := x4) (b := x2) (fun _ => ix2_ext rfl rfl) fun _ => ix2_ext rfl rfl))
    ((val_main_v8_apply x1 x3 i).trans (mulNT_of (a := x3) (b := x1) (fun _ => ix2_ext rfl rfl) fun _ => ix2_ext rfl rfl)))).trans (plus_comm _ _)

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨_, (θ_run _ _ _).mono (fun r h c => ⟨(h c).1.trans (Cert.Kernel7Ideal.Prod.arr m c), (h c).2⟩) (Cert.Kernel7Ideal.Prod.run m g), ?_⟩
  refine (θ_run _ _ _).mono (fun r h c => ⟨(h c).1.trans ((val_main_v9_eq _ _ _ _).trans ?_), (h c).2⟩) (Cert.Reference7Ideal.Value.run m' g')
  rw [(hagree c).2.1, (hagree c).2.2.1, (hagree c).2.2.2.1, (hagree c).2.2.2.2]
  exact ref_at _ _ _ _

end Cert.Prod.DHn

end
-- ==== Proof.Prod.DwXbc.lean ====
module

public import proofs.«01_k».proof.Defs
public import proofs.«01_k».proof.Proof.Prod.Sums
public import proofs.«01_k».proof.Proof.Gen.Kernel8Ideal.Value
public import proofs.«01_k».proof.Proof.Gen.Reference8Ideal.Read
public import Idealize.ShloMosaic.Lib.Pipeline.ValueKit
public import Idealize.ShloMosaic.Lib.Quiescent

/-! The gradient of the input projection's part for the convolution: four blocks of tokens added up. -/

@[expose] public section

set_option maxRecDepth 16384

noncomputable section

namespace Cert.Kernel8Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1024 .bf16) : S1024x1024.Idx → EReal := mulTN (M := 1024) (N := 1024) (K := 2048) x0 x1

theorem pay (x0 : Vec Ideal S2048x1024 .bf16) (x1 : Vec Ideal S2048x1024 .bf16) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec Ideal S2048x1024 .bf16) (x1 : Vec Ideal S2048x1024 .bf16) (xs : Vec Ideal S1024x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Point `t`'s product. -/
abbrev part (t : Fin cfg0.N) : S1024x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 1024) (N := 3072) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel8Ideal.Prod

/-! ## The claims -/

namespace Cert.Prod.DwXbc

open Idealize.ShloMosaic Idealize.ShloMosaic.TcCoe Idealize.SL.Sem
open Cert.Reference8Ideal Cert.Reference8Ideal.Read

theorem quiet_ref : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run m g)

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨_, (θ_run _ _ _).mono (fun r h c => ⟨(h c).1.trans (Cert.Kernel8Ideal.Prod.arr m c), (h c).2⟩) (Cert.Kernel8Ideal.Value.run_blocks m g), ?_⟩
  refine (θ_run _ _ _).mono (fun r h c => ⟨(h c).1.trans ((val_main_v7_eq _ _).trans ?_), (h c).2⟩) (Cert.Reference8Ideal.Value.run m' g')
  rw [(hagree c).1, (hagree c).2.2]
  exact funext fun i => (val_main_v7_apply _ _ i).trans ((val_main_v5_apply _ _ i).trans ((val_main_v4_apply _ _ _).trans
    (mulTN_of (a := m ((c.tc : Thread Cert.Kernel8Ideal.nD Cert.Kernel8Ideal.τ).loc Cert.Kernel8Ideal.main_arg0))
      (b := m ((c.tc : Thread Cert.Kernel8Ideal.nD Cert.Kernel8Ideal.τ).loc Cert.Kernel8Ideal.main_arg2)) (fun _ => ix2_ext rfl rfl) fun _ => ix2_ext rfl rfl)))

end Cert.Prod.DwXbc

end
-- ==== Proof.Prod.FfnDown.lean ====
module

public import proofs.«01_k».proof.Defs
public import proofs.«01_k».proof.Proof.Prod.Sums
public import proofs.«01_k».proof.Proof.Gen.Kernel9Ideal.Value
public import proofs.«01_k».proof.Proof.Gen.Reference9Ideal.Read
public import Idealize.ShloMosaic.Lib.Pipeline.ValueKit
public import Idealize.ShloMosaic.Lib.Quiescent

/-! The second feed-forward product with its residual: two blocks of the hidden units added up. -/

@[expose] public section

set_option maxRecDepth 16384

noncomputable section

namespace Cert.Kernel9Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S1024x1408 .bf16) (x1 : Vec Ideal S1408x1024 .bf16) : S1024x1024.Idx → EReal := mulNN (M := 1024) (N := 1024) (K := 1408) x0 x1

theorem pay (x0 : Vec Ideal S1024x1408 .bf16) (x1 : Vec Ideal S1408x1024 .bf16) : k0_pay1 x0 x1 = P x0 x1 := by
  funext i; idx_vars i; pointwise [k0_pay1]; rfl

section
variable (c : Dev nD) (i : grid0.Coords) (arg3 : Memref sig .tc .vmem S1024x1408 .bf16) (harg3 : arg3.IsWhole)
  (arg4 : Memref sig .tc .vmem S1408x1024 .bf16) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1024x1024 .f32) (harg7 : arg7.IsWhole)
  (x0 : Vec Ideal S1024x1408 .bf16) (x1 : Vec Ideal S1408x1024 .bf16) (x2 xs : Vec Ideal S1024x1024 .f32)

/-- The first point of two stores its product, -/
theorem s_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- and the other one hands over the sum of both and the residual. -/
theorem o_B (hc0 : ¬cond0_0 i) (hc1 : cond0_1 i) (hc2 : cond0_2 i) :
    out0_B_3 c i arg3 harg3 arg4 harg4 arg5 harg5 arg6 harg6 arg7 harg7 hc0 hc1 hc2 x0 x1 x2 xs = plus (plus xs (P x0 x1)) x2 := by
  refine (stored VO0_3 _ hz _ _).trans ((congrArg₂ (k0_pay4 (F := Ideal)) ((View.readCov_unit_zero _ hz _ _).trans
    (congr (congrArg₂ (k0_pay3 (F := Ideal)) (loaded harg3 hz _ x0) (loaded harg4 hz _ x1)) (loaded harg7 hz _ xs))) (loaded harg5 hz _ x2)).trans ?_)
  exact congrArg (fun s : S1024x1024.Idx → EReal => plus s x2) ((shapeCast_self _ _).trans (congrArg (plus xs) (pay x0 x1)))
end

/-! ## The result -/

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- Point `t`'s product. -/
abbrev part (t : Fin cfg0.N) : S1024x1024.Idx → EReal := P (iblk m c 0 t) (iblk m c 1 t)

/-- The point before `t`. -/
def prev (t : Fin cfg0.N) : Fin cfg0.N := ⟨t.val - 1, by have := t.isLt; omega⟩

/-- What the second of two points hands over. -/
theorem outs (t : Fin cfg0.N) (h : t.val % 2 = 1) :
    (outsAt0 m c t.val t.isLt).1 = plus (plus (part m c (prev t)) (part m c t)) (iblk m c 2 t) := by
  have e0 := outsAt0_A m c (prev t) (by show (t.val - 1) % 2 = 0; omega) (by show ¬(t.val - 1) % 2 = 1; omega) (by show ¬(t.val - 1) % 2 = 1; omega)
  have e1 := outsAt0_B m c t (by omega) h h
  rw [s_A] at e0
  rw [o_B] at e1
  have e0' := congrArg Prod.snd e0
  have e1' := congrArg Prod.fst e1
  exact e1'.trans (congrArg (fun s : S1024x1024.Idx → EReal => plus (plus s (part m c t)) (iblk m c 2 t)) e0')

/-- The product in full, and the residual. -/
theorem arr : (dats m 0 c).arrAt 3 cfg0.N
    = plus (mulNN (M := 8192) (N := 1024) (K := 2816) (m ((c : Thread nD τ).loc main_arg0)) (m ((c : Thread nD τ).loc main_arg1))) (m ((c : Thread nD τ).loc main_arg2)) := by
  refine (dats m 0 c).arrAt_eq_of_covers 3 _ (by decide +kernel) fun t hf y => ?_
  have h : t.val % 2 = 1 := (by decide +kernel : ∀ t : Fin cfg0.N, (cfg0.win 3).flush t = true → t.val % 2 = 1) t hf
  blk_simp
  rw [after0_3, outs m c t h]
  refine plus_block (mulNN_two (fun k => ?_) (fun k => ?_) (fun k => ?_) fun k => ?_) ?_ <;> blk_point [iblk, V, prev, idx, row]

end Cert.Kernel9Ideal.Prod

/-! ## The claims -/

namespace Cert.Prod.FfnDown

open Idealize.ShloMosaic Idealize.ShloMosaic.TcCoe Idealize.SL.Sem
open Cert.Reference9Ideal Cert.Reference9Ideal.Read

theorem quiet_ref : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

/-- The reference: the residual, and the product. -/
theorem ref_at (x0 : (⟨S8192x2816, .bf16⟩ : BufTy).Contents (Elt Ideal)) (x1 : (⟨S2816x1024, .bf16⟩ : BufTy).Contents (Elt Ideal)) (x2 : (⟨S8192x1024, .f32⟩ : BufTy).Contents (Elt Ideal)) :
    val_main_v3 x0 x1 x2 = plus (mulNN (M := 8192) (N := 1024) (K := 2816) x0 x1) x2 :=
  (funext fun i => (val_main_v3_apply x0 x1 x2 i).trans (congrArg (fun s : EReal => (x2 i : EReal) + s) ((val_main_v2_apply x0 x1 i).trans
    (mulNN_of (a := x0) (b := x1) (fun _ => ix2_ext rfl rfl) fun _ => ix2_ext rfl rfl)))).trans (plus_comm _ _)

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨_, (θ_run _ _ _).mono (fun r h c => ⟨(h c).1.trans (Cert.Kernel9Ideal.Prod.arr m c), (h c).2⟩) (Cert.Kernel9Ideal.Value.run_blocks m g), ?_⟩
  refine (θ_run _ _ _).mono (fun r h c => ⟨(h c).1.trans ((val_main_v3_eq _ _ _).trans ?_), (h c).2⟩) (Cert.Reference9Ideal.Value.run m' g')
  rw [(hagree c).1, (hagree c).2.1, (hagree c).2.2]
  exact ref_at _ _ _

end Cert.Prod.FfnDown

end
-- ==== Proof.Prod.DwProjB.lean ====
module

public import proofs.«01_k».proof.Defs
public import proofs.«01_k».proof.Proof.Prod.Sums
public import proofs.«01_k».proof.Proof.Gen.Kernel10Ideal.Value
public import proofs.«01_k».proof.Proof.Gen.Reference10Ideal.Read
public import Idealize.ShloMosaic.Lib.Pipeline.ValueKit
public import Idealize.ShloMosaic.Lib.Quiescent

/-! The gradient of the second mixer's projection: four blocks of tokens added up. -/

@[expose] public section

set_option maxRecDepth 16384

noncomputable section

namespace Cert.Kernel10Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1024 .bf16) : S1024x1024.Idx → EReal := mulTN (M := 1024) (N := 1024) (K := 2048) x0 x1

theorem pay (x0 : Vec Ideal S2048x1024 .bf16) (x1 : Vec Ideal S2048x1024 .bf16) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec Ideal S2048x1024 .bf16) (x1 : Vec Ideal S2048x1024 .bf16) (xs : Vec Ideal S1024x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- Point `t`'s product. -/
abbrev part (t : Fin cfg0.N) : S1024x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 2048) (N := 1024) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel10Ideal.Prod

/-! ## The claims -/

namespace Cert.Prod.DwProjB

open Idealize.ShloMosaic Idealize.ShloMosaic.TcCoe Idealize.SL.Sem
open Cert.Reference10Ideal Cert.Reference10Ideal.Read

theorem quiet_ref : Cert.quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run m g)

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨_, (θ_run _ _ _).mono (fun r h c => ⟨(h c).1.trans (Cert.Kernel10Ideal.Prod.arr m c), (h c).2⟩) (Cert.Kernel10Ideal.Value.run_blocks m g), ?_⟩
  refine (θ_run _ _ _).mono (fun r h c => ⟨(h c).1.trans ((val_main_v7_eq _ _).trans ?_), (h c).2⟩) (Cert.Reference10Ideal.Value.run m' g')
  rw [(hagree c).1, (hagree c).2.2]
  exact funext fun i => (val_main_v7_apply _ _ i).trans ((val_main_v5_apply _ _ i).trans ((val_main_v4_apply _ _ _).trans
    (mulTN_of (a := m ((c.tc : Thread Cert.Kernel10Ideal.nD Cert.Kernel10Ideal.τ).loc Cert.Kernel10Ideal.main_arg0))
      (b := m ((c.tc : Thread Cert.Kernel10Ideal.nD Cert.Kernel10Ideal.τ).loc Cert.Kernel10Ideal.main_arg2)) (fun _ => ix2_ext rfl rfl) fun _ => ix2_ext rfl rfl)))

end Cert.Prod.DwProjB

end
-- ==== Proof.Prod.DwOut.lean ====
module

public import proofs.«01_k».proof.Defs
public import proofs.«01_k».proof.Proof.Prod.Sums
public import proofs.«01_k».proof.Proof.Gen.Kernel11Ideal.Value
public import proofs.«01_k».proof.Proof.Gen.Reference11Ideal.Read
public import Idealize.ShloMosaic.Lib.Pipeline.ValueKit
public import Idealize.ShloMosaic.Lib.Quiescent

/-! The gradient of the output projection: four blocks of tokens added up. -/

@[expose] public section

set_option maxRecDepth 16384

noncomputable section

namespace Cert.Kernel11Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1024 .f32) : S1024x1024.Idx → EReal := mulTN (M := 1024) (N := 1024) (K := 2048) x0 x1

theorem pay (x0 : Vec Ideal S2048x1024 .bf16) (x1 : Vec Ideal S2048x1024 .f32) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1024 .f32) (harg4 : arg4.IsWhole) (arg5 : Memref sig .tc .vmem S1024x1024 .bf16) (harg5 : arg5.IsWhole)
  (arg6 : Memref sig .tc .vmem S1024x1024 .f32) (harg6 : arg6.IsWhole)
  (x0 : Vec Ideal S2048x1024 .bf16) (x1 : Vec Ideal S2048x1024 .f32) (xs : Vec Ideal S1024x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, 0] ∧ win0_1.index t = ![t.val % 4, 0] ∧ win0_2.index t = ![0, 0] :=
  (by decide +kernel : ∀ t : Fin grid0.N, _)

/-- Point `t`'s product. -/
abbrev part (t : Fin cfg0.N) : S1024x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by have := lt_of_lt_of_eq hn (show cfg0.N = 4 from N_0); dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 1024) (N := 1024) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel11Ideal.Prod

/-! ## The claims -/

namespace Cert.Prod.DwOut

open Idealize.ShloMosaic Idealize.ShloMosaic.TcCoe Idealize.SL.Sem
open Cert.Reference11Ideal Cert.Reference11Ideal.Read

theorem quiet_ref : Cert.quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run m g)

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨_, (θ_run _ _ _).mono (fun r h c => ⟨(h c).1.trans (Cert.Kernel11Ideal.Prod.arr m c), (h c).2⟩) (Cert.Kernel11Ideal.Value.run_blocks m g), ?_⟩
  refine (θ_run _ _ _).mono (fun r h c => ⟨(h c).1.trans ((val_main_v6_eq _ _).trans ?_), (h c).2⟩) (Cert.Reference11Ideal.Value.run m' g')
  rw [(hagree c).1, (hagree c).2.2]
  exact funext fun i => (val_main_v6_apply _ _ i).trans ((val_main_v4_apply _ _ i).trans ((val_main_v3_apply _ _ _).trans
    (mulTN_of (a := m ((c.tc : Thread Cert.Kernel11Ideal.nD Cert.Kernel11Ideal.τ).loc Cert.Kernel11Ideal.main_arg0))
      (b := m ((c.tc : Thread Cert.Kernel11Ideal.nD Cert.Kernel11Ideal.τ).loc Cert.Kernel11Ideal.main_arg2)) (fun _ => ix2_ext rfl rfl) fun _ => ix2_ext rfl rfl)))

end Cert.Prod.DwOut

end
-- ==== Proof.Prod.DwProjA.lean ====
module

public import proofs.«01_k».proof.Defs
public import proofs.«01_k».proof.Proof.Prod.Sums
public import proofs.«01_k».proof.Proof.Gen.Kernel12Ideal.Value
public import proofs.«01_k».proof.Proof.Gen.Reference12Ideal.Read
public import Idealize.ShloMosaic.Lib.Pipeline.ValueKit
public import Idealize.ShloMosaic.Lib.Quiescent

/-! The gradient of the first mixer's projection: four blocks of tokens added up. -/

@[expose] public section

set_option maxRecDepth 16384

noncomputable section

namespace Cert.Kernel12Ideal.Prod

open Idealize.ShloMosaic Idealize.ShloMosaic.TcCoe Idealize.ShloMosaic.Tactic Idealize.SL.Sem
open Gen Value Cert.Prod

/-! ## What a point leaves -/

/-- A point's product. -/
abbrev P (x0 : Vec Ideal S2048x1024 .bf16) (x1 : Vec Ideal S2048x1024 .bf16) : S1024x1024.Idx → EReal := mulTN (M := 1024) (N := 1024) (K := 2048) x0 x1

theorem pay (x0 : Vec Ideal S2048x1024 .bf16) (x1 : Vec Ideal S2048x1024 .bf16) : k0_pay1 x0 x1 = P x0 x1 := by
  funext i; idx_vars i; pointwise [k0_pay1]; rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec Ideal S2048x1024 .bf16) (x1 : Vec Ideal S2048x1024 .bf16) (xs : Vec Ideal S1024x1024 .f32)

/-- The first point of four stores its product, -/
theorem s_A (hc0 : cond0_0 i) (hc1 : ¬cond0_1 i) (hc2 : ¬cond0_2 i) :
    sout0_A_0 c i arg3 harg3 arg4 harg4 arg5 harg5 arg6 harg6 hc0 hc1 hc2 x0 x1 = P x0 x1 := by
  refine (stored VS0_0 _ hz _ _).trans ((congrArg₂ (k0_pay2 (F := Ideal)) (loaded harg3 hz _ x0) (loaded harg4 hz _ x1)).trans ?_)
  exact (shapeCast_self _ _).trans (pay x0 x1)

/-- the next ones add theirs, -/
theorem s_B (hc0 : ¬cond0_0 i) (hc1 : cond0_1 i) (hc2 : ¬cond0_2 i) :
    sout0_B_0 c i arg3 harg3 arg4 harg4 arg5 harg5 arg6 harg6 hc0 hc1 hc2 x0 x1 xs = plus xs (P x0 x1) := by
  refine (stored VS0_0 _ hz _ _).trans ((congr (congrArg₂ (k0_pay3 (F := Ideal)) (loaded harg3 hz _ x0) (loaded harg4 hz _ x1)) (loaded harg6 hz _ xs)).trans ?_)
  exact (shapeCast_self _ _).trans (congrArg (plus xs) (pay x0 x1))

/-- and the last one hands the sum over. -/
theorem o_C (hc0 : ¬cond0_0 i) (hc1 : cond0_1 i) (hc2 : cond0_2 i) :
    out0_C_2 c i arg3 harg3 arg4 harg4 arg5 harg5 arg6 harg6 hc0 hc1 hc2 x0 x1 xs = plus xs (P x0 x1) := by
  refine (stored VO0_2 _ hz _ _).trans ((congrArg (k0_pay4 (F := Ideal)) ((View.readCov_unit_zero _ hz _ _).trans
    (congr (congrArg₂ (k0_pay3 (F := Ideal)) (loaded harg3 hz _ x0) (loaded harg4 hz _ x1)) (loaded harg6 hz _ xs)))).trans ?_)
  exact (shapeCast_self _ _).trans (congrArg (plus xs) (pay x0 x1))
end

/-! ## The result -/

variable (m : (ℓ : Loc nD τ sig) → Buf (Elt Ideal) ℓ) (c : Dev nD)

theorem idx : ∀ t : Fin cfg0.N, win0_0.index t = ![t.val % 4, 0] ∧ win0_1.index t = ![t.val % 4, 0] ∧ win0_2.index t = ![0, 0] :=
  (by decide +kernel : ∀ t : Fin grid0.N, _)

/-- Point `t`'s product. -/
abbrev part (t : Fin cfg0.N) : S1024x1024.Idx → EReal := P (iblk m c 0 t) (iblk m c 1 t)

/-- What the last of four points hands over. -/
theorem outs (t : Fin cfg0.N) (h : t.val % 4 = 3) : (outsAt0 m c t.val t.isLt).1 = four fun q => part m c (pt t h q) := by
  refine four_of (outsAt0 m c) (part m c) (fun n hn h => ?_) (fun n hn h h' => ?_) (fun n hn h => ?_) t h
  · have e := outsAt0_A m c ⟨n, hn⟩ h (by have := lt_of_lt_of_eq hn (show cfg0.N = 4 from N_0); dsimp only; omega) (by dsimp only; omega)
    rw [s_A] at e; exact congrArg Prod.snd e
  · have e := outsAt0_B m c ⟨n, hn⟩ h (by dsimp only; omega) h'
    rw [s_B] at e; exact congrArg Prod.snd e
  · have e := outsAt0_C m c ⟨n, hn⟩ (by dsimp only; omega) (by dsimp only; omega) h
    rw [o_C] at e; exact congrArg Prod.fst e

/-- The product in full. -/
theorem arr : (dats m 0 c).arrAt 2 cfg0.N
    = mulTN (M := 1024) (N := 1024) (K := 8192) (m ((c : Thread nD τ).loc main_arg0)) (m ((c : Thread nD τ).loc main_arg2)) := by
  refine (dats m 0 c).arrAt_eq_of_covers 2 _ (by decide +kernel) fun t hf y => ?_
  have h : t.val % 4 = 3 := (by decide +kernel : ∀ t : Fin cfg0.N, (cfg0.win 2).flush t = true → t.val % 4 = 3) t hf
  blk_simp
  rw [after0_2, outs m c t h]
  refine mulTN_four (fun q k => ?_) (fun q k => ?_) <;> blk_point [iblk, V, pt, idx, row]

end Cert.Kernel12Ideal.Prod

/-! ## The claims -/

namespace Cert.Prod.DwProjA

open Idealize.ShloMosaic Idealize.ShloMosaic.TcCoe Idealize.SL.Sem
open Cert.Reference12Ideal Cert.Reference12Ideal.Read

theorem quiet_ref : Cert.quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨_, (θ_run _ _ _).mono (fun r h c => ⟨(h c).1.trans (Cert.Kernel12Ideal.Prod.arr m c), (h c).2⟩) (Cert.Kernel12Ideal.Value.run_blocks m g), ?_⟩
  refine (θ_run _ _ _).mono (fun r h c => ⟨(h c).1.trans ((val_main_v7_eq _ _).trans ?_), (h c).2⟩) (Cert.Reference12Ideal.Value.run m' g')
  rw [(hagree c).1, (hagree c).2.2]
  exact funext fun i => (val_main_v7_apply _ _ i).trans ((val_main_v5_apply _ _ i).trans ((val_main_v4_apply _ _ _).trans
    (mulTN_of (a := m ((c.tc : Thread Cert.Kernel12Ideal.nD Cert.Kernel12Ideal.τ).loc Cert.Kernel12Ideal.main_arg0))
      (b := m ((c.tc : Thread Cert.Kernel12Ideal.nD Cert.Kernel12Ideal.τ).loc Cert.Kernel12Ideal.main_arg2)) (fun _ => ix2_ext rfl rfl) fun _ => ix2_ext rfl rfl)))

end Cert.Prod.DwProjA

end
-- ==== Proof.Prod.FfnAct.lean ====
module

public import proofs.«01_k».proof.Defs
public import proofs.«01_k».proof.Proof.Prod.Sums
public import proofs.«01_k».proof.Proof.Gen.Kernel13Ideal.Value
public import proofs.«01_k».proof.Proof.Gen.Reference13Ideal.Read
public import Idealize.ShloMosaic.Lib.Pipeline.ValueKit
public import Idealize.ShloMosaic.Lib.Quiescent

/-! The gradient of the feed-forward gate, `silu gate * value`, entry by entry. -/

@[expose] public section

set_option maxRecDepth 16384

noncomputable section

namespace Cert.Prod

open Idealize.ShloMosaic

/-- The gate's gradient at an entry, -/
def gateD (d g v : EReal) : EReal :=
  d * v * Ideal.logistic g + g * (d * v) * (Ideal.logistic g * (Ideal.ofBits .f32 0x3F800000#32 - Ideal.logistic g))
/-- and the value's. -/
def valD (d g : EReal) : EReal := g * Ideal.logistic g * d

/-- Every store of the list is the part of one array that its rectangle names. -/
def Rows {S : Shape} {e : EltTy} (L : List (View.Piece (Elt Ideal) S e)) (G : S.Idx → Elt Ideal e) : Prop :=
  ∀ p ∈ L, ∀ x : p.1.shape.Idx, p.2 x = G (p.1.emb x)

theorem Rows.append {S : Shape} {e : EltTy} {L L' : List (View.Piece (Elt Ideal) S e)} {G : S.Idx → Elt Ideal e} (h : Rows L G) (h' : Rows L' G) :
    Rows (L ++ L') G := fun p hp => (List.mem_append.mp hp).elim (h p) (h' p)

/-- Such stores that cover a buffer leave the array in it. -/
theorem Rows.read {sig : RefSig} {κ : Kind} {sp : Space} {S : Shape} {e : EltTy} {L : List (View.Piece (Elt Ideal) S e)} {G : S.Idx → Elt Ideal e}
    (h : Rows L G) (v : View sig κ sp S e) (hc : ∀ y, ∃ p ∈ L, y ∈ p.1.set) :
    v.read (Elt Ideal) (v.writes (Elt Ideal) v.junk L) = G :=
  (View.read_writes_junk_eq_canon v L).trans (funext fun y => View.canon_apply_of_pieces G L h y (hc y))

end Cert.Prod

namespace Cert.Kernel13Ideal.Prod

open Idealize.ShloMosaic Idealize.ShloMosaic.TcCoe Idealize.ShloMosaic.Tactic Idealize.SL.Sem
open Gen Value Cert.Prod

/-- What the four stores of a trip into the first result hold, -/
theorem pay_gate (a b v : Vec Ideal S16x2816 .bf16) :
    k0_pay9 a b v = (fun j => gateD (a j) (b j) (v j)) ∧ k0_pay14 (k0_pay11 a) (k0_pay12 b) v = (fun j => gateD (a j) (b j) (v j))
      ∧ k0_pay19 a b v = (fun j => gateD (a j) (b j) (v j)) ∧ k0_pay4 a b v = (fun j => gateD (a j) (b j) (v j)) := ⟨rfl, rfl, rfl, rfl⟩

/-- and into the second. -/
theorem pay_val (a b : Vec Ideal S16x2816 .bf16) :
    k0_pay10 a b = (fun j => valD (a j) (b j)) ∧ k0_pay15 (k0_pay11 a) (k0_pay12 b) = (fun j => valD (a j) (b j))
      ∧ k0_pay20 a b = (fun j => valD (a j) (b j)) ∧ k0_pay5 a b = (fun j => valD (a j) (b j)) := ⟨rfl, rfl, rfl, rfl⟩

section
variable (𝒱 : Variants) (c : Dev nD) (bd : Option 𝒱.V) (i : grid0.Coords) (arg1 : Memref sig .tc .vmem S512x2816 .bf16) (harg1 : arg1.IsWhole)
  (arg2 : Memref sig .tc .vmem S512x2816 .bf16) (harg2 : arg2.IsWhole) (arg3 : Memref sig .tc .vmem S512x2816 .bf16) (harg3 : arg3.IsWhole)
  (arg4 : Memref sig .tc .vmem S512x2816 .bf16) (harg4 : arg4.IsWhole) (arg5 : Memref sig .tc .vmem S512x2816 .bf16) (harg5 : arg5.IsWhole)
  (X1 : BufTy.Contents (Elt Ideal) arg1.view.ty) (X2 : BufTy.Contents (Elt Ideal) arg2.view.ty) (X3 : BufTy.Contents (Elt Ideal) arg3.view.ty)

/-- The gate's gradient of the three blocks, -/
abbrev gateB (a b v : Vec Ideal S512x2816 .bf16) : S512x2816.Idx → EReal := fun j => gateD (a j) (b j) (v j)
/-- and the value's. -/
abbrev valB (a b : Vec Ideal S512x2816 .bf16) : S512x2816.Idx → EReal := fun j => valD (a j) (b j)

/-- Every store of a trip into the two results is rows of the gradients. -/
theorem trip_rows (k : Fin k0_t1_loop.trips) :
    Rows (trip_k0_t1 (F := Ideal) 𝒱 c bd i arg1 harg1 arg2 harg2 arg3 harg3 arg4 harg4 arg5 harg5 X1 X2 X3 k).1
        (gateB (arg1.view.read (Elt Ideal) X1) (arg2.view.read (Elt Ideal) X2) (arg3.view.read (Elt Ideal) X3))
      ∧ Rows (trip_k0_t1 (F := Ideal) 𝒱 c bd i arg1 harg1 arg2 harg2 arg3 harg3 arg4 harg4 arg5 harg5 X1 X2 X3 k).2.1
        (valB (arg1.view.read (Elt Ideal) X1) (arg2.view.read (Elt Ideal) X2)) := by
  unfold trip_k0_t1
  dsimp only
  sl_unfold_run_names
  simp only [Rows, List.forall_mem_cons]
  exact ⟨⟨congrFun (pay_gate _ _ _).2.2.2, congrFun (pay_gate _ _ _).2.2.1, congrFun (pay_gate _ _ _).2.1, congrFun (pay_gate _ _ _).1, fun _ h => absurd h List.not_mem_nil⟩,
    congrFun (pay_val _ _).2.2.2, congrFun (pay_val _ _).2.2.1, congrFun (pay_val _ _).2.1, congrFun (pay_val _ _).1, fun _ h => absurd h List.not_mem_nil⟩

/-- So is every store of the trips so far. -/
theorem pb_rows : ∀ n, n ≤ k0_t1_loop.trips →
    Rows (pb_k0_t1 (F := Ideal) 𝒱 c bd i arg1 harg1 arg2 harg2 arg3 harg3 arg4 harg4 arg5 harg5 X1 X2 X3 n).1
        (gateB (arg1.view.read (Elt Ideal) X1) (arg2.view.read (Elt Ideal) X2) (arg3.view.read (Elt Ideal) X3))
      ∧ Rows (pb_k0_t1 (F := Ideal) 𝒱 c bd i arg1 harg1 arg2 harg2 arg3 harg3 arg4 harg4 arg5 harg5 X1 X2 X3 n).2
        (valB (arg1.view.read (Elt Ideal) X1) (arg2.view.read (Elt Ideal) X2))
  | 0, _ => ⟨fun _ h => absurd h List.not_mem_nil, fun _ h => absurd h List.not_mem_nil⟩
  | n + 1, h => by
    have e := pb_k0_t1_succ (F := Ideal) 𝒱 c bd i arg1 harg1 arg2 harg2 arg3 harg3 arg4 harg4 arg5 harg5 X1 X2 X3 ⟨n, h⟩
    have t := trip_rows 𝒱 c bd i arg1 harg1 arg2 harg2 arg3 harg3 arg4 harg4 arg5 harg5 X1 X2 X3 ⟨n, h⟩
    have r := pb_rows n (Nat.le_of_succ_le h)
    dsimp only at e
    rw [e]
    exact ⟨t.1.append r.1, t.2.append r.2⟩

variable (x0 x1 x2 : Vec Ideal S512x2816 .bf16)

/-- What a point leaves of the gate's gradient, -/
theorem out3 : out0_A_3 c i arg1 harg1 arg2 harg2 arg3 harg3 arg4 harg4 arg5 harg5 x0 x1 x2 = gateB x0 x1 x2 := by
  have h := (pb_rows Variants.none c none i arg1 harg1 arg2 harg2 arg3 harg3 arg4 harg4 arg5 harg5 (harg1.unread x0) (harg2.unread x1) (harg3.unread x2) _ le_rfl).1
  rw [harg1.read_unread, harg2.read_unread, harg3.read_unread] at h
  exact h.read VO0_3 (cover0_A_3 c i arg1 harg1 arg2 harg2 arg3 harg3 arg4 harg4 arg5 harg5 x0 x1 x2)

/-- and of the value's. -/
theorem out4 : out0_A_4 c i arg1 harg1 arg2 harg2 arg3 harg3 arg4 harg4 arg5 harg5 x0 x1 x2 = valB x0 x1 := by
  have h := (pb_rows Variants.none c none i arg1 harg1 arg2 harg2 arg3 harg3 arg4 harg4 arg5 harg5 (harg1.unread x0) (harg2.unread x1) (harg3.unread x2) _ le_rfl).2
  rw [harg1.read_unread, harg2.read_unread] at h
  exact h.read VO0_4 (cover0_A_4 c i arg1 harg1 arg2 harg2 arg3 harg3 arg4 harg4 arg5 harg5 x0 x1 x2)
end

/-! ## The results -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The gate's gradient in full, -/
theorem arr3 : (dats m 0 c).arrAt 3 cfg0.N = fun j : S8192x2816.Idx => gateD (m ((c : Thread nD τ).loc main_arg0) j)
    (m ((c : Thread nD τ).loc main_arg1) j) (m ((c : Thread nD τ).loc main_arg2) j) := by
  refine (dats m 0 c).arrAt_eq_of_covers 3 _ (by decide +kernel) fun t hf y => ?_
  blk_simp
  rw [after0_3, outsAt0, out3]
  refine congr (congrArg₂ gateD ?_ ?_) ?_ <;> blk_point [iblk, V, idx]

/-- and the value's. -/
theorem arr4 : (dats m 0 c).arrAt 4 cfg0.N = fun j : S8192x2816.Idx => valD (m ((c : Thread nD τ).loc main_arg0) j)
    (m ((c : Thread nD τ).loc main_arg1) j) := by
  refine (dats m 0 c).arrAt_eq_of_covers 4 _ (by decide +kernel) fun t hf y => ?_
  blk_simp
  rw [after0_4, outsAt0, out4]
  refine congrArg₂ valD ?_ ?_ <;> blk_point [iblk, V, idx]

end Cert.Kernel13Ideal.Prod

/-! ## The claims -/

namespace Cert.Prod.FfnAct

open Idealize.ShloMosaic Idealize.ShloMosaic.TcCoe Idealize.SL.Sem
open Cert.Reference13Ideal Cert.Reference13Ideal.Read

theorem quiet_ref : Cert.quiescent_Reference13Ideal (hReference13Ideal := Cert.Reference13Ideal.Gen.facts) := fun m g _ =>
  (θ_run _ _ _).mono (fun r h => ⟨fun c => (h c).2.2, sem_eq_zero_of_no_sems (by decide) r.2⟩) (Cert.Reference13Ideal.Value.run m g)

/-- The logistic function written out as the reference does. -/
theorem sigmoid (x : EReal) : Ideal.div (Ideal.ofBits .f32 0x3F800000#32) (Ideal.ofBits .f32 0x3F800000#32 + Ideal.exp (-x)) = Ideal.logistic x := by
  rw [Ideal.ofBits_one_f32]; rfl

theorem ref_gate (d g v) (j : S8192x2816.Idx) : val_main_v8 (F := Ideal) d g v j = gateD (d j) (g j) (v j) := by
  have h : val_main_v2_2 (F := Ideal) g j = Ideal.logistic (g j) := sigmoid (g j)
  show d j * v j * val_main_v2_2 (F := Ideal) g j
    + g j * (d j * v j) * (val_main_v2_2 (F := Ideal) g j * (Ideal.ofBits .f32 0x3F800000#32 - val_main_v2_2 (F := Ideal) g j)) = _
  rw [h]; rfl

theorem ref_val (d g) (j : S8192x2816.Idx) : val_main_v9 (F := Ideal) d g j = valD (d j) (g j) := by
  have h : val_main_v2_2 (F := Ideal) g j = Ideal.logistic (g j) := sigmoid (g j)
  show g j * val_main_v2_2 (F := Ideal) g j * d j = _
  rw [h]; rfl

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨_, _, (θ_run _ _ _).mono (fun r h c => ⟨(h c).1.trans (Cert.Kernel13Ideal.Prod.arr3 m c), (h c).2.1.trans (Cert.Kernel13Ideal.Prod.arr4 m c), (h c).2.2⟩)
    (Cert.Kernel13Ideal.Value.run_blocks m g), ?_⟩
  refine (θ_run _ _ _).mono (fun r h c => ⟨(h c).1.trans ((val_main_v8_eq _ _ _).trans ?_), (h c).2.1.trans ((val_main_v9_eq _ _).trans ?_), (h c).2.2⟩)
    (Cert.Reference13Ideal.Value.run m' g')
  · rw [(hagree c).1, (hagree c).2.1, (hagree c).2.2]; exact funext (ref_gate _ _ _)
  · rw [(hagree c).1, (hagree c).2.1]; exact funext (ref_val _ _)

end Cert.Prod.FfnAct

end
-- ==== Proof.Prod.MergeBwd.lean ====
module

public import proofs.«01_k».proof.Defs
public import proofs.«01_k».proof.Proof.Prod.FfnAct
public import proofs.«01_k».proof.Proof.Gen.Kernel14Ideal.Value
public import proofs.«01_k».proof.Proof.Gen.Reference14Ideal.Read
public import Idealize.ShloMosaic.Lib.Pipeline.ValueKit
public import Idealize.ShloMosaic.Lib.ValueLayout
public import Idealize.ShloMosaic.Lib.Quiescent

/-! The gradient of the gated merge, `sigmoid (ga + b0) * ya + sigmoid (gb + b1) * yb`: the gates', the two branches' and the biases'. -/

@[expose] public section

set_option maxRecDepth 16384

noncomputable section

namespace Cert.Prod

open Idealize.ShloMosaic

/-- A gate's gradient, from the result's, the branch and the gate with its bias, -/
def sideD (d y z : EReal) : EReal := d * y * (Ideal.logistic z * (Ideal.ofBits .f32 0x3F800000#32 - Ideal.logistic z))

/-- of all rows, -/
def mergeG {n : ℕ} (g y d : (⟨2, ![n, 1024]⟩ : Shape).Idx → EReal) (b : (⟨2, ![1, 1024]⟩ : Shape).Idx → EReal) : (⟨2, ![n, 1024]⟩ : Shape).Idx → EReal :=
  fun j => sideD (d j) (y j) (g j + b (ix2 0 (j 1)))
/-- and the branch's. -/
def mergeY {n : ℕ} (g d : (⟨2, ![n, 1024]⟩ : Shape).Idx → EReal) (b : (⟨2, ![1, 1024]⟩ : Shape).Idx → EReal) : (⟨2, ![n, 1024]⟩ : Shape).Idx → EReal :=
  fun j => Ideal.logistic (g j + b (ix2 0 (j 1))) * d j

/-- Two arrays side by side. -/
def side {n : ℕ} (A B : (⟨2, ![n, 1024]⟩ : Shape).Idx → EReal) : (⟨2, ![n, 2048]⟩ : Shape).Idx → EReal := fun j =>
  if h : (j 1).val < 1024 then A (ix2 (j 0) ⟨(j 1).val, h⟩)
  else B (ix2 (j 0) ⟨(j 1).val - 1024, by have : (j 1).val < 2048 := (j 1).isLt; omega⟩)

theorem side_block {n N : ℕ} {A B : (⟨2, ![n, 1024]⟩ : Shape).Idx → EReal} {A' B' : (⟨2, ![N, 1024]⟩ : Shape).Idx → EReal}
    {y : (⟨2, ![n, 2048]⟩ : Shape).Idx} {i : (⟨2, ![N, 2048]⟩ : Shape).Idx} (h : (y 1).val = (i 1).val)
    (ha : ∀ e, A (ix2 (y 0) e) = A' (ix2 (i 0) e)) (hb : ∀ e, B (ix2 (y 0) e) = B' (ix2 (i 0) e)) : side A B y = side A' B' i := by
  unfold side
  simp only [h]
  split
  · exact ha _
  · exact hb _

theorem concat_side {n : ℕ} (A B : (⟨2, ![n, 1024]⟩ : Shape).Idx → EReal)
    (h : Shape.Concatenates [⟨2, ![n, 1024]⟩, ⟨2, ![n, 1024]⟩] (⟨2, ![n, 2048]⟩ : Shape) 1) :
    concatenate ⟨2, ![n, 2048]⟩ 1 [⟨⟨2, ![n, 1024]⟩, A⟩, ⟨⟨2, ![n, 1024]⟩, B⟩] h = side A B := funext fun j => by
  unfold side
  split
  · exact concatenate_pair_apply_left (t := ⟨2, ![n, 2048]⟩) (s₁ := ⟨2, ![n, 1024]⟩) (s₂ := ⟨2, ![n, 1024]⟩) 1 A B h j rfl _
      fun b => match b with | ⟨0, _⟩ => rfl | ⟨1, _⟩ => rfl
  · refine concatenate_pair_apply_right (t := ⟨2, ![n, 2048]⟩) (s₁ := ⟨2, ![n, 1024]⟩) (s₂ := ⟨2, ![n, 1024]⟩) 1 A B h j rfl rfl _
      (fun b hb => match b, hb with | ⟨0, _⟩, _ => rfl | ⟨1, _⟩, hb => absurd rfl hb) ?_
    show (j 1).val - 1024 + 1024 = (j 1).val
    omega

/-- Column `a` of an array, row by row. -/
def col {n : ℕ} (f : (⟨2, ![n, 1024]⟩ : Shape).Idx → EReal) (a : Fin 1024) (k : ℕ) : EReal := if h : k < n then f (ix2 ⟨k, h⟩ a) else 0

theorem col_of {n : ℕ} (f : (⟨2, ![n, 1024]⟩ : Shape).Idx → EReal) (a : Fin 1024) (k : ℕ) (h : k < n) : col f a k = f (ix2 ⟨k, h⟩ a) := dif_pos h

/-- The sum of a column is that over its rows. -/
theorem sum_col {n : ℕ} (f : (⟨2, ![n, 1024]⟩ : Shape).Idx → EReal) (a : Fin 1024) : ∑ k ∈ Finset.range n, col f a k = ∑ k : Fin n, f (ix2 k a) := by
  rw [Finset.sum_range]
  exact Finset.sum_congr rfl fun k _ => col_of f a k.val k.isLt

/-- A sum over 64 rows in the order four sixteens of them are added. -/
theorem sum_64 (x : EReal) (f : ℕ → EReal) : x + ∑ r : Fin 16, f r.val + ∑ r : Fin 16, f (16 + r.val) + ∑ r : Fin 16, f (32 + r.val)
    + ∑ r : Fin 16, f (48 + r.val) = x + ∑ r ∈ Finset.range 64, f r := by
  rw [show (64 : ℕ) = 16 + 16 + 16 + 16 from rfl, Finset.sum_range_add, Finset.sum_range_add, Finset.sum_range_add,
    ← add_assoc, ← add_assoc, ← add_assoc]
  simp only [Finset.sum_range]

/-- So for four runs of rows of a column, the first of them row `64 k`. -/
theorem sum_rows {n : ℕ} (f : (⟨2, ![n, 1024]⟩ : Shape).Idx → EReal) (a : Fin 1024) (k : ℕ) (x : EReal) {p0 p1 p2 p3 : Fin 16 → EReal}
    (h0 : ∀ r, p0 r = col f a (64 * k + 16 * (0 : Fin 4).val + r.val)) (h1 : ∀ r, p1 r = col f a (64 * k + 16 * (1 : Fin 4).val + r.val))
    (h2 : ∀ r, p2 r = col f a (64 * k + 16 * (2 : Fin 4).val + r.val)) (h3 : ∀ r, p3 r = col f a (64 * k + 16 * (3 : Fin 4).val + r.val)) :
    x + ∑ r, p0 r + ∑ r, p1 r + ∑ r, p2 r + ∑ r, p3 r = x + ∑ r ∈ Finset.range 64, col f a (64 * k + r) := by
  rw [← sum_64 x fun r => col f a (64 * k + r)]
  simp only [h0, h1, h2, h3, Nat.add_assoc]
  rfl
/-- A buffer stored whole once more holds what was stored last. -/
theorem restored {Val : EltTy → Type} [∀ e, Nonempty (Val e)] {sig : RefSig} {κ : Kind} {sp : Space} {S : Shape} {e : EltTy} (v : View sig κ sp S e)
    (f : v.ty.Contents Val) (L : List (View.Piece Val S e)) {off : Fin S.rank → Nat} (h : off = fun _ => 0) (inb : ∀ a, off a + S.size a ≤ S.size a)
    (w : S.Idx → Val e) : v.read Val (v.writes Val f ((⟨Rect.unit off S.size inb, w⟩ : View.Piece Val S e) :: L)) = w :=
  stored v (v.writes Val f L) h inb w

end Cert.Prod

namespace Cert.Kernel14Ideal.Prod

open Idealize.ShloMosaic Idealize.ShloMosaic.TcCoe Idealize.ShloMosaic.Tactic Idealize.SL.Sem
open Gen Value Cert.Prod

/-- A gate's gradient as the kernel writes it, -/
def pG (b : Vec Ideal S1x1024 .f32) (g y d : Vec Ideal S16x1024 .bf16) : S16x1024.Idx → EReal := fun j =>
  sideD (d j) (y j) (g j + broadcastTo S16x1024 b broadcasts_S1x1024_S16x1024 j)
/-- and a branch's. -/
def pY (b : Vec Ideal S1x1024 .f32) (g d : Vec Ideal S16x1024 .bf16) : S16x1024.Idx → EReal := fun j =>
  Ideal.logistic (g j + broadcastTo S16x1024 b broadcasts_S1x1024_S16x1024 j) * d j

theorem bias (b : Vec Ideal S1x1024 .f32) (j : S16x1024.Idx) : broadcastTo S16x1024 b broadcasts_S1x1024_S16x1024 j = b (ix2 0 (j 1)) := by
  obtain ⟨p, q, rfl⟩ : ∃ p q, j = ix2 p q := ⟨j 0, j 1, ix2_ext rfl rfl⟩
  exact ValueIdx.broadcastTo_1b_ab_apply b broadcasts_S1x1024_S16x1024 p q

theorem pG_eq (b g y d) : pG b g y d = mergeG (n := 16) g y d b := funext fun j => congrArg (fun x => sideD (d j) (y j) (g j + x)) (bias b j)
theorem pY_eq (b g d) : pY b g d = mergeY (n := 16) g d b := funext fun j => congrArg (fun x => Ideal.logistic (g j + x) * d j) (bias b j)

/-- A sum down sixteen rows. -/
theorem down (A : FVec Ideal S16x1024 .f32) (j : S1x1024.Idx) :
    shapeCast S1x1024 (multiReduction .add [0] S1024 A 0x00000000#32 reduces_S16x1024_S1024 (.inl rfl) rfl) shapeCasts_S1024_S1x1024 j
      = ∑ r : Fin 16, A (ix2 r (j 1)) := by
  obtain ⟨p, q, rfl⟩ : ∃ p q, j = ix2 p q := ⟨j 0, j 1, ix2_ext rfl rfl⟩
  rw [Subsingleton.elim p 0]
  refine (ValueIdx.shapeCast_a_1a_apply _ shapeCasts_S1024_S1x1024 0 q).trans ?_
  refine (Ideal.multiReduction_add_single A _ reduces_S16x1024_S1024 (.inl rfl) rfl _).trans (Finset.sum_congr rfl fun r _ => congrArg A ?_)
  exact ix2_ext rfl rfl

/-- What the four stores of a trip into the gates' gradient hold, -/
theorem pay_g (v0 v1 : Vec Ideal S1x1024 .f32) (g h y z d : Vec Ideal S16x1024 .bf16) :
    k0_pay26 v0 v1 g h y z d = side (n := 16) (pG v0 g y d) (pG v1 h z d)
      ∧ k0_pay41 (k0_pay31 y) (k0_pay32 d) (k0_pay34 v0 g) (k0_pay37 v1 h z d) = side (n := 16) (pG v0 g y d) (pG v1 h z d)
      ∧ k0_pay54 (k0_pay46 y) (k0_pay47 z) (k0_pay48 d) (k0_pay50 v0 g) (k0_pay51 v1 h) = side (n := 16) (pG v0 g y d) (pG v1 h z d)
      ∧ k0_pay10 v0 v1 (k0_pay59 g) (k0_pay60 h) (k0_pay61 y) (k0_pay62 z) d = side (n := 16) (pG v0 g y d) (pG v1 h z d) :=
  have e := concat_side (n := 16) (pG v0 g y d) (pG v1 h z d) concatenates_S16x1024_S16x1024_S16x2048_d1
  ⟨e, e, e, e⟩

/-- into the branches', -/
theorem pay_a (v : Vec Ideal S1x1024 .f32) (g d : Vec Ideal S16x1024 .bf16) :
    k0_pay27 (k0_pay23 v g d) = pY v g d ∧ k0_pay42 (k0_pay39 v g d) = pY v g d ∧ k0_pay55 (k0_pay48 d) (k0_pay49 v g) = pY v g d
      ∧ k0_pay11 v (k0_pay59 g) d = pY v g d := ⟨rfl, rfl, rfl, rfl⟩
theorem pay_b (v : Vec Ideal S1x1024 .f32) (g d : Vec Ideal S16x1024 .bf16) :
    k0_pay28 (k0_pay20 v g d) = pY v g d ∧ k0_pay43 (k0_pay36 v g d) = pY v g d ∧ k0_pay56 (k0_pay48 d) (k0_pay51 v g) = pY v g d
      ∧ k0_pay12 v (k0_pay60 g) d = pY v g d := ⟨rfl, rfl, rfl, rfl⟩

/-- and what a trip adds to each of the two sums it carries. -/
theorem pay_s (v a : Vec Ideal S1x1024 .f32) (g y d g' y' d' g'' y'' d'' h z e : Vec Ideal S16x1024 .bf16) (j : S1x1024.Idx) :
    k0_pay13 v (k0_pay57 (k0_pay44 (k0_pay29 a (k0_pay25 v g y d)) (k0_pay31 y') (k0_pay32 d') (k0_pay34 v g'))
        (k0_pay46 y'') (k0_pay48 d'') (k0_pay50 v g'')) (k0_pay59 h) (k0_pay61 z) e j
      = a j + ∑ r : Fin 16, pG v g y d (ix2 r (j 1)) + ∑ r : Fin 16, pG v g' y' d' (ix2 r (j 1)) + ∑ r : Fin 16, pG v g'' y'' d'' (ix2 r (j 1))
        + ∑ r : Fin 16, pG v h z e (ix2 r (j 1)) :=
  congrArg₂ (· + ·) (congrArg₂ (· + ·) (congrArg₂ (· + ·) (congrArg (a j + ·) (down (pG v g y d) j)) (down (pG v g' y' d') j)) (down (pG v g'' y'' d'') j))
    (down (pG v h z e) j)
theorem pay_t (v a : Vec Ideal S1x1024 .f32) (g y d g' y' d' g'' y'' d'' h z e : Vec Ideal S16x1024 .bf16) (j : S1x1024.Idx) :
    k0_pay14 v (k0_pay58 (k0_pay45 (k0_pay30 a (k0_pay22 v g y d)) (k0_pay38 v g' y' d'))
        (k0_pay47 y'') (k0_pay48 d'') (k0_pay51 v g'')) (k0_pay60 h) (k0_pay62 z) e j
      = a j + ∑ r : Fin 16, pG v g y d (ix2 r (j 1)) + ∑ r : Fin 16, pG v g' y' d' (ix2 r (j 1)) + ∑ r : Fin 16, pG v g'' y'' d'' (ix2 r (j 1))
        + ∑ r : Fin 16, pG v h z e (ix2 r (j 1)) :=
  congrArg₂ (· + ·) (congrArg₂ (· + ·) (congrArg₂ (· + ·) (congrArg (a j + ·) (down (pG v g y d) j)) (down (pG v g' y' d') j)) (down (pG v g'' y'' d'') j))
    (down (pG v h z e) j)

/-- The stored sum is what was there and what the trips carry. -/
theorem pay_15 (a b : Vec Ideal S1x1024 .f32) (j : S1x1024.Idx) : k0_pay15 a b j = b j + a j := congrArg (· + a j) (congrFun (shapeCast_self b _) j)
theorem pay_16 (a b : Vec Ideal S1x1024 .f32) (j : S1x1024.Idx) : k0_pay16 a b j = b j + a j := congrArg (· + a j) (congrFun (shapeCast_self b _) j)

/-! ## Sixteen rows of the blocks -/

theorem off : ∀ (k : Fin k0_t1_loop.trips) (r : Fin 4), k0_off1 k (BitVec.ofNat 32 r.val) = ![64 * k.val + 16 * r.val, 0]
    ∧ k0_off2 k (BitVec.ofNat 32 r.val) = ![64 * k.val + 16 * r.val, 0] ∧ 64 * k.val + 16 * r.val + 16 ≤ 1024 := by decide +kernel

section
variable {p : ℕ} {o o' : Fin 2 → ℕ} (inb : ∀ a, o a + S16x1024.size a ≤ S1024x1024.size a) (inb' : ∀ a, o' a + S16x2048.size a ≤ S1024x2048.size a)
  (h : o = ![p, 0] ∧ o' = ![p, 0] ∧ p + 16 ≤ 1024) {G H Y Z D : S1024x1024.Idx → EReal} {g w y z d : S16x1024.Idx → EReal}
  (hg : ∀ j, g j = G ((Rect.unit (s := S1024x1024) o S16x1024.size inb).emb j)) (hw : ∀ j, w j = H ((Rect.unit (s := S1024x1024) o S16x1024.size inb).emb j))
  (hy : ∀ j, y j = Y ((Rect.unit (s := S1024x1024) o S16x1024.size inb).emb j)) (hz : ∀ j, z j = Z ((Rect.unit (s := S1024x1024) o S16x1024.size inb).emb j))
  (hd : ∀ j, d j = D ((Rect.unit (s := S1024x1024) o S16x1024.size inb).emb j)) (v u : Vec Ideal S1x1024 .f32)

include h in
theorem emb_row (r : Fin 16) (a : Fin 1024) : (Rect.unit (s := S1024x1024) o S16x1024.size inb).emb (ix2 r a) = ix2 ⟨p + r.val, by have := h.2.2; omega⟩ a := by
  obtain ⟨rfl, -, -⟩ := h
  exact ix2_ext (by show p + 1 * r.val = p + r.val; omega) (by show 0 + 1 * a.val = a.val; omega)

include h hg hy hd in
/-- Sixteen rows of the gates' gradient, -/
theorem row_g (r : Fin 16) (a : Fin 1024) : pG v g y d (ix2 r a) = mergeG G Y D v (ix2 ⟨p + r.val, by have := h.2.2; omega⟩ a) := by
  rw [pG_eq]
  show sideD (d (ix2 r a)) (y (ix2 r a)) (g (ix2 r a) + _) = _
  rw [hg, hy, hd, emb_row inb h]
  rfl

include h hg hy hd in
/-- as part of a column of it, -/
theorem row_c (r : Fin 16) (a : Fin 1024) : pG v g y d (ix2 r a) = col (mergeG G Y D v) a (p + r.val) :=
  (row_g inb h hg hy hd v r a).trans (col_of _ _ _ _).symm

include h hg hy hw hz hd in
/-- of the two gates side by side, -/
theorem row_s (x : S16x2048.Idx) : side (n := 16) (pG v g y d) (pG u w z d) x
    = side (mergeG G Y D v) (mergeG H Z D u) ((Rect.unit (s := S1024x2048) o' S16x2048.size inb').emb x) := by
  have e0 : (Rect.unit (s := S1024x2048) o' S16x2048.size inb').emb x 0 = ⟨p + (x 0).val, by have := h.2.2; have := (x 0).isLt; exact Nat.lt_of_lt_of_le (Nat.add_lt_add_left this p) h.2.2⟩ := by
    obtain ⟨-, rfl, -⟩ := h
    exact Fin.ext (by show p + 1 * (x 0).val = p + (x 0).val; omega)
  have e1 : (x 1).val = ((Rect.unit (s := S1024x2048) o' S16x2048.size inb').emb x 1).val := by
    obtain ⟨-, rfl, -⟩ := h
    show (x 1).val = 0 + 1 * (x 1).val
    omega
  refine side_block e1 (fun e => ?_) fun e => ?_
  · rw [e0]; exact row_g inb h hg hy hd v (x 0) e
  · rw [e0]; exact row_g inb h hw hz hd u (x 0) e

include h hg hd in
/-- and of a branch's gradient. -/
theorem row_y (x : S16x1024.Idx) : pY v g d x = mergeY G D v ((Rect.unit (s := S1024x1024) o S16x1024.size inb).emb x) := by
  obtain ⟨r, a, rfl⟩ : ∃ r a, x = ix2 r a := ⟨x 0, x 1, ix2_ext rfl rfl⟩
  rw [pY_eq]
  show Ideal.logistic (g (ix2 r a) + _) * d (ix2 r a) = _
  rw [hg, hd, emb_row inb h]
  rfl
end

section
variable (𝒱 : Variants) (c : Dev nD) (bd : Option 𝒱.V) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole)
  (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1024x2048 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole)
  (v0 v1 : Vec Ideal S1x1024 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

/-- Every store of a trip into the three arrays is rows of the gradients. -/
theorem trip_rows (k : Fin k0_t1_loop.trips) (acc : Vec Ideal S1x1024 .f32 × Vec Ideal S1x1024 .f32) :
    Rows ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 k).2.1 acc)
        (side (mergeG (arg1.view.read (Elt Ideal) X1) (arg3.view.read (Elt Ideal) X3) (arg5.view.read (Elt Ideal) X5) v0)
          (mergeG (arg2.view.read (Elt Ideal) X2) (arg4.view.read (Elt Ideal) X4) (arg5.view.read (Elt Ideal) X5) v1))
      ∧ Rows ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 k).2.2.1 acc)
        (mergeY (arg1.view.read (Elt Ideal) X1) (arg5.view.read (Elt Ideal) X5) v0)
      ∧ Rows ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 k).2.2.2.1 acc)
        (mergeY (arg2.view.read (Elt Ideal) X2) (arg5.view.read (Elt Ideal) X5) v1) := by
  unfold trip_k0_t1
  dsimp only
  sl_unfold_run_names
  simp only [Rows, List.forall_mem_cons]
  have s := fun r => @row_s _ _ _ (k0_off1_inb k r) (k0_off2_inb k r) (off k r)
  have y := fun r => @row_y _ _ _ (k0_off1_inb k r) (off k r)
  exact ⟨⟨fun x => (congrFun (pay_g _ _ _ _ _ _ _).2.2.2 x).trans (s 3 (fun _ => rfl) (fun _ => rfl) (fun _ => rfl) (fun _ => rfl) (fun _ => rfl) _ _ x),
    fun x => (congrFun (pay_g _ _ _ _ _ _ _).2.2.1 x).trans (s 2 (fun _ => rfl) (fun _ => rfl) (fun _ => rfl) (fun _ => rfl) (fun _ => rfl) _ _ x),
    fun x => (congrFun (pay_g _ _ _ _ _ _ _).2.1 x).trans (s 1 (fun _ => rfl) (fun _ => rfl) (fun _ => rfl) (fun _ => rfl) (fun _ => rfl) _ _ x),
    fun x => (congrFun (pay_g _ _ _ _ _ _ _).1 x).trans (s 0 (fun _ => rfl) (fun _ => rfl) (fun _ => rfl) (fun _ => rfl) (fun _ => rfl) _ _ x),
    fun _ h => absurd h List.not_mem_nil⟩,
    ⟨fun x => (congrFun (pay_a _ _ _).2.2.2 x).trans (y 3 (fun _ => rfl) (fun _ => rfl) _ x),
    fun x => (congrFun (pay_a _ _ _).2.2.1 x).trans (y 2 (fun _ => rfl) (fun _ => rfl) _ x),
    fun x => (congrFun (pay_a _ _ _).2.1 x).trans (y 1 (fun _ => rfl) (fun _ => rfl) _ x),
    fun x => (congrFun (pay_a _ _ _).1 x).trans (y 0 (fun _ => rfl) (fun _ => rfl) _ x),
    fun _ h => absurd h List.not_mem_nil⟩,
    ⟨fun x => (congrFun (pay_b _ _ _).2.2.2 x).trans (y 3 (fun _ => rfl) (fun _ => rfl) _ x),
    fun x => (congrFun (pay_b _ _ _).2.2.1 x).trans (y 2 (fun _ => rfl) (fun _ => rfl) _ x),
    fun x => (congrFun (pay_b _ _ _).2.1 x).trans (y 1 (fun _ => rfl) (fun _ => rfl) _ x),
    fun x => (congrFun (pay_b _ _ _).1 x).trans (y 0 (fun _ => rfl) (fun _ => rfl) _ x),
    fun _ h => absurd h List.not_mem_nil⟩⟩

/-- What a trip adds to the two sums it carries: 64 more rows of the columns. -/
theorem trip_sum (k : Fin k0_t1_loop.trips) (acc : Vec Ideal S1x1024 .f32 × Vec Ideal S1x1024 .f32) (j : S1x1024.Idx) :
    ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 k).1 acc).1 j = acc.1 j + ∑ r ∈ Finset.range 64,
        col (mergeG (arg1.view.read (Elt Ideal) X1) (arg3.view.read (Elt Ideal) X3) (arg5.view.read (Elt Ideal) X5) v0) (j 1) (64 * k.val + r)
      ∧ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 k).1 acc).2 j = acc.2 j + ∑ r ∈ Finset.range 64,
        col (mergeG (arg2.view.read (Elt Ideal) X2) (arg4.view.read (Elt Ideal) X4) (arg5.view.read (Elt Ideal) X5) v1) (j 1) (64 * k.val + r) := by
  unfold trip_k0_t1
  dsimp only
  sl_unfold_run_names
  have e := fun r => @row_c _ _ _ (k0_off1_inb k r) (off k r)
  constructor
  · refine (pay_s _ _ _ _ _ _ _ _ _ _ _ _ _ _ j).trans ?_
    exact sum_rows (mergeG (arg1.view.read (Elt Ideal) X1) (arg3.view.read (Elt Ideal) X3) (arg5.view.read (Elt Ideal) X5) v0) _ _ _ (fun r => e 0 (fun _ => rfl) (fun _ => rfl) (fun _ => rfl) _ r (j 1))
      (fun r => e 1 (fun _ => rfl) (fun _ => rfl) (fun _ => rfl) _ r (j 1)) (fun r => e 2 (fun _ => rfl) (fun _ => rfl) (fun _ => rfl) _ r (j 1)) (fun r => e 3 (fun _ => rfl) (fun _ => rfl) (fun _ => rfl) _ r (j 1))
  · refine (pay_t _ _ _ _ _ _ _ _ _ _ _ _ _ _ j).trans ?_
    exact sum_rows (mergeG (arg2.view.read (Elt Ideal) X2) (arg4.view.read (Elt Ideal) X4) (arg5.view.read (Elt Ideal) X5) v1) _ _ _ (fun r => e 0 (fun _ => rfl) (fun _ => rfl) (fun _ => rfl) _ r (j 1))
      (fun r => e 1 (fun _ => rfl) (fun _ => rfl) (fun _ => rfl) _ r (j 1)) (fun r => e 2 (fun _ => rfl) (fun _ => rfl) (fun _ => rfl) _ r (j 1)) (fun r => e 3 (fun _ => rfl) (fun _ => rfl) (fun _ => rfl) _ r (j 1))

/-- So for the trips so far, which carry the sums of the columns' rows so far. -/
theorem st_all (init : Vec Ideal S1x1024 .f32 × Vec Ideal S1x1024 .f32) : ∀ n, n ≤ k0_t1_loop.trips →
    Rows (st_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init n).2.1
        (side (mergeG (arg1.view.read (Elt Ideal) X1) (arg3.view.read (Elt Ideal) X3) (arg5.view.read (Elt Ideal) X5) v0)
          (mergeG (arg2.view.read (Elt Ideal) X2) (arg4.view.read (Elt Ideal) X4) (arg5.view.read (Elt Ideal) X5) v1))
      ∧ Rows (st_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init n).2.2.1
        (mergeY (arg1.view.read (Elt Ideal) X1) (arg5.view.read (Elt Ideal) X5) v0)
      ∧ Rows (st_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init n).2.2.2
        (mergeY (arg2.view.read (Elt Ideal) X2) (arg5.view.read (Elt Ideal) X5) v1)
      ∧ (∀ j, (st_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init n).1.1 j = init.1 j
        + ∑ r ∈ Finset.range (64 * n), col (mergeG (arg1.view.read (Elt Ideal) X1) (arg3.view.read (Elt Ideal) X3) (arg5.view.read (Elt Ideal) X5) v0) (j 1) r)
      ∧ ∀ j, (st_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init n).1.2 j = init.2 j
        + ∑ r ∈ Finset.range (64 * n), col (mergeG (arg2.view.read (Elt Ideal) X2) (arg4.view.read (Elt Ideal) X4) (arg5.view.read (Elt Ideal) X5) v1) (j 1) r
  | 0, _ => ⟨fun _ h => absurd h List.not_mem_nil, fun _ h => absurd h List.not_mem_nil, fun _ h => absurd h List.not_mem_nil,
    fun j => (add_zero _).symm, fun j => (add_zero _).symm⟩
  | n + 1, h => by
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 init ⟨n, h⟩
    have t := trip_rows 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 ⟨n, h⟩
    have u := trip_sum 𝒱 c bd i arg1 harg1 arg2 harg2 arg3 harg3 arg4 harg4 arg5 harg5 arg6 harg6 arg7 harg7 arg8 harg8 arg9 harg9 arg10 harg10 arg11 harg11 arg12 harg12 v0 v1 X1 X2 X3 X4 X5 ⟨n, h⟩
    have r := st_all init n (Nat.le_of_succ_le h)
    dsimp only at e
    rw [e]
    refine ⟨(t _).1.append r.1, (t _).2.1.append r.2.1, (t _).2.2.append r.2.2.1, fun j => (u _ j).1.trans ?_, fun j => (u _ j).2.trans ?_⟩
    · rw [r.2.2.2.1, add_assoc, Nat.mul_succ, Finset.sum_range_add]
    · rw [r.2.2.2.2, add_assoc, Nat.mul_succ, Finset.sum_range_add]

variable (hc : cond0_0 i) (hd : ¬cond0_0 i) (x0 x1 x2 x3 x4 : Vec Ideal S1024x1024 .bf16) (x5 x6 s u : Vec Ideal S1x1024 .f32)

/-- What all trips leave, from the blocks' and the biases' values, -/
abbrev all := st_k0_t1 (F := Ideal) Variants.none c none i arg1 harg1 arg2 harg2 arg3 harg3 arg4 harg4 arg5 harg5 arg6 harg6 arg7 harg7 arg8 harg8 arg9 harg9 arg10 harg10 arg11 harg11 arg12 harg12 (View.readAt (Elt Ideal) arg6.view (Rect.unit (s := S1x1024) ![0, 0] S1x1024.size inb_S1x1024_S1x1024_0_0).toLoadRect (harg6.unread x5)) (View.readAt (Elt Ideal) arg7.view (Rect.unit (s := S1x1024) ![0, 0] S1x1024.size inb_S1x1024_S1x1024_0_0).toLoadRect (harg7.unread x6))
      (harg1.unread x0) (harg2.unread x1) (harg3.unread x2) (harg4.unread x3) (harg5.unread x4) (k0_pay3 (F := Ideal), k0_pay4 (F := Ideal)) k0_t1_loop.trips

/-- are the gradients of the blocks and their columns' sums. -/
theorem pt_all : Rows (all c i arg1 harg1 arg2 harg2 arg3 harg3 arg4 harg4 arg5 harg5 arg6 harg6 arg7 harg7 arg8 harg8 arg9 harg9 arg10 harg10 arg11 harg11 arg12 harg12 x0 x1 x2 x3 x4 x5 x6).2.1 (side (mergeG x0 x2 x4 x5) (mergeG x1 x3 x4 x6))
      ∧ Rows (all c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 (mergeY x0 x4 x5)
      ∧ Rows (all c i arg1 harg1 arg2 harg2 arg3 harg3 arg4 harg4 arg5 harg5 arg6 harg6 arg7 harg7 arg8 harg8 arg9 harg9 arg10 harg10 arg11 harg11 arg12 harg12 x0 x1 x2 x3 x4 x5 x6).2.2.2 (mergeY x1 x4 x6)
      ∧ (∀ j, (all c i arg1 harg1 arg2 harg2 arg3 harg3 arg4 harg4 arg5 harg5 arg6 harg6 arg7 harg7 arg8 harg8 arg9 harg9 arg10 harg10 arg11 harg11 arg12 harg12 x0 x1 x2 x3 x4 x5 x6).1.1 j = ∑ r ∈ Finset.range 1024, col (mergeG x0 x2 x4 x5) (j 1) r)
      ∧ ∀ j, (all c i arg1 harg1 arg2 harg2 arg3 harg3 arg4 harg4 arg5 harg5 arg6 harg6 arg7 harg7 arg8 harg8 arg9 harg9 arg10 harg10 arg11 harg11 arg12 harg12 x0 x1 x2 x3 x4 x5 x6).1.2 j = ∑ r ∈ Finset.range 1024, col (mergeG x1 x3 x4 x6) (j 1) r := by
  unfold all
  have h := st_all Variants.none c none i arg1 harg1 arg2 harg2 arg3 harg3 arg4 harg4 arg5 harg5 arg6 harg6 arg7 harg7 arg8 harg8 arg9 harg9 arg10 harg10 arg11 harg11 arg12 harg12 x5 x6
    (harg1.unread x0) (harg2.unread x1) (harg3.unread x2) (harg4.unread x3) (harg5.unread x4) (k0_pay3 (F := Ideal), k0_pay4 (F := Ideal)) k0_t1_loop.trips le_rfl
  rw [harg1.read_unread, harg2.read_unread, harg3.read_unread, harg4.read_unread, harg5.read_unread] at h
  rw [show View.readAt (Elt Ideal) arg6.view (Rect.unit (s := S1x1024) ![0, 0] S1x1024.size inb_S1x1024_S1x1024_0_0).toLoadRect (harg6.unread x5) = x5 from loaded harg6 hz _ x5,
    show View.readAt (Elt Ideal) arg7.view (Rect.unit (s := S1x1024) ![0, 0] S1x1024.size inb_S1x1024_S1x1024_0_0).toLoadRect (harg7.unread x6) = x6 from loaded harg7 hz _ x6]
  refine ⟨h.1, h.2.1, h.2.2.1, fun j => (h.2.2.2.1 j).trans ?_, fun j => (h.2.2.2.2 j).trans ?_⟩ <;>
    exact (congrArg (· + _) Ideal.ofBits_zero_f32).trans (zero_add _)

/-! What a point leaves, the first one and the others: the gradients' rows, and the sums with these rows added. -/

theorem outA7 : out0_A_7 c i arg1 harg1 arg2 harg2 arg3 harg3 arg4 harg4 arg5 harg5 arg6 harg6 arg7 harg7 arg8 harg8 arg9 harg9 arg10 harg10 arg11 harg11 arg12 harg12 hc x0 x1 x2 x3 x4 x5 x6 = side (mergeG x0 x2 x4 x5) (mergeG x1 x3 x4 x6) :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).1.read VO0_7 (cover0_A_7 c i arg1 harg1 arg2 harg2 arg3 harg3 arg4 harg4 arg5 harg5 arg6 harg6 arg7 harg7 arg8 harg8 arg9 harg9 arg10 harg10 arg11 harg11 arg12 harg12 hc x0 x1 x2 x3 x4 x5 x6)

theorem outA8 : out0_A_8 c i arg1 harg1 arg2 harg2 arg3 harg3 arg4 harg4 arg5 harg5 arg6 harg6 arg7 harg7 arg8 harg8 arg9 harg9 arg10 harg10 arg11 harg11 arg12 harg12 hc x0 x1 x2 x3 x4 x5 x6 = mergeY x0 x4 x5 :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.1.read VO0_8 (cover0_A_8 c i arg1 harg1 arg2 harg2 arg3 harg3 arg4 harg4 arg5 harg5 arg6 harg6 arg7 harg7 arg8 harg8 arg9 harg9 arg10 harg10 arg11 harg11 arg12 harg12 hc x0 x1 x2 x3 x4 x5 x6)

theorem outA9 : out0_A_9 c i arg1 harg1 arg2 harg2 arg3 harg3 arg4 harg4 arg5 harg5 arg6 harg6 arg7 harg7 arg8 harg8 arg9 harg9 arg10 harg10 arg11 harg11 arg12 harg12 hc x0 x1 x2 x3 x4 x5 x6 = mergeY x1 x4 x6 :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.1.read VO0_9 (cover0_A_9 c i arg1 harg1 arg2 harg2 arg3 harg3 arg4 harg4 arg5 harg5 arg6 harg6 arg7 harg7 arg8 harg8 arg9 harg9 arg10 harg10 arg11 harg11 arg12 harg12 hc x0 x1 x2 x3 x4 x5 x6)

theorem outA10 (j : S1x1024.Idx) : out0_A_10 c i arg1 harg1 arg2 harg2 arg3 harg3 arg4 harg4 arg5 harg5 arg6 harg6 arg7 harg7 arg8 harg8 arg9 harg9 arg10 harg10 arg11 harg11 arg12 harg12 hc x0 x1 x2 x3 x4 x5 x6 j
    = ∑ r ∈ Finset.range 1024, col (mergeG x0 x2 x4 x5) (j 1) r :=
  (congrFun (restored VO0_10 _ _ hz _ _) j).trans ((pay_15 _ _ j).trans
    ((congrArg₂ (· + ·) ((congrFun (View.readCov_unit_zero arg11.view hz _ _) j).trans Ideal.ofBits_zero_f32) ((pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 j)).trans (zero_add _)))

theorem outA11 (j : S1x1024.Idx) : out0_A_11 c i arg1 harg1 arg2 harg2 arg3 harg3 arg4 harg4 arg5 harg5 arg6 harg6 arg7 harg7 arg8 harg8 arg9 harg9 arg10 harg10 arg11 harg11 arg12 harg12 hc x0 x1 x2 x3 x4 x5 x6 j
    = ∑ r ∈ Finset.range 1024, col (mergeG x1 x3 x4 x6) (j 1) r :=
  (congrFun (restored VO0_11 _ _ hz _ _) j).trans ((pay_16 _ _ j).trans
    ((congrArg₂ (· + ·) ((congrFun (View.readCov_unit_zero arg12.view hz _ _) j).trans Ideal.ofBits_zero_f32) ((pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.2 j)).trans (zero_add _)))

theorem outB7 : out0_B_7 c i arg1 harg1 arg2 harg2 arg3 harg3 arg4 harg4 arg5 harg5 arg6 harg6 arg7 harg7 arg8 harg8 arg9 harg9 arg10 harg10 arg11 harg11 arg12 harg12 hd x0 x1 x2 x3 x4 x5 x6 s u = side (mergeG x0 x2 x4 x5) (mergeG x1 x3 x4 x6) :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).1.read VO0_7 (cover0_B_7 c i arg1 harg1 arg2 harg2 arg3 harg3 arg4 harg4 arg5 harg5 arg6 harg6 arg7 harg7 arg8 harg8 arg9 harg9 arg10 harg10 arg11 harg11 arg12 harg12 hd x0 x1 x2 x3 x4 x5 x6 s u)

theorem outB8 : out0_B_8 c i arg1 harg1 arg2 harg2 arg3 harg3 arg4 harg4 arg5 harg5 arg6 harg6 arg7 harg7 arg8 harg8 arg9 harg9 arg10 harg10 arg11 harg11 arg12 harg12 hd x0 x1 x2 x3 x4 x5 x6 s u = mergeY x0 x4 x5 :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.1.read VO0_8 (cover0_B_8 c i arg1 harg1 arg2 harg2 arg3 harg3 arg4 harg4 arg5 harg5 arg6 harg6 arg7 harg7 arg8 harg8 arg9 harg9 arg10 harg10 arg11 harg11 arg12 harg12 hd x0 x1 x2 x3 x4 x5 x6 s u)

theorem outB9 : out0_B_9 c i arg1 harg1 arg2 harg2 arg3 harg3 arg4 harg4 arg5 harg5 arg6 harg6 arg7 harg7 arg8 harg8 arg9 harg9 arg10 harg10 arg11 harg11 arg12 harg12 hd x0 x1 x2 x3 x4 x5 x6 s u = mergeY x1 x4 x6 :=
  (pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.1.read VO0_9 (cover0_B_9 c i arg1 harg1 arg2 harg2 arg3 harg3 arg4 harg4 arg5 harg5 arg6 harg6 arg7 harg7 arg8 harg8 arg9 harg9 arg10 harg10 arg11 harg11 arg12 harg12 hd x0 x1 x2 x3 x4 x5 x6 s u)

theorem outB10 (j : S1x1024.Idx) : out0_B_10 c i arg1 harg1 arg2 harg2 arg3 harg3 arg4 harg4 arg5 harg5 arg6 harg6 arg7 harg7 arg8 harg8 arg9 harg9 arg10 harg10 arg11 harg11 arg12 harg12 hd x0 x1 x2 x3 x4 x5 x6 s u j
    = s j + ∑ r ∈ Finset.range 1024, col (mergeG x0 x2 x4 x5) (j 1) r :=
  (congrFun (stored VO0_10 _ hz _ _) j).trans ((pay_15 _ _ j).trans
    (congrArg₂ (· + ·) (congrFun (loaded harg11 hz _ s) j) ((pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 j)))

theorem outB11 (j : S1x1024.Idx) : out0_B_11 c i arg1 harg1 arg2 harg2 arg3 harg3 arg4 harg4 arg5 harg5 arg6 harg6 arg7 harg7 arg8 harg8 arg9 harg9 arg10 harg10 arg11 harg11 arg12 harg12 hd x0 x1 x2 x3 x4 x5 x6 s u j
    = u j + ∑ r ∈ Finset.range 1024, col (mergeG x1 x3 x4 x6) (j 1) r :=
  (congrFun (stored VO0_11 _ hz _ _) j).trans ((pay_16 _ _ j).trans
    (congrArg₂ (· + ·) (congrFun (loaded harg12 hz _ u) j) ((pt_all c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.2 j)))
end

/-! ## The results -/

/-- The left or the right half of an array's columns. -/
def half {n : ℕ} (g : (⟨2, ![n, 2048]⟩ : Shape).Idx → EReal) (o : Fin 2) : (⟨2, ![n, 1024]⟩ : Shape).Idx → EReal := fun j =>
  g (ix2 (j 0) ⟨1024 * o.val + (j 1).val, by have : (j 1).val < 1024 := (j 1).isLt; omega⟩)

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The first gate's gradient in full, -/
abbrev gA : S8192x1024.Idx → EReal := mergeG (n := 8192) (half (m ((c : Thread nD τ).loc main_arg0)) 0) (m ((c : Thread nD τ).loc main_arg1))
  (m ((c : Thread nD τ).loc main_arg3)) (m ((c : Thread nD τ).loc main_arg4))
/-- and the second's. -/
abbrev gB : S8192x1024.Idx → EReal := mergeG (n := 8192) (half (m ((c : Thread nD τ).loc main_arg0)) 1) (m ((c : Thread nD τ).loc main_arg2))
  (m ((c : Thread nD τ).loc main_arg3)) (m ((c : Thread nD τ).loc main_arg5))

/-- What a point leaves in the three arrays. -/
theorem outs (t : Fin cfg0.N) : (outsAt0 m c t.val t.isLt).1
        = side (n := 1024) (mergeG (n := 1024) (iblk m c 0 t) (iblk m c 2 t) (iblk m c 4 t) (iblk m c 5 t)) (mergeG (n := 1024) (iblk m c 1 t) (iblk m c 3 t) (iblk m c 4 t) (iblk m c 6 t))
      ∧ (outsAt0 m c t.val t.isLt).2.1 = mergeY (n := 1024) (iblk m c 0 t) (iblk m c 4 t) (iblk m c 5 t)
      ∧ (outsAt0 m c t.val t.isLt).2.2.1 = mergeY (n := 1024) (iblk m c 1 t) (iblk m c 4 t) (iblk m c 6 t) := by
  by_cases h : t.val % 8 = 0
  · have e := outsAt0_A m c t h
    exact ⟨(congrArg (·.1) e).trans (outA7 ..), (congrArg (·.2.1) e).trans (outA8 ..), (congrArg (·.2.2.1) e).trans (outA9 ..)⟩
  · have e := outsAt0_B m c t h
    exact ⟨(congrArg (·.1) e).trans (outB7 ..), (congrArg (·.2.1) e).trans (outB8 ..), (congrArg (·.2.2.1) e).trans (outB9 ..)⟩

theorem arr7 : (dats m 0 c).arrAt 7 cfg0.N = side (gA m c) (gB m c) := by
  refine (dats m 0 c).arrAt_eq_of_covers 7 _ (by decide +kernel) fun t hf y => ?_
  blk_simp
  rw [after0_7, (outs m c t).1]
  refine side_block ?_ (fun e => congr (congrArg₂ sideD ?_ ?_) (congrArg₂ (· + ·) ?_ ?_)) (fun e => congr (congrArg₂ sideD ?_ ?_) (congrArg₂ (· + ·) ?_ ?_)) <;>
    blk_point [iblk, V, idx, half]

theorem arr8 : (dats m 0 c).arrAt 8 cfg0.N = mergeY (n := 8192) (half (m ((c : Thread nD τ).loc main_arg0)) 0) (m ((c : Thread nD τ).loc main_arg3))
    (m ((c : Thread nD τ).loc main_arg4)) := by
  refine (dats m 0 c).arrAt_eq_of_covers 8 _ (by decide +kernel) fun t hf y => ?_
  blk_simp
  rw [after0_8, (outs m c t).2.1]
  refine congrArg₂ (· * ·) (congrArg Ideal.logistic (congrArg₂ (· + ·) ?_ ?_)) ?_ <;> blk_point [iblk, V, idx, half]

theorem arr9 : (dats m 0 c).arrAt 9 cfg0.N = mergeY (n := 8192) (half (m ((c : Thread nD τ).loc main_arg0)) 1) (m ((c : Thread nD τ).loc main_arg3))
    (m ((c : Thread nD τ).loc main_arg5)) := by
  refine (dats m 0 c).arrAt_eq_of_covers 9 _ (by decide +kernel) fun t hf y => ?_
  blk_simp
  rw [after0_9, (outs m c t).2.2]
  refine congrArg₂ (· * ·) (congrArg Ideal.logistic (congrArg₂ (· + ·) ?_ ?_)) ?_ <;> blk_point [iblk, V, idx, half]

/-- A point's rows of a column of the gradients. -/
theorem cols (t : Fin cfg0.N) (a : Fin 1024) (r : ℕ) (hr : r < 1024) :
    col (mergeG (n := 1024) (iblk m c 0 t) (iblk m c 2 t) (iblk m c 4 t) (iblk m c 5 t)) a r = col (gA m c) a (1024 * t.val + r)
      ∧ col (mergeG (n := 1024) (iblk m c 1 t) (iblk m c 3 t) (iblk m c 4 t) (iblk m c 6 t)) a r = col (gB m c) a (1024 * t.val + r) := by
  have ht : t.val < 8 := t.isLt
  rw [col_of _ _ _ hr, col_of _ _ _ hr, col_of (gA m c) _ _ (by omega), col_of (gB m c) _ _ (by omega)]
  refine ⟨congr (congrArg₂ sideD ?_ ?_) (congrArg₂ (· + ·) ?_ ?_), congr (congrArg₂ sideD ?_ ?_) (congrArg₂ (· + ·) ?_ ?_)⟩ <;>
    blk_point [iblk, V, idx, half]

/-- The first point's sums are of its rows, -/
theorem sum_first (t : Fin cfg0.N) (h : t.val % 8 = 0) (j : S1x1024.Idx) :
    (outsAt0 m c t.val t.isLt).2.2.2.1 j = ∑ r ∈ Finset.range 1024, col (mergeG (n := 1024) (iblk m c 0 t) (iblk m c 2 t) (iblk m c 4 t) (iblk m c 5 t)) (j 1) r
      ∧ (outsAt0 m c t.val t.isLt).2.2.2.2 j = ∑ r ∈ Finset.range 1024, col (mergeG (n := 1024) (iblk m c 1 t) (iblk m c 3 t) (iblk m c 4 t) (iblk m c 6 t)) (j 1) r := by
  have e := outsAt0_A m c t h
  have f := congrFun (congrArg (·.2.2.2.1) e) j
  have k := congrFun (congrArg (·.2.2.2.2) e) j
  dsimp only at f k
  rw [outA10] at f
  rw [outA11] at k
  exact ⟨f, k⟩

/-- and another's are the point's before with its rows added. -/
theorem sum_next (t : Fin cfg0.N) (h : ¬t.val % 8 = 0) (j : S1x1024.Idx) :
    (outsAt0 m c t.val t.isLt).2.2.2.1 j = (outsAt0 m c (t.val - 1) (Nat.lt_of_le_of_lt (Nat.sub_le _ _) t.isLt)).2.2.2.1 j
        + ∑ r ∈ Finset.range 1024, col (mergeG (n := 1024) (iblk m c 0 t) (iblk m c 2 t) (iblk m c 4 t) (iblk m c 5 t)) (j 1) r
      ∧ (outsAt0 m c t.val t.isLt).2.2.2.2 j = (outsAt0 m c (t.val - 1) (Nat.lt_of_le_of_lt (Nat.sub_le _ _) t.isLt)).2.2.2.2 j
        + ∑ r ∈ Finset.range 1024, col (mergeG (n := 1024) (iblk m c 1 t) (iblk m c 3 t) (iblk m c 4 t) (iblk m c 6 t)) (j 1) r := by
  have e := outsAt0_B m c t h
  have f := congrFun (congrArg (·.2.2.2.1) e) j
  have k := congrFun (congrArg (·.2.2.2.2) e) j
  dsimp only at f k
  rw [outB10] at f
  rw [outB11] at k
  exact ⟨f, k⟩

/-- So the sums are those of the columns' rows so far. -/
theorem sums : ∀ (n : ℕ) (hn : n < cfg0.N) (j : S1x1024.Idx), (outsAt0 m c n hn).2.2.2.1 j = ∑ r ∈ Finset.range (1024 * (n + 1)), col (gA m c) (j 1) r
    ∧ (outsAt0 m c n hn).2.2.2.2 j = ∑ r ∈ Finset.range (1024 * (n + 1)), col (gB m c) (j 1) r
  | 0, hn, j => by
    have b := sum_first m c ⟨0, hn⟩ rfl j
    have k := fun r hr => cols m c ⟨0, hn⟩ (j 1) r (Finset.mem_range.mp hr)
    rw [Finset.sum_congr rfl fun r hr => (k r hr).1, Finset.sum_congr rfl fun r hr => (k r hr).2] at b
    simpa only [Nat.mul_zero, Nat.zero_add, Nat.mul_one] using b
  | n + 1, hn, j => by
    have h : n + 1 < 8 := hn
    have b := sum_next m c ⟨n + 1, hn⟩ (by show ¬(n + 1) % 8 = 0; omega) j
    have k := fun r hr => cols m c ⟨n + 1, hn⟩ (j 1) r (Finset.mem_range.mp hr)
    have f := sums n (Nat.lt_of_succ_lt hn) j
    rw [Finset.sum_congr rfl fun r hr => (k r hr).1, Finset.sum_congr rfl fun r hr => (k r hr).2] at b
    simp only [Nat.add_sub_cancel] at b
    rw [b.1, b.2, f.1, f.2, Nat.mul_succ 1024 (n + 1), Finset.sum_range_add, Finset.sum_range_add]
    exact ⟨rfl, rfl⟩

/-- The biases' gradients in full: the sums of the gates' columns. -/
theorem arr10 : (dats m 0 c).arrAt 10 cfg0.N = fun j : S1x1024.Idx => ∑ k : Fin 8192, gA m c (ix2 k (j 1)) := by
  refine (dats m 0 c).arrAt_eq_of_covers 10 _ (by decide +kernel) fun t hf y => ?_
  have h : t.val = 7 := (by decide +kernel : ∀ t : Fin cfg0.N, (cfg0.win 10).flush t = true → t.val = 7) t hf
  blk_simp
  rw [after0_10, (sums m c t.val t.isLt y).1, h]
  refine (sum_col (n := 8192) (gA m c) (y 1)).trans (Finset.sum_congr rfl fun k _ => congrArg (gA m c) ?_)
  refine congrArg (ix2 k) (Fin.ext ?_)
  blk_point [idx]

theorem arr11 : (dats m 0 c).arrAt 11 cfg0.N = fun j : S1x1024.Idx => ∑ k : Fin 8192, gB m c (ix2 k (j 1)) := by
  refine (dats m 0 c).arrAt_eq_of_covers 11 _ (by decide +kernel) fun t hf y => ?_
  have h : t.val = 7 := (by decide +kernel : ∀ t : Fin cfg0.N, (cfg0.win 11).flush t = true → t.val = 7) t hf
  blk_simp
  rw [after0_11, (sums m c t.val t.isLt y).2, h]
  refine (sum_col (n := 8192) (gB m c) (y 1)).trans (Finset.sum_congr rfl fun k _ => congrArg (gB m c) ?_)
  refine congrArg (ix2 k) (Fin.ext ?_)
  blk_point [idx]

end Cert.Kernel14Ideal.Prod

/-! ## The claims -/

namespace Cert.Prod.MergeBwd

open Idealize.ShloMosaic Idealize.ShloMosaic.TcCoe Idealize.SL.Sem
open Cert.Reference14Ideal Cert.Reference14Ideal.Gen Cert.Reference14Ideal.Read
open Cert.Kernel14Ideal.Prod (half)

theorem quiet_ref : Cert.quiescent_Reference14Ideal (hReference14Ideal := Cert.Reference14Ideal.Gen.facts) := fun m g _ =>
  (θ_run _ _ _).mono (fun r h => ⟨fun c => (h c).2.2.2.2.2, sem_eq_zero_of_no_sems (by decide) r.2⟩) (Cert.Reference14Ideal.Value.run m g)

/-- The reference's gates, -/
theorem gate0 (g b) (j : S8192x1024.Idx) : val_main_v12 (F := Ideal) g b j = Ideal.logistic (half (n := 8192) g 0 j + b (ix2 0 (j 1))) :=
  (FfnAct.sigmoid (val_main_v6 (F := Ideal) g b j)).trans (congrArg Ideal.logistic (congrArg₂ (· + ·)
    ((val_main_v3_apply _ j).trans (congrArg g (ix2_ext rfl (by show (j 1).val = 1024 * 0 + (j 1).val; omega))))
    ((val_main_v5_apply b j).trans (congrArg b (ix2_ext rfl rfl)))))
theorem gate1 (g b) (j : S8192x1024.Idx) : val_main_v24 (F := Ideal) g b j = Ideal.logistic (half (n := 8192) g 1 j + b (ix2 0 (j 1))) :=
  (FfnAct.sigmoid (val_main_v18 (F := Ideal) g b j)).trans (congrArg Ideal.logistic (congrArg₂ (· + ·)
    ((val_main_v4_apply _ j).trans (congrArg g (ix2_ext rfl rfl))) ((val_main_v17_apply b j).trans (congrArg b (ix2_ext rfl rfl)))))

/-- their gradients, -/
theorem ref_a (g y d b) : val_main_v38 (F := Ideal) g y d b = mergeG (n := 8192) (half (n := 8192) g 0) y d b := funext fun j => by
  show d j * y j * (val_main_v12 (F := Ideal) g b j * (Ideal.ofBits .f32 0x3F800000#32 - val_main_v12 (F := Ideal) g b j)) = _
  rw [gate0]; rfl
theorem ref_b (g y d b) : val_main_v33 (F := Ideal) g y d b = mergeG (n := 8192) (half (n := 8192) g 1) y d b := funext fun j => by
  show d j * y j * (val_main_v24 (F := Ideal) g b j * (Ideal.ofBits .f32 0x3F800000#32 - val_main_v24 (F := Ideal) g b j)) = _
  rw [gate1]; rfl
theorem ref_g (g y z d b e) : val_main_v42 (F := Ideal) g y z d b e
    = side (mergeG (n := 8192) (half (n := 8192) g 0) y d b) (mergeG (n := 8192) (half (n := 8192) g 1) z d e) :=
  (concat_side (n := 8192) _ _ Facts₀.concatenates_S8192x1024_S8192x1024_S8192x2048_d1).trans (congrArg₂ side (ref_a g y d b) (ref_b g z d e))

/-- the branches' -/
theorem ref_y (g d b) : val_main_v43 (F := Ideal) g d b = mergeY (n := 8192) (half (n := 8192) g 0) d b := funext fun j =>
  congrArg (· * d j) (gate0 g b j)
theorem ref_z (g d b) : val_main_v44 (F := Ideal) g d b = mergeY (n := 8192) (half (n := 8192) g 1) d b := funext fun j =>
  congrArg (· * d j) (gate1 g b j)

/-- and the biases'. -/
theorem ref_s (g y d b) (j : S1x1024.Idx) : val_main_v40 (F := Ideal) g y d b j = ∑ k : Fin 8192, mergeG (n := 8192) (half (n := 8192) g 0) y d b (ix2 k (j 1)) := by
  have h : (j 0).val < 1 := (j 0).isLt
  refine (val_main_v40_apply g y d b j).trans ((val_main_v39_apply g y d b _).trans ((congrArg (· + _) Ideal.ofBits_zero_f32).trans ((zero_add _).trans ?_)))
  rw [ref_a]
  exact Finset.sum_congr rfl fun k _ => congrArg _ (ix2_ext rfl (by show (j 0).val * 1024 + (j 1).val = (j 1).val; omega))
theorem ref_t (g y d b) (j : S1x1024.Idx) : val_main_v35 (F := Ideal) g y d b j = ∑ k : Fin 8192, mergeG (n := 8192) (half (n := 8192) g 1) y d b (ix2 k (j 1)) := by
  have h : (j 0).val < 1 := (j 0).isLt
  refine (val_main_v35_apply g y d b j).trans ((val_main_v34_apply g y d b _).trans ((congrArg (· + _) Ideal.ofBits_zero_f32).trans ((zero_add _).trans ?_)))
  rw [ref_b]
  exact Finset.sum_congr rfl fun k _ => congrArg _ (ix2_ext rfl (by show (j 0).val * 1024 + (j 1).val = (j 1).val; omega))

theorem algebraic : Cert.algebraic_Kernel14Ideal_Reference14Ideal (hKernel14Ideal := Cert.Kernel14Ideal.Gen.facts)
    (hReference14Ideal := Cert.Reference14Ideal.Gen.facts) := by
  intro m g m' g' _ hagree
  refine ⟨_, _, _, _, _, (θ_run _ _ _).mono (fun r h c => ⟨(h c).1.trans (Cert.Kernel14Ideal.Prod.arr7 m c), (h c).2.1.trans (Cert.Kernel14Ideal.Prod.arr8 m c),
      (h c).2.2.1.trans (Cert.Kernel14Ideal.Prod.arr9 m c), (h c).2.2.2.1.trans (Cert.Kernel14Ideal.Prod.arr10 m c),
      (h c).2.2.2.2.1.trans (Cert.Kernel14Ideal.Prod.arr11 m c), (h c).2.2.2.2.2⟩)
    (Cert.Kernel14Ideal.Value.run_blocks m g), ?_⟩
  refine (θ_run _ _ _).mono (fun r h c => ⟨(h c).1.trans ((val_main_v42_eq _ _ _ _ _ _).trans ?_), (h c).2.1.trans ((val_main_v43_eq _ _ _).trans ?_),
      (h c).2.2.1.trans ((val_main_v44_eq _ _ _).trans ?_), (h c).2.2.2.1.trans ((val_main_v40_eq _ _ _ _).trans ?_),
      (h c).2.2.2.2.1.trans ((val_main_v35_eq _ _ _ _).trans ?_), (h c).2.2.2.2.2⟩)
    (Cert.Reference14Ideal.Value.run m' g') <;> obtain ⟨h0, h1, h2, h3, h4, h5⟩ := hagree c
  · rw [h0, h1, h2, h3, h4, h5]; exact ref_g _ _ _ _ _ _
  · rw [h0, h3, h4]; exact ref_y _ _ _
  · rw [h0, h3, h5]; exact ref_z _ _ _
  · rw [h0, h1, h3, h4]; exact funext (ref_s _ _ _ _)
  · rw [h0, h2, h3, h5]; exact funext (ref_t _ _ _ _)

end Cert.Prod.MergeBwd

end
-- ==== Proof.lean ====
/-
  The five claims on each of fourteen programs: the gated mixture's gradient, eleven with the products of the step, and two gates' gradients. A kernel
  and its idealised form are run by their frames, a reference by its chain of operations; both end with the same real arrays,
  the gated mixture's at finite arguments (`Cert.Meet.algebraic`), the others' at any.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Loops
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Loops
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Loops
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Loops
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gmlp.Frame
public import proofs.«01_k».proof.Proof.GmlpBits.Frame
public import proofs.«01_k».proof.Proof.Gmlp.Meet
public import proofs.«01_k».proof.Proof.Prod.DwDown
public import proofs.«01_k».proof.Proof.Prod.Grads
public import proofs.«01_k».proof.Proof.Prod.Forward
public import proofs.«01_k».proof.Proof.Prod.DwUp
public import proofs.«01_k».proof.Proof.Prod.DwIn
public import proofs.«01_k».proof.Proof.Prod.DHn
public import proofs.«01_k».proof.Proof.Prod.DwXbc
public import proofs.«01_k».proof.Proof.Prod.FfnDown
public import proofs.«01_k».proof.Proof.Prod.DwProjB
public import proofs.«01_k».proof.Proof.Prod.DwOut
public import proofs.«01_k».proof.Proof.Prod.DwProjA
public import proofs.«01_k».proof.Proof.Prod.FfnAct
public import proofs.«01_k».proof.Proof.Prod.MergeBwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Meet.preFacts,
    fun m g _ => Cert.Kernel.Gmlp.quiet m g,
    fun m g _ => Cert.KernelIdeal.Gmlp.quiet m g,
    fun m g _ => Cert.KernelIdeal.Gmlp.quiet m g,
    fun m g _ => Cert.Meet.quiet_ref m g,
    fun m g _ => Cert.Meet.quiet_ref m g,
    fun m g _ => Cert.Kernel2.Gen.frame m g,
    fun m g _ => Cert.Kernel2Ideal.Gen.frame m g,
    Cert.Prod.DwDown.quiet_ref,
    fun m g _ => Cert.Kernel3.Gen.frame m g,
    fun m g _ => Cert.Kernel3Ideal.Gen.frame m g,
    Cert.Prod.Grads.quiet_ref,
    fun m g _ => Cert.Kernel4.Gen.frame m g,
    fun m g _ => Cert.Kernel4Ideal.Gen.frame m g,
    Cert.Prod.Forward.quiet_ref,
    fun m g _ => Cert.Kernel5.Gen.frame m g,
    fun m g _ => Cert.Kernel5Ideal.Gen.frame m g,
    Cert.Prod.DwUp.quiet_ref,
    fun m g _ => Cert.Kernel6.Gen.frame m g,
    fun m g _ => Cert.Kernel6Ideal.Gen.frame m g,
    Cert.Prod.DwIn.quiet_ref,
    fun m g _ => Cert.Kernel7.Gen.frame m g,
    fun m g _ => Cert.Kernel7Ideal.Gen.frame m g,
    Cert.Prod.DHn.quiet_ref,
    fun m g _ => Cert.Kernel8.Gen.frame m g,
    fun m g _ => Cert.Kernel8Ideal.Gen.frame m g,
    Cert.Prod.DwXbc.quiet_ref,
    fun m g _ => Cert.Kernel9.Gen.frame m g,
    fun m g _ => Cert.Kernel9Ideal.Gen.frame m g,
    Cert.Prod.FfnDown.quiet_ref,
    fun m g _ => Cert.Kernel10.Gen.frame m g,
    fun m g _ => Cert.Kernel10Ideal.Gen.frame m g,
    Cert.Prod.DwProjB.quiet_ref,
    fun m g _ => Cert.Kernel11.Gen.frame m g,
    fun m g _ => Cert.Kernel11Ideal.Gen.frame m g,
    Cert.Prod.DwOut.quiet_ref,
    fun m g _ => Cert.Kernel12.Gen.frame m g,
    fun m g _ => Cert.Kernel12Ideal.Gen.frame m g,
    Cert.Prod.DwProjA.quiet_ref,
    fun m g _ => Cert.Kernel13.Gen.frame m g,
    fun m g _ => Cert.Kernel13Ideal.Gen.frame m g,
    Cert.Prod.FfnAct.quiet_ref,
    fun m g _ => Cert.Kernel14.Gen.frame m g,
    fun m g _ => Cert.Kernel14Ideal.Gen.frame m g,
    Cert.Prod.MergeBwd.quiet_ref,
    ⟨IdealRules.named_const.statement Cert.KernelIdeal.κ "gelu_a" .f32 0x3D372713#32 ((8943 / 200000 : ℝ) : EReal) rfl,
      IdealRules.named_const.statement Cert.KernelIdeal.κ "three_gelu_a" .f32 0x3E095D4F#32 ((26829 / 200000 : ℝ) : EReal) rfl⟩,
    Cert.Meet.algebraic,
    trivial, Cert.Prod.DwDown.algebraic,
    trivial, Cert.Prod.Grads.algebraic,
    trivial, Cert.Prod.Forward.algebraic,
    trivial, Cert.Prod.DwUp.algebraic,
    trivial, Cert.Prod.DwIn.algebraic,
    trivial, Cert.Prod.DHn.algebraic,
    trivial, Cert.Prod.DwXbc.algebraic,
    trivial, Cert.Prod.FfnDown.algebraic,
    trivial, Cert.Prod.DwProjB.algebraic,
    trivial, Cert.Prod.DwOut.algebraic,
    trivial, Cert.Prod.DwProjA.algebraic,
    trivial, Cert.Prod.FfnAct.algebraic,
    trivial, Cert.Prod.MergeBwd.algebraic⟩

end Cert.Proof

end
